-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextIdeal_finite_inputs [hPre_finite_inputs : Cert.Pre_finite_inputs.Facts] (m : (ℓ : Loc Cert.ContextIdeal.nD Cert.ContextIdeal.τ Cert.ContextIdeal.sig) → Buf (Elt Ideal) ℓ) : Prop :=
  ∀ c : Dev Cert.ContextIdeal.nD,
    (Cert.Pre_finite_inputs.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6))) = (fun _ => 1#1)

def Pre_ContextReferenceIdeal (m : (ℓ : Loc Cert.ContextReferenceIdeal.nD Cert.ContextReferenceIdeal.τ Cert.ContextReferenceIdeal.sig) → Buf (Elt Ideal) ℓ) : Prop :=
  True

def Pre_ContextReferenceIdeal_finite_inputs [hPre_finite_inputs : Cert.Pre_finite_inputs.Facts] (m : (ℓ : Loc Cert.ContextReferenceIdeal.nD Cert.ContextReferenceIdeal.τ Cert.ContextReferenceIdeal.sig) → Buf (Elt Ideal) ℓ) : Prop :=
  ∀ c : Dev Cert.ContextReferenceIdeal.nD,
    (Cert.Pre_finite_inputs.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5)) (m ((c.tc : Thread Cert.ContextReferenceIdeal.nD Cert.ContextReferenceIdeal.τ).loc Cert.ContextReferenceIdeal.main_arg6))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite_router [hPre_finite_router : Cert.Pre_finite_router.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite_router.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2)) (m ((c.tc : Thread Cert.RouterReferenceIdeal.nD Cert.RouterReferenceIdeal.τ).loc Cert.RouterReferenceIdeal.main_arg3)) (m ((c.tc : Thread Cert.RouterReferenceIdeal.nD Cert.RouterReferenceIdeal.τ).loc Cert.RouterReferenceIdeal.main_arg4)) (m ((c.tc : Thread Cert.RouterReferenceIdeal.nD Cert.RouterReferenceIdeal.τ).loc Cert.RouterReferenceIdeal.main_arg5))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4)
      ∧ r.2.mem ((c.tc : Thread Cert.Context.nD Cert.Context.τ).loc Cert.Context.main_arg5) = m ((c.tc : Thread Cert.Context.nD Cert.Context.τ).loc Cert.Context.main_arg5)
      ∧ r.2.mem ((c.tc : Thread Cert.Context.nD Cert.Context.τ).loc Cert.Context.main_arg6) = m ((c.tc : Thread Cert.Context.nD Cert.Context.τ).loc Cert.Context.main_arg6))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6))
      ∧ r.2.sem = fun _ => 0)

def quiescent_ContextIdeal_pre_finite_inputs [hContextIdeal : Cert.ContextIdeal.Facts] [hPre_finite_inputs : Cert.Pre_finite_inputs.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal_finite_inputs m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6))
      ∧ r.2.sem = fun _ => 0)

def quiescent_ContextReferenceIdeal [hContextReferenceIdeal : Cert.ContextReferenceIdeal.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3)
      ∧ r.2.mem ((c.tc : Thread Cert.ContextReferenceIdeal.nD Cert.ContextReferenceIdeal.τ).loc Cert.ContextReferenceIdeal.main_arg4) = m ((c.tc : Thread Cert.ContextReferenceIdeal.nD Cert.ContextReferenceIdeal.τ).loc Cert.ContextReferenceIdeal.main_arg4)
      ∧ r.2.mem ((c.tc : Thread Cert.ContextReferenceIdeal.nD Cert.ContextReferenceIdeal.τ).loc Cert.ContextReferenceIdeal.main_arg5) = m ((c.tc : Thread Cert.ContextReferenceIdeal.nD Cert.ContextReferenceIdeal.τ).loc Cert.ContextReferenceIdeal.main_arg5)
      ∧ r.2.mem ((c.tc : Thread Cert.ContextReferenceIdeal.nD Cert.ContextReferenceIdeal.τ).loc Cert.ContextReferenceIdeal.main_arg6) = m ((c.tc : Thread Cert.ContextReferenceIdeal.nD Cert.ContextReferenceIdeal.τ).loc Cert.ContextReferenceIdeal.main_arg6))
      ∧ r.2.sem = fun _ => 0)

def quiescent_ContextReferenceIdeal_pre_finite_inputs [hContextReferenceIdeal : Cert.ContextReferenceIdeal.Facts] [hPre_finite_inputs : Cert.Pre_finite_inputs.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal_finite_inputs m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3)
      ∧ r.2.mem ((c.tc : Thread Cert.ContextReferenceIdeal.nD Cert.ContextReferenceIdeal.τ).loc Cert.ContextReferenceIdeal.main_arg4) = m ((c.tc : Thread Cert.ContextReferenceIdeal.nD Cert.ContextReferenceIdeal.τ).loc Cert.ContextReferenceIdeal.main_arg4)
      ∧ r.2.mem ((c.tc : Thread Cert.ContextReferenceIdeal.nD Cert.ContextReferenceIdeal.τ).loc Cert.ContextReferenceIdeal.main_arg5) = m ((c.tc : Thread Cert.ContextReferenceIdeal.nD Cert.ContextReferenceIdeal.τ).loc Cert.ContextReferenceIdeal.main_arg5)
      ∧ r.2.mem ((c.tc : Thread Cert.ContextReferenceIdeal.nD Cert.ContextReferenceIdeal.τ).loc Cert.ContextReferenceIdeal.main_arg6) = m ((c.tc : Thread Cert.ContextReferenceIdeal.nD Cert.ContextReferenceIdeal.τ).loc Cert.ContextReferenceIdeal.main_arg6))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5))
      ∧ r.2.sem = fun _ => 0)

def quiescent_RouterReferenceIdeal_pre_finite_router [hRouterReferenceIdeal : Cert.RouterReferenceIdeal.Facts] [hPre_finite_router : Cert.Pre_finite_router.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite_router m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Context_ContextIdeal : Prop :=
  True

def algebraic_ContextIdeal_ContextReferenceIdeal_pre_finite_inputs [hContextIdeal : Cert.ContextIdeal.Facts] [hContextReferenceIdeal : Cert.ContextReferenceIdeal.Facts] [hPre_finite_inputs : Cert.Pre_finite_inputs.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextReferenceIdeal.nD Cert.ContextReferenceIdeal.τ Cert.ContextReferenceIdeal.sig) → Buf (Elt Ideal) ℓ) (g' : Dev Cert.ContextReferenceIdeal.nD → PrngReg), Pre_ContextIdeal_finite_inputs m →
    (∀ c : Dev Cert.ContextIdeal.nD,
      m' ((c.tc : Thread Cert.ContextReferenceIdeal.nD Cert.ContextReferenceIdeal.τ).loc Cert.ContextReferenceIdeal.main_arg0) = m ((c.tc : Thread Cert.ContextIdeal.nD Cert.ContextIdeal.τ).loc Cert.ContextIdeal.main_arg0)
      ∧ m' ((c.tc : Thread Cert.ContextReferenceIdeal.nD Cert.ContextReferenceIdeal.τ).loc Cert.ContextReferenceIdeal.main_arg1) = m ((c.tc : Thread Cert.ContextIdeal.nD Cert.ContextIdeal.τ).loc Cert.ContextIdeal.main_arg1)
      ∧ m' ((c.tc : Thread Cert.ContextReferenceIdeal.nD Cert.ContextReferenceIdeal.τ).loc Cert.ContextReferenceIdeal.main_arg2) = m ((c.tc : Thread Cert.ContextIdeal.nD Cert.ContextIdeal.τ).loc Cert.ContextIdeal.main_arg2)
      ∧ m' ((c.tc : Thread Cert.ContextReferenceIdeal.nD Cert.ContextReferenceIdeal.τ).loc Cert.ContextReferenceIdeal.main_arg3) = m ((c.tc : Thread Cert.ContextIdeal.nD Cert.ContextIdeal.τ).loc Cert.ContextIdeal.main_arg3)
      ∧ m' ((c.tc : Thread Cert.ContextReferenceIdeal.nD Cert.ContextReferenceIdeal.τ).loc Cert.ContextReferenceIdeal.main_arg4) = m ((c.tc : Thread Cert.ContextIdeal.nD Cert.ContextIdeal.τ).loc Cert.ContextIdeal.main_arg4)
      ∧ m' ((c.tc : Thread Cert.ContextReferenceIdeal.nD Cert.ContextReferenceIdeal.τ).loc Cert.ContextReferenceIdeal.main_arg5) = m ((c.tc : Thread Cert.ContextIdeal.nD Cert.ContextIdeal.τ).loc Cert.ContextIdeal.main_arg5)
      ∧ m' ((c.tc : Thread Cert.ContextReferenceIdeal.nD Cert.ContextReferenceIdeal.τ).loc Cert.ContextReferenceIdeal.main_arg6) = m ((c.tc : Thread Cert.ContextIdeal.nD Cert.ContextIdeal.τ).loc Cert.ContextIdeal.main_arg6)) →
    ∃ (v0 : (c : Dev Cert.ContextIdeal.nD) → Buf (Elt Ideal) ((c.tc : Thread Cert.ContextIdeal.nD Cert.ContextIdeal.τ).loc Cert.ContextIdeal.main_v8)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v8) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
          ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
          ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6))
      ∧ θ_run (Cert.ContextReferenceIdeal.defs (F := Ideal)) (onTc (τ := Cert.ContextReferenceIdeal.τ) (Cert.ContextReferenceIdeal.main (F := Ideal))) ⟨m', fun _ => 0, g'⟩ (fun r => ∀ c : Dev Cert.ContextReferenceIdeal.nD,
          r.2.mem ((c.tc : Thread Cert.ContextReferenceIdeal.nD Cert.ContextReferenceIdeal.τ).loc Cert.ContextReferenceIdeal.main_v44) = v0 c
          ∧ r.2.mem ((c.tc : Thread Cert.ContextReferenceIdeal.nD Cert.ContextReferenceIdeal.τ).loc Cert.ContextReferenceIdeal.main_arg0) = m' ((c.tc : Thread Cert.ContextReferenceIdeal.nD Cert.ContextReferenceIdeal.τ).loc Cert.ContextReferenceIdeal.main_arg0)
          ∧ r.2.mem ((c.tc : Thread Cert.ContextReferenceIdeal.nD Cert.ContextReferenceIdeal.τ).loc Cert.ContextReferenceIdeal.main_arg1) = m' ((c.tc : Thread Cert.ContextReferenceIdeal.nD Cert.ContextReferenceIdeal.τ).loc Cert.ContextReferenceIdeal.main_arg1)
          ∧ r.2.mem ((c.tc : Thread Cert.ContextReferenceIdeal.nD Cert.ContextReferenceIdeal.τ).loc Cert.ContextReferenceIdeal.main_arg2) = m' ((c.tc : Thread Cert.ContextReferenceIdeal.nD Cert.ContextReferenceIdeal.τ).loc Cert.ContextReferenceIdeal.main_arg2)
          ∧ r.2.mem ((c.tc : Thread Cert.ContextReferenceIdeal.nD Cert.ContextReferenceIdeal.τ).loc Cert.ContextReferenceIdeal.main_arg3) = m' ((c.tc : Thread Cert.ContextReferenceIdeal.nD Cert.ContextReferenceIdeal.τ).loc Cert.ContextReferenceIdeal.main_arg3)
          ∧ r.2.mem ((c.tc : Thread Cert.ContextReferenceIdeal.nD Cert.ContextReferenceIdeal.τ).loc Cert.ContextReferenceIdeal.main_arg4) = m' ((c.tc : Thread Cert.ContextReferenceIdeal.nD Cert.ContextReferenceIdeal.τ).loc Cert.ContextReferenceIdeal.main_arg4)
          ∧ r.2.mem ((c.tc : Thread Cert.ContextReferenceIdeal.nD Cert.ContextReferenceIdeal.τ).loc Cert.ContextReferenceIdeal.main_arg5) = m' ((c.tc : Thread Cert.ContextReferenceIdeal.nD Cert.ContextReferenceIdeal.τ).loc Cert.ContextReferenceIdeal.main_arg5)
          ∧ r.2.mem ((c.tc : Thread Cert.ContextReferenceIdeal.nD Cert.ContextReferenceIdeal.τ).loc Cert.ContextReferenceIdeal.main_arg6) = m' ((c.tc : Thread Cert.ContextReferenceIdeal.nD Cert.ContextReferenceIdeal.τ).loc Cert.ContextReferenceIdeal.main_arg6))

def preserves_Router_RouterIdeal : Prop :=
  IdealRules.named_const.Statement Cert.RouterIdeal.κ "neg" .f32 0xFF61B1E6#32 ⊥

def algebraic_RouterIdeal_RouterReferenceIdeal_pre_finite_router [hRouterIdeal : Cert.RouterIdeal.Facts] [hRouterReferenceIdeal : Cert.RouterReferenceIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite_router m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)
      ∧ m' ((c.tc : Thread Cert.RouterReferenceIdeal.nD Cert.RouterReferenceIdeal.τ).loc Cert.RouterReferenceIdeal.main_arg5) = m ((c.tc : Thread Cert.RouterIdeal.nD Cert.RouterIdeal.τ).loc Cert.RouterIdeal.main_arg5)) →
    ∃ (v0 : (c : Dev Cert.RouterIdeal.nD) → Buf (Elt Ideal) ((c.tc : Thread Cert.RouterIdeal.nD Cert.RouterIdeal.τ).loc Cert.RouterIdeal.main_v5)) (v1 : (c : Dev Cert.RouterIdeal.nD) → Buf (Elt Ideal) ((c.tc : Thread Cert.RouterIdeal.nD Cert.RouterIdeal.τ).loc Cert.RouterIdeal.main_v6)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v5) = v0 c
          ∧ r.2.mem ((c.tc : Thread Cert.RouterIdeal.nD Cert.RouterIdeal.τ).loc Cert.RouterIdeal.main_v6) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_indices) = v0 c
          ∧ r.2.mem ((c.tc : Thread Cert.RouterReferenceIdeal.nD Cert.RouterReferenceIdeal.τ).loc Cert.RouterReferenceIdeal.main_v39) = v1 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4)
          ∧ r.2.mem ((c.tc : Thread Cert.RouterReferenceIdeal.nD Cert.RouterReferenceIdeal.τ).loc Cert.RouterReferenceIdeal.main_arg5) = m' ((c.tc : Thread Cert.RouterReferenceIdeal.nD Cert.RouterReferenceIdeal.τ).loc Cert.RouterReferenceIdeal.main_arg5))

def Claim : Prop :=
  ∃ (hKernel : Cert.Kernel.Facts) (hKernelIdeal : Cert.KernelIdeal.Facts) (hReferenceIdeal : Cert.ReferenceIdeal.Facts) (hContext : Cert.Context.Facts) (hContextIdeal : Cert.ContextIdeal.Facts) (hContextReferenceIdeal : Cert.ContextReferenceIdeal.Facts) (hRouter : Cert.Router.Facts) (hRouterIdeal : Cert.RouterIdeal.Facts) (hRouterReferenceIdeal : Cert.RouterReferenceIdeal.Facts) (hPre_idx_in_rows : Cert.Pre_idx_in_rows.Facts) (hPre_finite_inputs : Cert.Pre_finite_inputs.Facts) (hPre_finite_router : Cert.Pre_finite_router.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_Context (hContext := hContext)
    ∧ quiescent_ContextIdeal (hContextIdeal := hContextIdeal)
    ∧ quiescent_ContextIdeal_pre_finite_inputs (hContextIdeal := hContextIdeal) (hPre_finite_inputs := hPre_finite_inputs)
    ∧ quiescent_ContextReferenceIdeal (hContextReferenceIdeal := hContextReferenceIdeal)
    ∧ quiescent_ContextReferenceIdeal_pre_finite_inputs (hContextReferenceIdeal := hContextReferenceIdeal) (hPre_finite_inputs := hPre_finite_inputs)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RouterReferenceIdeal (hRouterReferenceIdeal := hRouterReferenceIdeal)
    ∧ quiescent_RouterReferenceIdeal_pre_finite_router (hRouterReferenceIdeal := hRouterReferenceIdeal) (hPre_finite_router := hPre_finite_router)
    ∧ preserves_Kernel_KernelIdeal
    ∧ algebraic_KernelIdeal_ReferenceIdeal (hKernelIdeal := hKernelIdeal) (hReferenceIdeal := hReferenceIdeal) (hPre_idx_in_rows := hPre_idx_in_rows)
    ∧ preserves_Context_ContextIdeal
    ∧ algebraic_ContextIdeal_ContextReferenceIdeal_pre_finite_inputs (hContextIdeal := hContextIdeal) (hContextReferenceIdeal := hContextReferenceIdeal) (hPre_finite_inputs := hPre_finite_inputs)
    ∧ preserves_Router_RouterIdeal
    ∧ algebraic_RouterIdeal_RouterReferenceIdeal_pre_finite_router (hRouterIdeal := hRouterIdeal) (hRouterReferenceIdeal := hRouterReferenceIdeal) (hPre_finite_router := hPre_finite_router)
-- ==== Pre_finite_inputs.lean ====
abbrev S1x2048x1024 : Shape := ⟨3, ![1, 2048, 1024]⟩
abbrev S1024x1024 : Shape := ⟨2, ![1024, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S1x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Pre_finite_router.lean ====
abbrev S1x2048x1024 : Shape := ⟨3, ![1, 2048, 1024]⟩
abbrev S16384x32 : Shape := ⟨2, ![16384, 32]⟩
abbrev S32x1024 : Shape := ⟨2, ![32, 1024]⟩
abbrev S2x2048 : Shape := ⟨2, ![2, 2048]⟩
abbrev S2 : Shape := ⟨1, ![2]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S32x1024 : S_.BroadcastsInDim S32x1024 (![] : Fin 0 → Fin S32x1024.rank)
  reducesTo_S32x1024_S_d0_1 : S32x1024.ReducesTo [0, 1] S_
  bcast_S_S2x2048 : S_.BroadcastsInDim S2x2048 (![] : Fin 0 → Fin S2x2048.rank)
  reducesTo_S2x2048_S_d0_1 : S2x2048.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2x2048 .f32) (main_arg5 : FVec F S2 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S2x2048 .f32 := Host.absf main_arg4
  let main_cst_6 : FVec F S_ .f32 := constant S_ .f32 0x7F800000#32
  let main_v20 : FVec F S2x2048 .f32 := broadcastInDim S2x2048 ![] bcast_S_S2x2048 main_cst_6
  let main_v21 : IVec S2x2048 1 := cmpf .olt main_v19 main_v20
  let main_c_7 : IVec S_ 1 := constantI S_ 1 1#1
  let main_v22 : IVec S_ 1 := (fun x v => Host.reduce IntOp.andi x v reducesTo_S2x2048_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S1x2048x1024 .f32) (main_arg1 : FVec F S1x2048x1024 .f32) (main_arg2 : FVec F S16384x32 .f32) (main_arg3 : FVec F S32x1024 .f32) (main_arg4 : FVec F S2x2048 .f32) (main_arg5 : FVec F S2 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x2048x1024 .f32 := Host.absf main_arg1
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_c_1 : IVec S_ 1 := constantI S_ 1 1#1
  let main_v7 : IVec S_ 1 := (fun x v => Host.reduce IntOp.andi x v reducesTo_S1x2048x1024_S_d0_1_2 h_S_) main_v6 main_c_1
  let main_v8 : IVec S_ 1 := andi main_v3 main_v7
  let main_v9 : FVec F S16384x32 .f32 := Host.absf main_arg2
  let main_cst_2 : FVec F S_ .f32 := constant S_ .f32 0x7F800000#32
  let main_v10 : FVec F S16384x32 .f32 := broadcastInDim S16384x32 ![] bcast_S_S16384x32 main_cst_2
  let main_v11 : IVec S16384x32 1 := cmpf .olt main_v9 main_v10
  let main_c_3 : IVec S_ 1 := constantI S_ 1 1#1
  let main_v12 : IVec S_ 1 := (fun x v => Host.reduce IntOp.andi x v reducesTo_S16384x32_S_d0_1 h_S_) main_v11 main_c_3
  let main_v13 : IVec S_ 1 := andi main_v8 main_v12
  let main_v14 : FVec F S32x1024 .f32 := Host.absf main_arg3
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg4 main_arg5 main_v13 main_v16
-- ==== Pre_idx_in_rows.lean ====
abbrev S16384x32 : Shape := ⟨2, ![16384, 32]⟩
abbrev S32x1024 : Shape := ⟨2, ![32, 1024]⟩
abbrev S2048x16 : Shape := ⟨2, ![2048, 16]⟩
abbrev S_ : Shape := ⟨0, ![]⟩

class Facts : Prop where
  bcast_S_S2048x16 : S_.BroadcastsInDim S2048x16 (![] : Fin 0 → Fin S2048x16.rank)

variable [Facts]

def fn {F : FTy → Type} [FloatOps F] (main_arg0 : FVec F S16384x32 .f32) (main_arg1 : FVec F S32x1024 .f32) (main_arg2 : IVec S2048x16 32) : IVec S2048x16 1 :=
  let main_c : IVec S_ 32 := constantI S_ 32 0#32
  let main_v0 : IVec S2048x16 32 := broadcastInDim S2048x16 ![] bcast_S_S2048x16 main_c
  let main_v1 : IVec S2048x16 1 := cmpi .sge main_arg2 main_v0
  let main_c_0 : IVec S_ 32 := constantI S_ 32 16384#32
  let main_v2 : IVec S2048x16 32 := broadcastInDim S2048x16 ![] bcast_S_S2048x16 main_c_0
  let main_v3 : IVec S2048x16 1 := cmpi .slt main_arg2 main_v2
  let main_v4 : IVec S2048x16 1 := andi main_v1 main_v3
  main_v4
-- ==== Kernel.lean ====
abbrev S16384x32 : Shape := ⟨2, ![16384, 32]⟩
abbrev S32x1024 : Shape := ⟨2, ![32, 1024]⟩
abbrev S2048x16 : Shape := ⟨2, ![2048, 16]⟩
abbrev S32768 : Shape := ⟨1, ![32768]⟩
abbrev S_ : Shape := ⟨0, ![]⟩
abbrev S16384x128 : Shape := ⟨2, ![16384, 128]⟩
abbrev S128x1024 : Shape := ⟨2, ![128, 1024]⟩
abbrev S32768x128 : Shape := ⟨2, ![32768, 128]⟩
abbrev S128 : Shape := ⟨1, ![128]⟩
abbrev S128x128 : Shape := ⟨2, ![128, 128]⟩
abbrev S32768x1024 : Shape := ⟨2, ![32768, 1024]⟩
abbrev S4096x128 : Shape := ⟨2, ![4096, 128]⟩
abbrev S4096x1024 : Shape := ⟨2, ![4096, 1024]⟩
abbrev S1x2048x16x1024 : Shape := ⟨4, ![1, 2048, 16, 1024]⟩

abbrev nBuf : Table → Nat
  | .hbm => 13
  | .local .tc .vmem => 5
  | .local .scVector .vmem => 2
  | _ => 0

abbrev bufTy : (tb : Table) → Fin (nBuf tb) → BufTy
  | .hbm, ⟨0, _⟩ => ⟨S16384x32, .f32⟩
  | .hbm, ⟨1, _⟩ => ⟨S32x1024, .f32⟩
  | .hbm, ⟨2, _⟩ => ⟨S2048x16, .i32⟩
  | .hbm, ⟨3, _⟩ => ⟨S32768, .i32⟩
  | .hbm, ⟨4, _⟩ => ⟨S_, .i32⟩
  | .hbm, ⟨5, _⟩ => ⟨S_, .f32⟩
  | .hbm, ⟨6, _⟩ => ⟨S16384x128, .f32⟩
  | .hbm, ⟨7, _⟩ => ⟨S_, .i32⟩
  | .hbm, ⟨8, _⟩ => ⟨S_, .f32⟩
  | .hbm, ⟨9, _⟩ => ⟨S128x1024, .f32⟩
  | .hbm, ⟨10, _⟩ => ⟨S32768x128, .f32⟩
  | .hbm, ⟨11, _⟩ => ⟨S32768x1024, .f32⟩
  | .hbm, ⟨12, _⟩ => ⟨S1x2048x16x1024, .f32⟩
  | .local .tc .vmem, ⟨0, _⟩ => ⟨S4096x128, .f32⟩
  | .local .tc .vmem, ⟨1, _⟩ => ⟨S4096x128, .f32⟩
  | .local .tc .vmem, ⟨2, _⟩ => ⟨S128x1024, .f32⟩
  | .local .tc .vmem, ⟨3, _⟩ => ⟨S4096x1024, .f32⟩
  | .local .tc .vmem, ⟨4, _⟩ => ⟨S4096x1024, .f32⟩
  | .local .scVector .vmem, ⟨0, _⟩ => ⟨S128, .i32⟩
  | .local .scVector .vmem, ⟨1, _⟩ => ⟨S128x128, .f32⟩
  | _, _ => ⟨S16384x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v1_scv : Ref sig .scVector := ⟨.hbm, 6, rfl⟩
abbrev main_v0_scv : Ref sig .scVector := ⟨.hbm, 3, rfl⟩
abbrev main_v3_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  let c0_i32_32_r1 : BitVec 32 := 0#32
  ![v3.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x32 : Shape := ⟨2, ![16384, 32]⟩
abbrev S32x1024 : Shape := ⟨2, ![32, 1024]⟩
abbrev S2048x16 : Shape := ⟨2, ![2048, 16]⟩
abbrev S16384x1024 : Shape := ⟨2, ![16384, 1024]⟩
abbrev S_ : Shape := ⟨0, ![]⟩
abbrev S2048x16x1 : Shape := ⟨3, ![2048, 16, 1]⟩
abbrev S2048x16x1024 : Shape := ⟨3, ![2048, 16, 1024]⟩
abbrev S1x2048x16x1024 : Shape := ⟨4, ![1, 2048, 16, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S32x1024, .f32⟩
  | .hbm, ⟨2, _⟩ => ⟨S2048x16, .i32⟩
  | .hbm, ⟨3, _⟩ => ⟨S16384x1024, .f32⟩
  | .hbm, ⟨4, _⟩ => ⟨S_, .i32⟩
  | .hbm, ⟨5, _⟩ => ⟨S2048x16, .i32⟩
  | .hbm, ⟨6, _⟩ => ⟨S2048x16, .i1⟩
  | .hbm, ⟨7, _⟩ => ⟨S_, .i32⟩
  | .hbm, ⟨8, _⟩ => ⟨S2048x16, .i32⟩
  | .hbm, ⟨9, _⟩ => ⟨S2048x16, .i32⟩
  | .hbm, ⟨10, _⟩ => ⟨S2048x16, .i32⟩
  | .hbm, ⟨11, _⟩ => ⟨S2048x16x1, .i32⟩
  | .hbm, ⟨12, _⟩ => ⟨S2048x16x1024, .f32⟩
  | .hbm, ⟨13, _⟩ => ⟨S1x2048x16x1024, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Context.lean ====
abbrev S1x2048x1024 : Shape := ⟨3, ![1, 2048, 1024]⟩
abbrev S1024x1024 : Shape := ⟨2, ![1024, 1024]⟩
abbrev S1024 : Shape := ⟨1, ![1024]⟩
abbrev S2048x1024 : Shape := ⟨2, ![2048, 1024]⟩
abbrev S16x1x64 : Shape := ⟨3, ![16, 1, 64]⟩
abbrev S16x2048x64 : Shape := ⟨3, ![16, 2048, 64]⟩
abbrev S512x1024 : Shape := ⟨2, ![512, 1024]⟩
abbrev S64x1024 : Shape := ⟨2, ![64, 1024]⟩
abbrev S1x1x64 : Shape := ⟨3, ![1, 1, 64]⟩
abbrev S1x512x64 : Shape := ⟨3, ![1, 512, 64]⟩
abbrev S512x64 : Shape := ⟨2, ![512, 64]⟩
abbrev S1x64 : Shape := ⟨2, ![1, 64]⟩
abbrev S1x2048x64 : Shape := ⟨3, ![1, 2048, 64]⟩
abbrev S2048x64 : Shape := ⟨2, ![2048, 64]⟩
abbrev S512x2048 : Shape := ⟨2, ![512, 2048]⟩
abbrev S512x1 : Shape := ⟨2, ![512, 1]⟩
abbrev S512 : Shape := ⟨1, ![512]⟩
abbrev S1024x64 : Shape := ⟨2, ![1024, 64]⟩
abbrev S2048x16x64 : Shape := ⟨3, ![2048, 16, 64]⟩

abbrev nBuf : Space → Nat
  | .hbm => 18
  | .vmem => 28
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2048x1024, .f32⟩
  | .hbm, ⟨8, _⟩ => ⟨S16x1x64, .f32⟩
  | .hbm, ⟨9, _⟩ => ⟨S16x1x64, .f32⟩
  | .hbm, ⟨10, _⟩ => ⟨S16x1x64, .f32⟩
  | .hbm, ⟨11, _⟩ => ⟨S16x2048x64, .f32⟩
  | .hbm, ⟨12, _⟩ => ⟨S16x2048x64, .f32⟩
  | .hbm, ⟨13, _⟩ => ⟨S16x2048x64, .f32⟩
  | .hbm, ⟨14, _⟩ => ⟨S16x2048x64, .f32⟩
  | .hbm, ⟨15, _⟩ => ⟨S2048x16x64, .f32⟩
  | .hbm, ⟨16, _⟩ => ⟨S2048x1024, .f32⟩
  | .hbm, ⟨17, _⟩ => ⟨S1x2048x1024, .f32⟩
  | .local _ .vmem, ⟨0, _⟩ => ⟨S512x1024, .f32⟩
  | .local _ .vmem, ⟨1, _⟩ => ⟨S512x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x512x64, .f32⟩
  | .local _ .vmem, ⟨15, _⟩ => ⟨S1x512x64, .f32⟩
  | .local _ .vmem, ⟨16, _⟩ => ⟨S1x512x64, .f32⟩
  | .local _ .vmem, ⟨17, _⟩ => ⟨S1x512x64, .f32⟩
  | .local _ .vmem, ⟨18, _⟩ => ⟨S1x512x64, .f32⟩
  | .local _ .vmem, ⟨19, _⟩ => ⟨S1x512x64, .f32⟩
  | .local _ .vmem, ⟨20, _⟩ => ⟨S1x512x64, .f32⟩
  | .local _ .vmem, ⟨21, _⟩ => ⟨S1x512x64, .f32⟩
  | .local _ .vmem, ⟨22, _⟩ => ⟨S1x2048x64, .f32⟩
  | .local _ .vmem, ⟨23, _⟩ => ⟨S1x2048x64, .f32⟩
  | .local _ .vmem, ⟨24, _⟩ => ⟨S1x2048x64, .f32⟩
  | .local _ .vmem, ⟨25, _⟩ => ⟨S1x2048x64, .f32⟩
  | .local _ .vmem, ⟨26, _⟩ => ⟨S1x512x64, .f32⟩
  | .local _ .vmem, ⟨27, _⟩ => ⟨S1x512x64, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ContextReferenceIdeal.lean ====
abbrev S1x2048x1024 : Shape := ⟨3, ![1, 2048, 1024]⟩
abbrev S1024x1024 : Shape := ⟨2, ![1024, 1024]⟩
abbrev S1024 : Shape := ⟨1, ![1024]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1x16x64x2048 : Shape := ⟨4, ![1, 16, 64, 2048]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1x2048x1024, .f32⟩
  | .hbm, ⟨9, _⟩ => ⟨S1x1x1024, .f32⟩
  | .hbm, ⟨10, _⟩ => ⟨S1x2048x1024, .f32⟩
  | .hbm, ⟨11, _⟩ => ⟨S1x2048x1024, .f32⟩
  | .hbm, ⟨12, _⟩ => ⟨S1x2048x16x64, .f32⟩
  | .hbm, ⟨13, _⟩ => ⟨S1x16x2048x64, .f32⟩
  | .hbm, ⟨14, _⟩ => ⟨S1024x1024, .f32⟩
  | .hbm, ⟨15, _⟩ => ⟨S1x2048x1024, .f32⟩
  | .hbm, ⟨16, _⟩ => ⟨S1x1x1024, .f32⟩
  | .hbm, ⟨17, _⟩ => ⟨S1x2048x1024, .f32⟩
  | .hbm, ⟨18, _⟩ => ⟨S1x2048x1024, .f32⟩
  | .hbm, ⟨19, _⟩ => ⟨S1x2048x16x64, .f32⟩
  | .hbm, ⟨20, _⟩ => ⟨S1x16x2048x64, .f32⟩
  | .hbm, ⟨21, _⟩ => ⟨S1024x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1x2048x16x64, .f32⟩
  | .hbm, ⟨27, _⟩ => ⟨S1x16x2048x64, .f32⟩
  | .hbm, ⟨28, _⟩ => ⟨S1x16x64x2048, .f32⟩
  | .hbm, ⟨29, _⟩ => ⟨S16x2048x64, .f32⟩
  | .hbm, ⟨30, _⟩ => ⟨S16x64x2048, .f32⟩
  | .hbm, ⟨31, _⟩ => ⟨S16x2048x2048, .f32⟩
  | .hbm, ⟨32, _⟩ => ⟨S1x16x2048x2048, .f32⟩
  | .hbm, ⟨33, _⟩ => ⟨S_, .f32⟩
  | .hbm, ⟨34, _⟩ => ⟨S1x16x2048x2048, .f32⟩
  | .hbm, ⟨35, _⟩ => ⟨S1x16x2048x2048, .f32⟩
  | .hbm, ⟨36, _⟩ => ⟨S_, .f32⟩
  | .hbm, ⟨37, _⟩ => ⟨S1x16x2048, .f32⟩
  | .hbm, ⟨38, _⟩ => ⟨S_, .f32⟩
  | .hbm, ⟨39, _⟩ => ⟨S1x16x2048, .f32⟩
  | .hbm, ⟨40, _⟩ => ⟨S1x16x2048, .f32⟩
  | .hbm, ⟨41, _⟩ => ⟨S1x16x2048x1, .f32⟩
  | .hbm, ⟨42, _⟩ => ⟨S1x16x2048x2048, .f32⟩
  | .hbm, ⟨43, _⟩ => ⟨S1x16x2048x2048, .f32⟩
  | .hbm, ⟨44, _⟩ => ⟨S1x16x2048x2048, .f32⟩
  | .hbm, ⟨45, _⟩ => ⟨S_, .f32⟩
  | .hbm, ⟨46, _⟩ => ⟨S1x16x2048, .f32⟩
  | .hbm, ⟨47, _⟩ => ⟨S1x16x2048x1, .f32⟩
  | .hbm, ⟨48, _⟩ => ⟨S1x16x2048x2048, .f32⟩
  | .hbm, ⟨49, _⟩ => ⟨S1x16x2048x2048, .f32⟩
  | .hbm, ⟨50, _⟩ => ⟨S16x2048x2048, .f32⟩
  | .hbm, ⟨51, _⟩ => ⟨S16x2048x64, .f32⟩
  | .hbm, ⟨52, _⟩ => ⟨S16x2048x64, .f32⟩
  | .hbm, ⟨53, _⟩ => ⟨S1x16x2048x64, .f32⟩
  | .hbm, ⟨54, _⟩ => ⟨S1x2048x16x64, .f32⟩
  | .hbm, ⟨55, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Router.lean ====
abbrev S1x2048x1024 : Shape := ⟨3, ![1, 2048, 1024]⟩
abbrev S16384x32 : Shape := ⟨2, ![16384, 32]⟩
abbrev S32x1024 : Shape := ⟨2, ![32, 1024]⟩
abbrev S2x2048 : Shape := ⟨2, ![2, 2048]⟩
abbrev S2 : Shape := ⟨1, ![2]⟩
abbrev S16384x1024 : Shape := ⟨2, ![16384, 1024]⟩
abbrev S2048x32 : Shape := ⟨2, ![2048, 32]⟩
abbrev S2048x1024 : Shape := ⟨2, ![2048, 1024]⟩
abbrev S1x2 : Shape := ⟨2, ![1, 2]⟩
abbrev S2048x16 : Shape := ⟨2, ![2048, 16]⟩
abbrev S128x1024 : Shape := ⟨2, ![128, 1024]⟩
abbrev S128x16 : Shape := ⟨2, ![128, 16]⟩
abbrev S8x128x2048 : Shape := ⟨3, ![8, 128, 2048]⟩
abbrev S128x2048 : Shape := ⟨2, ![128, 2048]⟩
abbrev S128x2 : Shape := ⟨2, ![128, 2]⟩
abbrev S128 : Shape := ⟨1, ![128]⟩
abbrev S128x1 : Shape := ⟨2, ![128, 1]⟩
abbrev S1x128x2048 : Shape := ⟨3, ![1, 128, 2048]⟩
abbrev S8x128 : Shape := ⟨2, ![8, 128]⟩
abbrev S1x128x1 : Shape := ⟨3, ![1, 128, 1]⟩
abbrev S1x2048x16 : Shape := ⟨3, ![1, 2048, 16]⟩

abbrev nBuf : Space → Nat
  | .hbm => 14
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S16384x32, .f32⟩
  | .hbm, ⟨3, _⟩ => ⟨S32x1024, .f32⟩
  | .hbm, ⟨4, _⟩ => ⟨S2x2048, .f32⟩
  | .hbm, ⟨5, _⟩ => ⟨S2, .f32⟩
  | .hbm, ⟨6, _⟩ => ⟨S16384x1024, .f32⟩
  | .hbm, ⟨7, _⟩ => ⟨S2048x1024, .f32⟩
  | .hbm, ⟨8, _⟩ => ⟨S2048x1024, .f32⟩
  | .hbm, ⟨9, _⟩ => ⟨S1x2, .f32⟩
  | .hbm, ⟨10, _⟩ => ⟨S2048x16, .i32⟩
  | .hbm, ⟨11, _⟩ => ⟨S2048x16, .f32⟩
  | .hbm, ⟨12, _⟩ => ⟨S1x2048x16, .i32⟩
  | .hbm, ⟨13, _⟩ => ⟨S1x2048x16, .f32⟩
  | .local _ .vmem, ⟨0, _⟩ => ⟨S2048x32, .f32⟩
  | .local _ .vmem, ⟨1, _⟩ => ⟨S2048x32, .f32⟩
  | .local _ .vmem, ⟨2, _⟩ => ⟨S32x1024, .f32⟩
  | .local _ .vmem, ⟨3, _⟩ => ⟨S2048x1024, .f32⟩
  | .local _ .vmem, ⟨4, _⟩ => ⟨S2048x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S2x2048, .f32⟩
  | .local _ .vmem, ⟨10, _⟩ => ⟨S1x2, .f32⟩
  | .local _ .vmem, ⟨11, _⟩ => ⟨S2048x1024, .f32⟩
  | .local _ .vmem, ⟨12, _⟩ => ⟨S2048x1024, .f32⟩
  | .local _ .vmem, ⟨13, _⟩ => ⟨S128x16, .i32⟩
  | .local _ .vmem, ⟨14, _⟩ => ⟨S128x16, .i32⟩
  | .local _ .vmem, ⟨15, _⟩ => ⟨S128x16, .f32⟩
  | .local _ .vmem, ⟨16, _⟩ => ⟨S128x16, .f32⟩
  | .local _ .vmem, ⟨17, _⟩ => ⟨S8x128x2048, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_off1 (i : grid1.Coords) : Fin 3 → Nat :=
  let arg1 : BitVec 32 := BitVec.ofNat 32 (i 1).val
  let v31 : Index := Scalar.indexCast arg1
  let c0_13 : Index := 0#32
  let c0_14 : Index := 0#32
  ![v31.toNat, 0, 0]
def k1_cond1 (i : grid1.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32 : BitVec 32 := 0#32
  let v37 : BitVec 1 := Scalar.cmpi .ne v36 c0_i32
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S2x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S128x16 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S128x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== RouterIdeal.lean ====
variable {F : FTy → Type} [FloatOps F] [Named F]
def κ : String → Option EReal := fun
  | "neg" => some ⊥
  | _ => none
-- ==== RouterReferenceIdeal.lean ====
abbrev S1x2048x1024 : Shape := ⟨3, ![1, 2048, 1024]⟩
abbrev S16384x32 : Shape := ⟨2, ![16384, 32]⟩
abbrev S32x1024 : Shape := ⟨2, ![32, 1024]⟩
abbrev S2x2048 : Shape := ⟨2, ![2, 2048]⟩
abbrev S2 : Shape := ⟨1, ![2]⟩
abbrev S16384x1024 : Shape := ⟨2, ![16384, 1024]⟩
abbrev S1024x16384 : Shape := ⟨2, ![1024, 16384]⟩
abbrev S1x2048x16384 : Shape := ⟨3, ![1, 2048, 16384]⟩
abbrev S1x2048x2048 : Shape := ⟨3, ![1, 2048, 2048]⟩
abbrev S2048x2 : Shape := ⟨2, ![2048, 2]⟩
abbrev S1x2048x2 : Shape := ⟨3, ![1, 2048, 2]⟩
abbrev S1x1x2 : Shape := ⟨3, ![1, 1, 2]⟩
abbrev S_ : Shape := ⟨0, ![]⟩
abbrev S1x2048 : Shape := ⟨2, ![1, 2048]⟩
abbrev S1x2048x1 : Shape := ⟨3, ![1, 2048, 1]⟩
abbrev S1x2048x16 : Shape := ⟨3, ![1, 2048, 16]⟩

abbrev nBuf : Space → Nat
  | .hbm => 54
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S16384x32, .f32⟩
  | .hbm, ⟨3, _⟩ => ⟨S32x1024, .f32⟩
  | .hbm, ⟨4, _⟩ => ⟨S2x2048, .f32⟩
  | .hbm, ⟨5, _⟩ => ⟨S2, .f32⟩
  | .hbm, ⟨6, _⟩ => ⟨S16384x1024, .f32⟩
  | .hbm, ⟨7, _⟩ => ⟨S1024x16384, .f32⟩
  | .hbm, ⟨8, _⟩ => ⟨S1x2048x16384, .f32⟩
  | .hbm, ⟨9, _⟩ => ⟨S1024x16384, .f32⟩
  | .hbm, ⟨10, _⟩ => ⟨S1x2048x16384, .f32⟩
  | .hbm, ⟨11, _⟩ => ⟨S1x2048x2048, .f32⟩
  | .hbm, ⟨12, _⟩ => ⟨S2048x2, .f32⟩
  | .hbm, ⟨13, _⟩ => ⟨S1x2048x2, .f32⟩
  | .hbm, ⟨14, _⟩ => ⟨S1x1x2, .f32⟩
  | .hbm, ⟨15, _⟩ => ⟨S1x2048x2, .f32⟩
  | .hbm, ⟨16, _⟩ => ⟨S1x2048x2, .f32⟩
  | .hbm, ⟨17, _⟩ => ⟨S_, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S1x2048x1, .f32⟩
  | .hbm, ⟨23, _⟩ => ⟨S1x2048x2, .f32⟩
  | .hbm, ⟨24, _⟩ => ⟨S1x2048x2, .f32⟩
  | .hbm, ⟨25, _⟩ => ⟨S1x2048x2, .f32⟩
  | .hbm, ⟨26, _⟩ => ⟨S_, .f32⟩
  | .hbm, ⟨27, _⟩ => ⟨S1x2048, .f32⟩
  | .hbm, ⟨28, _⟩ => ⟨S1x2048x1, .f32⟩
  | .hbm, ⟨29, _⟩ => ⟨S1x2048x2, .f32⟩
  | .hbm, ⟨30, _⟩ => ⟨S1x2048x2, .f32⟩
  | .hbm, ⟨31, _⟩ => ⟨S1x2048x1, .f32⟩
  | .hbm, ⟨32, _⟩ => ⟨S1x2048x16384, .f32⟩
  | .hbm, ⟨33, _⟩ => ⟨S1x2048x16384, .f32⟩
  | .hbm, ⟨34, _⟩ => ⟨S1x2048x1, .f32⟩
  | .hbm, ⟨35, _⟩ => ⟨S1x2048x16384, .f32⟩
  | .hbm, ⟨36, _⟩ => ⟨S1x2048x16384, .f32⟩
  | .hbm, ⟨37, _⟩ => ⟨S1x2048x16384, .f32⟩
  | .hbm, ⟨38, _⟩ => ⟨S1x2048x16, .f32⟩
  | .hbm, ⟨39, _⟩ => ⟨S1x2048x16, .i32⟩
  | .hbm, ⟨40, _⟩ => ⟨S_, .f32⟩
  | .hbm, ⟨41, _⟩ => ⟨S1x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S1x2048x1, .f32⟩
  | .hbm, ⟨46, _⟩ => ⟨S1x2048x16, .f32⟩
  | .hbm, ⟨47, _⟩ => ⟨S1x2048x16, .f32⟩
  | .hbm, ⟨48, _⟩ => ⟨S1x2048x16, .f32⟩
  | .hbm, ⟨49, _⟩ => ⟨S_, .f32⟩
  | .hbm, ⟨50, _⟩ => ⟨S1x2048, .f32⟩
  | .hbm, ⟨51, _⟩ => ⟨S1x2048x1, .f32⟩
  | .hbm, ⟨52, _⟩ => ⟨S1x2048x16, .f32⟩
  | .hbm, ⟨53, _⟩ => ⟨S1x2048x16, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_values : Ref sig .tc := ⟨.hbm, 38, rfl⟩
abbrev main_indices : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.TileI.lean ====
/-
  One tile's task of the row gather. The task copies, eight times over, 128 row numbers from the index list
  into its index scratch, gathers the 128 rows of the padded table they name into its row scratch, and copies
  these rows to their place in the result. The theorem here says what the eight blocks of the result hold after.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_idx_in_rows

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The two handshake semaphores differ, and none of the handshake's cells is scoped. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: handshake rounds, pipeline rounds, transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers the gather touches -/

abbrev aLoc (d : Dev nD) : Loc nD τ sig := (SparseCore.T d).loc main_v1
abbrev iLoc (d : Dev nD) : Loc nD τ sig := (SparseCore.T d).loc main_v0
abbrev oLoc (d : Dev nD) : Loc nD τ sig := (SparseCore.T d).loc main_v3

local notation "aV" => (Memref.whole Cert.KernelIdeal.main_v1_scv : Memref Cert.KernelIdeal.sig Kind.scVector Space.hbm Cert.KernelIdeal.S16384x128 EltTy.f32)
local notation "iV" => (Memref.whole Cert.KernelIdeal.main_v0_scv : Memref Cert.KernelIdeal.sig Kind.scVector Space.hbm Cert.KernelIdeal.S32768 EltTy.i32)
local notation "oV" => (Memref.whole Cert.KernelIdeal.main_v3_scv : Memref Cert.KernelIdeal.sig Kind.scVector Space.hbm Cert.KernelIdeal.S32768x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

/-- A place of the index list from its number. -/
abbrev ixI (n : Fin 32768) : S32768.Idx := fun a => match a with | 0 => n
/-- A place of the padded table from its row and lane. -/
abbrev ixA (i : Fin 16384) (j : Fin 128) : S16384x128.Idx := fun a => match a with | 0 => i | 1 => j

/-- The row of the table that place `n` of the index list names (a row whatever word is there). -/
def rowAt (I : S32768.Idx → Elt F .i32) (n : Fin 32768) : Fin 16384 := ⟨(I (ixI n)).toNat % 16384, Nat.mod_lt _ (by decide)⟩

/-- What the gather leaves: row `n` of the result is the row of the table that place `n` of the list names. -/
def gathered (A : S16384x128.Idx → Elt F .f32) (I : S32768.Idx → Elt F .i32) : S32768x128.Idx → Elt F .f32 :=
  fun x => A (ixA (rowAt I (x 0)) (x 1))

variable [FloatOps F]

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- Chunk `r` of the task's 1024 places of the index list, and of the result. -/
abbrev iCh (L : grid0.Coords) (r : Fin 8) (c : BitVec 32) (h : ∀ a, k0_off1 L c a + S128.size a ≤ S32768.size a) : Memref sig .scVector .hbm S128 .i32 :=
  (iV).slice (Rect.unit (s := S32768) (k0_off1 L c) S128.size h) (fun _ => rfl)
abbrev oCh (L : grid0.Coords) (c : BitVec 32) (h : ∀ a, k0_off2 L c a + S128x128.size a ≤ S32768x128.size a) : Memref sig .scVector .hbm S128x128 .f32 :=
  (oV).slice (Rect.unit (s := S32768x128) (k0_off2 L c) S128x128.size h) (fun _ => rfl)
abbrev aAll : Memref sig .scVector .hbm S16384x128 .f32 :=
  (aV).slice (Rect.unit (s := S16384x128) ![0, 0] S16384x128.size inb_S16384x128_S16384x128_0_0) (fun _ => rfl)

abbrev oPt (d : Dev nD) (L : grid0.Coords) (c : BitVec 32) (h : ∀ a, k0_off2 L c a + S128x128.size a ≤ S32768x128.size a) (f : Buf (Elt F) (oLoc d)) : sProp 𝕄 :=
  (oCh L c h).view.loc (VT d L) ↦[(oCh L c h).view.set]{fullShare} f

/-- Every word of the index list names a row of the table. -/
def InRows (I : S32768.Idx → Elt F .i32) : Prop := ∀ j, (I j).toNat < 16384

/-- The offsets a gather reads are in range: what the copy landed in the index scratch is 128 places of the list. -/
theorem inb_of_rows (I : Buf (Elt F) (iLoc d)) (hI : InRows (F := F) I) (c : BitVec 32) (h) (fs : Buf (Elt F) ((VT d L).loc cc0_scratch0)) (pay : S128.Idx → Elt F .i32)
    (hpay : pay = ((iV).slice (Rect.unit (s := S32768) (k0_off1 L c) S128.size h) (fun _ => rfl)).view.read (Elt F) I) :
    ∀ x, ((sV).view.read (Elt F) (View.write (Elt F) (sV).view fs pay Finset.univ) x).toNat < S16384x128.size gathers_S16384x128_S128x128.axis := by
  subst hpay; intro x
  rw [View.write_whole_univ]
  simp only [Memref.view_whole, View.read_whole]
  rw [View.read_apply]
  exact hI _

omit [FloatOps F] in
/-- A place of the index scratch is its own number in reading order. -/
theorem scratch_place (n : Fin S128.numel) : (S128.rowMajor.symm n 0).val = n.val := by
  have h := congrArg Fin.val (S128.rowMajor.apply_symm_apply n)
  have e := Shape.rowMajorPi_succ_val S128.size (S128.rowMajor.symm n)
  have z : (Shape.rowMajorPi (fun a : Fin 0 => S128.size a.succ) (fun a => S128.rowMajor.symm n a.succ)).val = 0 := by
    have := (Shape.rowMajorPi (fun a : Fin 0 => S128.size a.succ) (fun a => S128.rowMajor.symm n a.succ)).isLt
    simp at this; omega
  have p : (∏ a : Fin 0, S128.size a.succ) = 1 := rfl
  rw [z, p, Nat.mul_one] at e
  exact e.symm.trans h

omit [FloatOps F] in
/-- The row scratch reads back the last rows written over the whole of it. -/
theorem read_top (t0 : Buf (Elt F) ((rV).view.loc (VT d L))) (w : S128x128.Idx → Elt F .f32) (Lr : List (View.Piece (Elt F) S128x128 .f32)) (y : S128x128.Idx) :
    View.read (Elt F) (rV).view ((rV).view.writes (Elt F) t0 (⟨Rect.whole S128x128, w⟩ :: Lr)) y = w y := by
  have ew : (Rect.whole S128x128).emb y = y := Rect.emb_whole_apply _ _
  have e := View.read_writes_cons_emb (rV).view t0 (Rect.whole S128x128) w Lr y
  exact (congrArg (View.read (Elt F) (rV).view ((rV).view.writes (Elt F) t0 (⟨Rect.whole S128x128, w⟩ :: Lr))) ew.symm).trans e

omit [FloatOps F] in
/-- A chunk's block of the result, written with the rows its 128 places of the list name, holds the gathered rows. -/
theorem chunk_val (A : Buf (Elt F) (aLoc d)) (I : Buf (Elt F) (iLoc d)) (hI : InRows (F := F) I) (r : Fin 8) (c : BitVec 32)
    (hc : c = BitVec.ofNat 32 (128 * r.val)) (h1) (h2) (o : Buf (Elt F) (oLoc d)) (t0 : Buf (Elt F) ((rV).view.loc (VT d L)))
    (fs : Buf (Elt F) ((VT d L).loc cc0_scratch0)) (pay : S128.Idx → Elt F .i32)
    (hpay : pay = ((iV).slice (Rect.unit (s := S32768) (k0_off1 L c) S128.size h1) (fun _ => rfl)).view.read (Elt F) I)
    (hg : S16384x128.Gathers 0 S128x128) (hn) (hin) (Lr : List (View.Piece (Elt F) S128x128 .f32)) :
    ∀ x ∈ (oCh L c h2).view.set, (oCh L c h2).view.writes (Elt F) o [⟨Rect.whole S128x128, ReadAs.same.apply (View.read (Elt F) (rV).view
        ((rV).view.writes (Elt F) t0 (⟨Rect.whole S128x128, SparseCore.gatherPayload hg (View.read (Elt F) (aAll).view A)
          (SparseCore.rows (View.read (Elt F) (sV).view (View.write (Elt F) (sV).view fs pay Finset.univ)) hn hin)⟩ :: Lr)))⟩] x = gathered A I x := by
  intro x hx
  obtain ⟨y, -, rfl⟩ := Finset.mem_map.mp hx
  have e1 := congrFun (View.read_writes_whole (oCh L c h2).view o (ReadAs.same.apply (View.read (Elt F) (rV).view
        ((rV).view.writes (Elt F) t0 (⟨Rect.whole S128x128, SparseCore.gatherPayload hg (View.read (Elt F) (aAll).view A)
          (SparseCore.rows (View.read (Elt F) (sV).view (View.write (Elt F) (sV).view fs pay Finset.univ)) hn hin)⟩ :: Lr))))) y
  rw [View.read_apply] at e1
  refine ((cast_eq _ _).symm.trans e1).trans ?_
  refine (read_top d L t0 _ Lr y).trans ?_
  subst hpay
  unfold SparseCore.gatherPayload gathered
  rw [View.read_apply]
  refine (cast_eq _ _).trans (congrArg A ?_)
  have hz := scratch_place ((y hg.axis').cast hn.symm)
  have hrow : ((SparseCore.rows (View.read (Elt F) (sV).view (View.write (Elt F) (sV).view fs
      (((iV).slice (Rect.unit (s := S32768) (k0_off1 L c) S128.size h1) (fun _ => rfl)).view.read (Elt F) I) Finset.univ)) hn hin (y hg.axis')).val)
      = (rowAt I ((oCh L c h2).view.emb y 0)).val := by
    unfold SparseCore.rows rowAt
    show BitVec.toNat _ = BitVec.toNat _ % 16384
    rw [Nat.mod_eq_of_lt (hI _), View.write_whole_univ]
    simp only [Memref.view_whole, View.read_whole]
    rw [View.read_apply]
    refine congrArg BitVec.toNat ((cast_eq _ _).trans (congrArg I ?_))
    funext a
    match a with
    | 0 =>
      apply Fin.ext
      show k0_off1 L c 0 + 1 * (S128.rowMajor.symm ((y hg.axis').cast hn.symm) 0).val = k0_off2 L c 0 + 1 * (y 0).val
      rw [hz, hc, k0_off1_eq, k0_off2_eq]
      rfl
  funext a
  match a with
  | 0 =>
    apply Fin.ext
    show 0 + 1 * (hg.idx _ y 0).val = _
    rw [Nat.zero_add, Nat.one_mul]
    exact (congrArg Fin.val (hg.idx_axis _ y)).trans hrow
  | 1 =>
    apply Fin.ext
    have ho : k0_off2 L c 1 = 0 := by rw [hc, k0_off2_eq]; rfl
    show 0 + 1 * (hg.idx _ y 1).val = k0_off2 L c 1 + 1 * (y 1).val
    rw [ho, Nat.zero_add, Nat.one_mul, Nat.zero_add, Nat.one_mul]
    rfl

/-- The task's seventeen cells at zero. -/
abbrev cells0 (d : Dev nD) (L : grid0.Coords) : sProp 𝕄 :=
  iprop(semVal (VT d L, SemLoc.dma cc0_scratch2.sem) 0 ∗ semVal (VT d L, SemLoc.dma cc0_scoped0.sem) 0 ∗ semVal (VT d L, SemLoc.dma cc0_scoped1.sem) 0
    ∗ semVal (VT d L, SemLoc.dma cc0_scoped2.sem) 0 ∗ semVal (VT d L, SemLoc.dma cc0_scoped3.sem) 0 ∗ semVal (VT d L, SemLoc.dma cc0_scoped4.sem) 0
    ∗ semVal (VT d L, SemLoc.dma cc0_scoped5.sem) 0 ∗ semVal (VT d L, SemLoc.dma cc0_scoped6.sem) 0 ∗ semVal (VT d L, SemLoc.dma cc0_scoped7.sem) 0
    ∗ semVal (VT d L, SemLoc.dma cc0_scoped8.sem) 0 ∗ semVal (VT d L, SemLoc.dma cc0_scoped9.sem) 0 ∗ semVal (VT d L, SemLoc.dma cc0_scoped10.sem) 0
    ∗ semVal (VT d L, SemLoc.dma cc0_scoped11.sem) 0 ∗ semVal (VT d L, SemLoc.dma cc0_scoped12.sem) 0 ∗ semVal (VT d L, SemLoc.dma cc0_scoped13.sem) 0
    ∗ semVal (VT d L, SemLoc.dma cc0_scoped14.sem) 0 ∗ semVal (VT d L, SemLoc.dma cc0_scoped15.sem) 0)

set_option maxHeartbeats 4000000 in
/-- The task's body run from its pieces, each in the body's own spelling. -/
theorem tile_run (A : Buf (Elt F) (aLoc d)) (I : Buf (Elt F) (iLoc d)) (hI : InRows (F := F) I) (qa qi : PosShare TreeShare)
    (O : CellTallies nD τ sig (HIx 1)) (W : Waits sig (HIx 1)) (o : Buf (Elt F) (oLoc d))
    (g0 : Buf (Elt F) ((sV).view.loc (VT d L))) (t0 : Buf (Elt F) ((rV).view.loc (VT d L))) :
    (iprop(Transfers.MayWaits (VT d L) (default : HIx 1) O
        ∗ ((aV).view.loc (VT d L) ↦{qa} A)
        ∗ ((iV).view.loc (VT d L) ↦{qi} I)
        ∗ oPt d L 0#32 (k0_off2_inb L 0) o
        ∗ oPt d L 128#32 (k0_off2_inb L 1) o
        ∗ oPt d L 256#32 (k0_off2_inb L 2) o
        ∗ oPt d L 384#32 (k0_off2_inb L 3) o
        ∗ oPt d L 512#32 (k0_off2_inb L 4) o
        ∗ oPt d L 640#32 (k0_off2_inb L 5) o
        ∗ oPt d L 768#32 (k0_off2_inb L 6) o
        ∗ oPt d L 896#32 (k0_off2_inb L 7) o
        ∗ ((sV).view.loc (VT d L) ↦{fullShare} g0)
        ∗ ((rV).view.loc (VT d L) ↦{fullShare} t0)
        ∗ cells0 d L
        ∗ owes (VT d L) O W) : sProp 𝕄)
      ⊢ wp frame (wpE (defs₀ (F := F)) 𝒱₀ (VT d L) none) Set.univ
          (cc0__sc_gather_body L aV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3
            cc0_scoped4 cc0_scoped5 cc0_scoped6 cc0_scoped7 cc0_scoped8 cc0_scoped9 cc0_scoped10 cc0_scoped11 cc0_scoped12
            cc0_scoped13 cc0_scoped14 cc0_scoped15)
          fun _ => iprop(((aV).view.loc (VT d L) ↦{qa} A)
        ∗ ((iV).view.loc (VT d L) ↦{qi} I)
        ∗ oPt d L 0#32 (k0_off2_inb L 0) (gathered A I)
        ∗ oPt d L 128#32 (k0_off2_inb L 1) (gathered A I)
        ∗ oPt d L 256#32 (k0_off2_inb L 2) (gathered A I)
        ∗ oPt d L 384#32 (k0_off2_inb L 3) (gathered A I)
        ∗ oPt d L 512#32 (k0_off2_inb L 4) (gathered A I)
        ∗ oPt d L 640#32 (k0_off2_inb L 5) (gathered A I)
        ∗ oPt d L 768#32 (k0_off2_inb L 6) (gathered A I)
        ∗ oPt d L 896#32 (k0_off2_inb L 7) (gathered A I)
        ∗ (∃ g, (sV).view.loc (VT d L) ↦{fullShare} g)
        ∗ (∃ g, (rV).view.loc (VT d L) ↦{fullShare} g)
        ∗ cells0 d L
        ∗ ∃ W', ⌜∀ p ∈ W', p ∈ W ∨ p.2 = none⌝ ∗ owes (VT d L) O W') := by
  iintro ⟨#Hmw, HA, HI, HO0, HO1, HO2, HO3, HO4, HO5, HO6, HO7, HG, HT, ⟨Hc, Hc0, Hc1, Hc2, Hc3, Hc4, Hc5, Hc6, Hc7, Hc8, Hc9, Hc10, Hc11, Hc12, Hc13, Hc14, Hc15⟩, HO⟩
  sl_unfold [cc0__sc_gather_body]
  sl_exec
  have hin0 := fun g => inb_of_rows d L I hI 0#32 (k0_off1_inb L 0) g (tile_run.sl.dma0 d L I) rfl
  sl_exec
  have hin1 := fun g => inb_of_rows d L I hI 128#32 (k0_off1_inb L 1) g (tile_run.sl.dma0_2 d L I) rfl
  sl_exec
  have hin2 := fun g => inb_of_rows d L I hI 256#32 (k0_off1_inb L 2) g (tile_run.sl.dma0_4 d L I) rfl
  sl_exec
  have hin3 := fun g => inb_of_rows d L I hI 384#32 (k0_off1_inb L 3) g (tile_run.sl.dma0_6 d L I) rfl
  sl_exec
  have hin4 := fun g => inb_of_rows d L I hI 512#32 (k0_off1_inb L 4) g (tile_run.sl.dma0_8 d L I) rfl
  sl_exec
  have hin5 := fun g => inb_of_rows d L I hI 640#32 (k0_off1_inb L 5) g (tile_run.sl.dma0_10 d L I) rfl
  sl_exec
  have hin6 := fun g => inb_of_rows d L I hI 768#32 (k0_off1_inb L 6) g (tile_run.sl.dma0_12 d L I) rfl
  sl_exec
  have hin7 := fun g => inb_of_rows d L I hI 896#32 (k0_off1_inb L 7) g (tile_run.sl.dma0_14 d L I) rfl
  sl_exec
  sl_step
  isplitl [HA]; · iexact HA
  isplitl [HI]; · iexact HI
  isplitl [HO0]
  · iapply (Entails.of_eq (pointsTo_congr (chunk_val d L A I hI 0 0#32 rfl (k0_off1_inb L 0) (k0_off2_inb L 0) o t0 _ _ rfl _ _ _ _))); iexact HO0
  isplitl [HO1]
  · iapply (Entails.of_eq (pointsTo_congr (chunk_val d L A I hI 1 128#32 rfl (k0_off1_inb L 1) (k0_off2_inb L 1) o t0 _ _ rfl _ _ _ _))); iexact HO1
  isplitl [HO2]
  · iapply (Entails.of_eq (pointsTo_congr (chunk_val d L A I hI 2 256#32 rfl (k0_off1_inb L 2) (k0_off2_inb L 2) o t0 _ _ rfl _ _ _ _))); iexact HO2
  isplitl [HO3]
  · iapply (Entails.of_eq (pointsTo_congr (chunk_val d L A I hI 3 384#32 rfl (k0_off1_inb L 3) (k0_off2_inb L 3) o t0 _ _ rfl _ _ _ _))); iexact HO3
  isplitl [HO4]
  · iapply (Entails.of_eq (pointsTo_congr (chunk_val d L A I hI 4 512#32 rfl (k0_off1_inb L 4) (k0_off2_inb L 4) o t0 _ _ rfl _ _ _ _))); iexact HO4
  isplitl [HO5]
  · iapply (Entails.of_eq (pointsTo_congr (chunk_val d L A I hI 5 640#32 rfl (k0_off1_inb L 5) (k0_off2_inb L 5) o t0 _ _ rfl _ _ _ _))); iexact HO5
  isplitl [HO6]
  · iapply (Entails.of_eq (pointsTo_congr (chunk_val d L A I hI 6 768#32 rfl (k0_off1_inb L 6) (k0_off2_inb L 6) o t0 _ _ rfl _ _ _ _))); iexact HO6
  isplitl [HO7]
  · iapply (Entails.of_eq (pointsTo_congr (chunk_val d L A I hI 7 896#32 rfl (k0_off1_inb L 7) (k0_off2_inb L 7) o t0 _ _ rfl _ _ _ _))); iexact HO7
  isplitl [HG]; · iexists _; iexact HG
  isplitl [HT]; · iexists _; iexact HT
  isplitl [Hc Hc0 Hc1 Hc2 Hc3 Hc4 Hc5 Hc6 Hc7 Hc8 Hc9 Hc10 Hc11 Hc12 Hc13 Hc14 Hc15]
  · isplitl [Hc]; · iexact Hc
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    iexact Hc15
  iexists _; isplitr
  swap; · iexact HO
  ipureintro; intro p hp
  iterate 24 (rcases Finset.mem_insert.mp hp with hp | hp; · exact .inr (hp ▸ rfl))
  exact .inl hp

end Tile

end Cert.Proof.KernelIdeal

end
-- ==== Proof.RegionI.lean ====
/-
  The expansion as one region of the program: eight grid points, each multiplying 4096 gathered rows by the
  padded second factor. Stated over any contents `V` of the buffers at the entry; the theorem `arr_out` says what
  the result array holds after the region, the definition `reg` is the region as the launch consumes it.
-/
module

public import proofs.«01_k».proof.Proof.TileI
public import Idealize.ShloMosaic.Lib.Pipeline.FrameBody
public import Idealize.ShloMosaic.Lib.Pipeline.ValueKit
public import Idealize.ShloMosaic.Lib.VecWindow

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The pipeline's rounds in the certificate's ghost state. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F) : Emb UP 𝕄).LandsIn (upEmb : UEmb _ 𝕄) := by unfold EP; infer_instance

/-! ## The body -/

/-- From the three staging buffers the body runs to its return, the first two as they were, the third at the
    product of what the first two read. -/
theorem expand_run (c : Dev nD) (i : grid1.Coords) (M0 : Memref sig .tc .vmem S4096x128 .f32) (h0 : M0.IsWhole)
    (M1 : Memref sig .tc .vmem S128x1024 .f32) (h1 : M1.IsWhole) (M2 : Memref sig .tc .vmem S4096x1024 .f32) (h2 : M2.IsWhole)
    (X0 : S4096x128.Idx → Elt F .f32) (X1 : S128x1024.Idx → Elt F .f32) (X2 : S4096x1024.Idx → Elt F .f32) (Q : PUnit → sProp 𝕄) :
    iprop(owns (c : Thread nD τ) M0 fullShare X0 ∗ owns (c : Thread nD τ) M1 fullShare X1 ∗ owns (c : Thread nD τ) M2 fullShare X2
        ∗ (iprop(owns (c : Thread nD τ) M0 fullShare X0 ∗ owns (c : Thread nD τ) M1 fullShare X1
            ∗ owns (c : Thread nD τ) M2 fullShare (k1_pay1 X0 X1)) -∗ Q ⟨⟩))
      ⊢ wp frame (wpE (defs₀ (F := F)) 𝒱₀ (c : Thread nD τ) none) Set.univ (cc1__expand_body i M0 h0 M1 h1 M2 h2) Q := by
  rw [cc1__expand_body_eq_skeleton]; unfold cc1__expand_body_skel
  unfold owns
  iintro ⟨⟨%f0, %e0, H0⟩, ⟨%f1, %e1, H1⟩, ⟨%f2, -, H2⟩, Hk⟩
  sl_exec
  sl_step
  iapply Hk
  isplitl [H0]
  · iexists f0; isplitr; · ipureintro; exact e0
    iexact H0
  isplitl [H1]
  · iexists f1; isplitr; · ipureintro; exact e1
    iexact H1
  iexists _; isplitr; swap; · iexact H2
  ipureintro
  rw [View.read_writes_full, View.readAt_full, View.readAt_full, e0, e1]

/-! ## The proof data -/

variable (V : (c : Dev nD) → (b : Ref sig .tc) → Buf (Elt F) ((c : Thread nD τ).loc b))

/-- The block of gathered rows fetched for point `t`, and the padded second factor. -/
abbrev stg0 (c : Dev nD) (t : Fin cfg1.N) : S4096x128.Idx → Elt F .f32 :=
  ((cfg1.win 0).blk t).view.read (Elt F) (V c main_v3)
abbrev stg1 (c : Dev nD) (t : Fin cfg1.N) : S128x1024.Idx → Elt F .f32 :=
  ((cfg1.win 1).blk t).view.read (Elt F) (V c main_v2)

/-- The invariant between the region's ends: the scoped buffers the pipeline does not stage. -/
abbrev Φc (c : Dev nD) : sProp 𝕄 := Pipeline.scopedRest (Ix := HIx 1) (Name := ℕ) (U := UU) (Lvl := ℕ) (Val := Elt F) spec1 c

/-- The proof data of the region entered at `V`: after the body at a point the two operands' buffers are as fetched
    and the result's holds their product; nothing is owed; the waits recorded are of levels the handshake allows. -/
def dat (c : Dev nD) : Dat τ (Elt F) (HIx 1) ℕ UU ℕ cfg1 c where
  A w := V c (Pipeline.arrRef spec1 w)
  after w t := match w with
    | ⟨0, _⟩ => stg0 V c t
    | ⟨1, _⟩ => stg1 V c t
    | ⟨2, _⟩ => k1_pay1 (stg0 V c t) (stg1 V c t)
  Φ _ := Φc c
  q _ := fullShare
  owed _ := 0
  recorded _ := {p | (K (F := F)).lev ((c : Thread nD τ), p.1) p.2 ≤ 8}

variable (adm : (p : Fin 1) → (pcfgs (F := F) p).Adm)

/-- The family over the one pipeline. -/
def pdats (p : Fin 1) (c : Dev nD) : Dat τ (Elt F) (HIx 1) ℕ UU ℕ (Pipeline.pin (pcfgs (F := F)) adm p) c := dat V c

theorem before_0 (c : Dev nD) (t : Fin cfg1.N) (d : (cfg1.win 0).block.Idx → Elt F (cfg1.win 0).elt) :
    (dat V c).before 0 t d = stg0 V c t :=
  (dat V c).before_in_eq_fetched 0 rfl (fun _ => rfl) (fun _ _ _ => rfl) (fun _ => rfl) t d

theorem before_1 (c : Dev nD) (t : Fin cfg1.N) (d : (cfg1.win 1).block.Idx → Elt F (cfg1.win 1).elt) :
    (dat V c).before 1 t d = stg1 V c t :=
  (dat V c).before_in_eq_fetched 1 rfl (fun _ => rfl) (fun _ _ _ => rfl) (fun _ => rfl) t d

/-- The body table's row at a point is the body. -/
theorem defs₀_row (t : Fin cfg1.N) : defs₀ (F := F) .tc cfg1.body (cfg1.bodyArgs t (cfg1.slots t)) = bodyAt1 t := by
  rfl

/-- The body at every point: from the operands' blocks staged to their product staged. -/
theorem body_obligation (c : Dev nD) : BodyObligation (dat V c) (defs₀ (F := F)) 𝒱₀ (none : HIx 1) Set.univ := fun t => by
  rw [bigSep_W1, bigSep_W1, defs₀_row]
  rw [show (dat V c).Φ t.castSucc = Φc c from rfl, show (dat V c).Φ t.succ = Φc c from rfl,
    show (dat V c).owesAt none t.succ = (dat V c).owesAt none t.castSucc from rfl]
  iintro ⟨HΦ, Howes, ⟨%d0, H0⟩, ⟨%d1, H1⟩, ⟨%d2, H2⟩⟩
  rw [before_0, before_1]
  iapply (expand_run c _ _ _ _ _ _ _ (stg0 V c t) (stg1 V c t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The result array -/

/-- The expansion of all 32768 rows: row `r` of the product of block `r / 4096`, at its place in the block. -/
def expanded (G : S32768x128.Idx → Elt F .f32) (B : S128x1024.Idx → Elt F .f32) : S32768x1024.Idx → Elt F .f32 := fun x =>
  k1_pay1 (fun y : S4096x128.Idx => G (fun a => match a with
      | ⟨0, _⟩ => ⟨(x 0).val / 4096 * 4096 + (y 0).val, by
          have h1 : (x 0).val < 32768 := (x 0).isLt
          have h2 : (y 0).val < 4096 := (y 0).isLt
          show _ < 32768; omega⟩
      | ⟨1, _⟩ => ⟨(y 1).val, (y 1).isLt⟩)) B
    (fun a => match a with
      | ⟨0, _⟩ => ⟨(x 0).val % 4096, Nat.mod_lt _ (by decide)⟩
      | ⟨1, _⟩ => ⟨(x 1).val, (x 1).isLt⟩)

theorem idx0 : ∀ t : Fin cfg1.N, win1_0.index t = ![t.val, 0] := (by decide +kernel : ∀ t : Fin grid1.N, _)
theorem idx1 : ∀ t : Fin cfg1.N, win1_1.index t = ![0, 0] := (by decide +kernel : ∀ t : Fin grid1.N, _)
theorem idx2 : ∀ t : Fin cfg1.N, win1_2.index t = ![t.val, 0] := (by decide +kernel : ∀ t : Fin grid1.N, _)

theorem stg1_eq (c : Dev nD) (t : Fin cfg1.N) : stg1 V c t = V c main_v2 := by
  blk_ext! [stg1, idx1 t]

/-- After the region the result array holds the expansion of what the two operands held at its entry. -/
theorem arr_out (c : Dev nD) : (dat V c).arrAt 2 cfg1.N = expanded (V c main_v3) (V c main_v2) := by
  refine (dat V c).arrAt_eq_of_covers 2 _ (by decide +kernel) fun t hf y => ?_
  blk_simp
  rw [show (dat V c).after 2 t = k1_pay1 (stg0 V c t) (stg1 V c t) from rfl, stg1_eq]
  have hy0 : (y 0).val < 4096 := (y 0).isLt
  have e0 : ((((cfg1.win 2).blk t).view.emb y 0 : Fin _) : ℕ) = t.val * 4096 + (y 0).val := by blk_simp [idx2 t]
  have e1 : ((((cfg1.win 2).blk t).view.emb y 1 : Fin _) : ℕ) = (y 1).val := by blk_simp [idx2 t]
  unfold expanded
  refine congr (congrArg (fun X => k1_pay1 X (V c main_v2)) (funext fun z => ?_)) (funext fun a => ?_)
  · have hz0 : (z 0).val < 4096 := (z 0).isLt
    have e2 : ((((cfg1.win 0).blk t).view.emb z 0 : Fin _) : ℕ) = t.val * 4096 + (z 0).val := by blk_simp [idx0 t]
    have e3 : ((((cfg1.win 0).blk t).view.emb z 1 : Fin _) : ℕ) = (z 1).val := by blk_simp [idx0 t]
    refine congrArg (V c main_v3) (funext fun a => Fin.ext ?_)
    match a with
    | ⟨0, _⟩ =>
      refine e2.trans ?_
      show _ = (((cfg1.win 2).blk t).view.emb y 0 : Fin _).val / 4096 * 4096 + (z 0).val
      rw [e0]; omega
    | ⟨1, _⟩ => exact e3
  · match a with
    | ⟨0, _⟩ =>
      refine Fin.ext ?_
      show (y 0).val = (((cfg1.win 2).blk t).view.emb y 0 : Fin _).val % 4096
      rw [e0]; omega
    | ⟨1, _⟩ => exact Fin.ext e1.symm

/-! ## The region -/

variable (Vp : (c : Dev nD) → (b : Ref sig .tc) → Buf (Elt F) ((c : Thread nD τ).loc b))

/-- What the core owes between the regions' ends: nothing, with waits recorded at the handshake's first levels only. -/
def owesLow (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
/-- The region over the thread state "every unscoped buffer at `V c`, and the core's debts": entered by splitting
    the three arrays out, left with them put back at `Vp`. -/
def reg (hVp_out : ∀ c, Vp c main_v4 = expanded (V c main_v3) (V c main_v2))
    (hVp_ne : ∀ c (b : Ref sig .tc), b ≠ main_v4 → Vp c b = V c b) :
    Pipeline.RegionSeg (pcfgs (F := F)) adm (pdats V adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesLow c)
  post c := iprop(unscopedBufs c (Vp c) ∗ owesLow c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesLow
      icases HO with ⟨%W, %hW, HO⟩; iexists W; isplitr; · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v3 (by decide)).symm
        · exact ((pdats V adm 0 c).arrAt_in 1 rfl _).trans (hVp_ne c main_v2 (by decide)).symm
        · exact (arr_out V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin owesLow
    icases HO with ⟨%W, %hW, HO⟩; iexists W
    isplitr
    · ipureintro
      intro p hp
      rcases hW hp with h | ⟨w, s, h⟩
      · exact h
      · rw [h]; exact Nat.zero_le _
    iexact HO

end Cert.Proof.KernelIdeal

end
-- ==== Proof.LaunchI.lean ====
/-
  The gather as the launch consumes it: what the program hands each tile and takes back (a share of the padded
  table, a share of the index list, the tile's eight blocks of the result, which come back holding the gathered
  rows), the tile's obligation, and how a SparseCore's part splits over its sixteen tiles.
-/
module

public import proofs.«01_k».proof.Proof.RegionI

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aV" => (Memref.whole Cert.KernelIdeal.main_v1_scv : Memref Cert.KernelIdeal.sig Kind.scVector Space.hbm Cert.KernelIdeal.S16384x128 EltTy.f32)
local notation "iV" => (Memref.whole Cert.KernelIdeal.main_v0_scv : Memref Cert.KernelIdeal.sig Kind.scVector Space.hbm Cert.KernelIdeal.S32768 EltTy.i32)
local notation "oV" => (Memref.whole Cert.KernelIdeal.main_v3_scv : Memref Cert.KernelIdeal.sig Kind.scVector Space.hbm Cert.KernelIdeal.S32768x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

/-! ## Read shares: a share cut into `n + 1` -/

/-- Part `i` of a share cut into `n + 1`: its left half, or part `i - 1` of its right half cut into `n`. -/
def cut : (n : ℕ) → PosShare TreeShare → Fin (n + 1) → PosShare TreeShare
  | 0, q => fun _ => q
  | n + 1, q => Fin.cases q.left (cut n q.right)

/-- A points-to at a share is a points-to at each of the parts it is cut into. -/
theorem pointsTo_cut {ℓ : Loc nD τ sig} (f : Buf (Elt F) ℓ) : ∀ (n : ℕ) (q : PosShare TreeShare),
    (ℓ ↦{q} f : sProp 𝕄) = bigSep Finset.univ fun i : Fin (n + 1) => ℓ ↦{cut n q i} f
  | 0, q => (bigSep_univ_of_subsingleton (0 : Fin 1) (Φ := fun i : Fin (0 + 1) => (ℓ ↦{cut 0 q i} f : sProp 𝕄))).symm
  | n + 1, q => by
    rw [BI.Entails.antisymm (pointsTo_share (PosShare.mem_left_op_right q)).1 (pointsTo_share (PosShare.mem_left_op_right q)).2,
      pointsTo_cut f n q.right]
    conv_rhs => rw [Fin.univ_succ, Finset.cons_eq_insert, SparseCore.bigSep_insert' (by simp), bigSep_map]
    rfl

/-! ## The blocks of the result -/

theorem oDiv : 256 ∣ S32768x128.size 0 := ⟨128, rfl⟩

/-- Block `k` of 128 rows of the result, as a set of places. -/
def rowsOf (k : Fin 256) : Finset S32768x128.Idx := (Rect.part (s := S32768x128) (a₀ := 0) oDiv k).set

/-- The number of the block that tile `i` of SparseCore `c` writes in its turn `r`. -/
def blkNo (c : Fin 2) (i : Fin 16) (r : Fin 8) : Fin 256 := ⟨8 * (2 * i.val + c.val) + r.val, by omega⟩

abbrev coreOf (L : grid0.Coords) : Fin 2 := ⟨(L 0).val, (L 0).isLt⟩
abbrev subOf (L : grid0.Coords) : Fin 16 := ⟨(L 1).val, (L 1).isLt⟩

theorem set_oCh (L : grid0.Coords) (r : Fin 8) (h) :
    (oCh L (BitVec.ofNat 32 (128 * r.val)) h).view.set = rowsOf (blkNo (coreOf L) (subOf L) r) := by
  show ((View.whole (main_v3_scv : Ref sig .scVector)).slice (Rect.unit (s := S32768x128) (k0_off2 L (BitVec.ofNat 32 (128 * r.val))) S128x128.size h)).set = _
  rw [View.set_slice]
  refine Finset.map_refl.trans ?_
  unfold rowsOf
  refine congrArg (fun r : Rect S32768x128 => r.set) ?_
  unfold Rect.part Rect.block
  congr 1 <;> funext a
  · rw [k0_off2_eq]
    match a with
    | 0 => simp [Shape.partIx, Shape.partSize, blkNo]; omega
    | 1 => simp [Shape.partIx, Shape.partSize]
  · match a with
    | 0 => simp [Shape.partSize]
    | 1 => simp [Shape.partSize]

/-- The points-to on block `(c, i, r)` of the result. -/
abbrev oBlk (d : Dev nD) (f : Buf (Elt F) (oLoc d)) (c : Fin 2) (i : Fin 16) (r : Fin 8) : sProp 𝕄 :=
  oLoc d ↦[rowsOf (blkNo c i r)]{fullShare} f

theorem oPt_eq (d : Dev nD) (L : grid0.Coords) (r : Fin 8) (h) (f : Buf (Elt F) (oLoc d)) :
    oPt d L (BitVec.ofNat 32 (128 * r.val)) h f = oBlk d f (coreOf L) (subOf L) r := by
  unfold oPt oBlk
  rw [set_oCh]

theorem rows_disjoint : ∀ x ∈ (Finset.univ : Finset (Fin 2 × Fin 16 × Fin 8)), ∀ y ∈ (Finset.univ : Finset (Fin 2 × Fin 16 × Fin 8)), x ≠ y →
    Disjoint (rowsOf (blkNo x.1 x.2.1 x.2.2)) (rowsOf (blkNo y.1 y.2.1 y.2.2)) := by
  rintro ⟨c, i, r⟩ - ⟨c', i', r'⟩ - h
  refine Rect.part_disjoint oDiv fun e => h ?_
  have e' := congrArg Fin.val e
  simp only [blkNo] at e'
  refine Prod.ext (Fin.ext ?_) (Prod.ext (Fin.ext ?_) (Fin.ext ?_)) <;> simp only <;> omega

theorem rows_cover : (Finset.univ : Finset (Fin 2 × Fin 16 × Fin 8)).biUnion (fun x => rowsOf (blkNo x.1 x.2.1 x.2.2)) = Finset.univ := by
  refine Finset.eq_univ_iff_forall.mpr fun x => ?_
  have hx := (Finset.eq_univ_iff_forall.mp (Rect.biUnion_part (s := S32768x128) (a₀ := 0) oDiv)) x
  obtain ⟨k, -, hk⟩ := Finset.mem_biUnion.mp hx
  refine Finset.mem_biUnion.mpr ⟨(⟨k.val / 8 % 2, by omega⟩, ⟨k.val / 16, by omega⟩, ⟨k.val % 8, by omega⟩), Finset.mem_univ _, ?_⟩
  have e : blkNo ⟨k.val / 8 % 2, by omega⟩ ⟨k.val / 16, by omega⟩ ⟨k.val % 8, by omega⟩ = k := Fin.ext (by simp only [blkNo]; omega)
  show x ∈ rowsOf (blkNo _ _ _)
  rw [e]; exact hk

/-- The result whole is its 256 blocks, by SparseCore, tile and turn. -/
theorem oPts_blocks (d : Dev nD) (f : Buf (Elt F) (oLoc d)) :
    (oLoc d ↦{fullShare} f : sProp 𝕄)
      = bigSep Finset.univ fun c : Fin 2 => bigSep Finset.univ fun i : Fin 16 => bigSep Finset.univ fun r : Fin 8 => oBlk d f c i r := by
  have h := pointsTo_biUnion (Val := Elt F) (Ix := HIx 1) (Name := ℕ) (U := UU) (Lvl := ℕ) (q := fullShare) (f := f) Finset.univ (ℓ := oLoc d)
    (fun x : Fin 2 × Fin 16 × Fin 8 => rowsOf (blkNo x.1 x.2.1 x.2.2)) rows_disjoint
  rw [rows_cover, bigSep_univ_prod] at h
  refine h.trans (bigSep_congr fun c _ => ?_)
  rw [bigSep_univ_prod]

/-- Eight turns, listed. -/
theorem bigSep_turns (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [BI.bigSep_univ_eq_bigSepL [0, 1, 2, 3, 4, 5, 6, 7] (by decide) (by decide)]; rfl

/-! ## What the handshakes carry -/

variable (A : (d : Dev nD) → Buf (Elt F) (aLoc d)) (I : (d : Dev nD) → Buf (Elt F) (iLoc d)) (o : (d : Dev nD) → Buf (Elt F) (oLoc d))

/-- SparseCore `c`'s share of an array it reads, and its tile `i`'s. -/
abbrev coreSh (c : Fin 2) : PosShare TreeShare := cut 1 fullShare c
abbrev tileSh (c : Fin 2) (i : Fin 16) : PosShare TreeShare := cut 15 (coreSh c) i

/-- SparseCore `c`'s part: its share of the table and of the index list, its 128 blocks of the result at `f`. -/
abbrev corePart (d : Dev nD) (f : Buf (Elt F) (oLoc d)) (c : Fin 2) : sProp 𝕄 :=
  iprop((aLoc d ↦{coreSh c} A d) ∗ (iLoc d ↦{coreSh c} I d)
    ∗ bigSep Finset.univ fun i : Fin 16 => bigSep Finset.univ fun r : Fin 8 => oBlk d f c i r)
/-- Its tile `i`'s part. -/
abbrev tilePart (d : Dev nD) (f : Buf (Elt F) (oLoc d)) (c : Fin 2) (i : Fin 16) : sProp 𝕄 :=
  iprop((aLoc d ↦{tileSh c i} A d) ∗ (iLoc d ↦{tileSh c i} I d) ∗ bigSep Finset.univ fun r : Fin 8 => oBlk d f c i r)

variable [FloatOps F]

theorem nCore_zero : (K (F := F)).nCore 0 = 2 := rfl
theorem nSub_zero : (K (F := F)).nSub 0 = 16 := rfl

/-- The one call takes the parts with the result at `o` and brings them back with the result at the gathered rows. -/
def P : (K (F := F)).Pay (nD := nD) (Val := Elt F) (Name := ℕ) (U := UU) where
  st := fun q d c => match q with | 0 => corePart A I d (o d) (Fin.cast nCore_zero c)
  dn := fun q d c => match q with | 0 => corePart A I d (gathered (A d) (I d)) (Fin.cast nCore_zero c)
  go := fun q d c i => match q with | 0 => tilePart A I d (o d) (Fin.cast nCore_zero c) (Fin.cast nSub_zero i)
  td := fun q d c i => match q with | 0 => tilePart A I d (gathered (A d) (I d)) (Fin.cast nCore_zero c) (Fin.cast nSub_zero i)
  x := fun _ _ => iprop(emp)

instance P_storable : (P (F := F) A I o).IsStorable where
  st q d c := match q with
    | 0 => (inferInstance : BI.Storable (upEmb : UEmb _ 𝕄) (corePart A I d (o d) (Fin.cast nCore_zero c)))
  dn q d c := match q with
    | 0 => (inferInstance : BI.Storable (upEmb : UEmb _ 𝕄) (corePart A I d (gathered (A d) (I d)) (Fin.cast nCore_zero c)))
  go q d c i := match q with
    | 0 => (inferInstance : BI.Storable (upEmb : UEmb _ 𝕄) (tilePart A I d (o d) (Fin.cast nCore_zero c) (Fin.cast nSub_zero i)))
  td q d c i := match q with
    | 0 => (inferInstance : BI.Storable (upEmb : UEmb _ 𝕄) (tilePart A I d (gathered (A d) (I d)) (Fin.cast nCore_zero c) (Fin.cast nSub_zero i)))

/-! ## The task -/

section Tile

variable (d : Dev nD) (L : grid0.Coords)

/-- DMA cell `k` of a tile, one of the seventeen the task uses. -/
abbrev tcell (thr : Thread nD τ) (k : Fin 17) : GSem nD τ sig := (thr, .dma ⟨k.val, by have := k.isLt; show _ < 22; omega⟩)

omit [FloatOps F] in
/-- The tile's own cells at zero: the seventeen the task uses, and the rest. -/
theorem ownSems0_V :
    (ownSems0 (VT d L) : sProp 𝕄)
      = iprop(cells0 d L ∗ bigSep ((ownCells (VT d L)) \ Finset.univ.image (tcell (VT d L))) fun g => semVal g 0) := by
  unfold SparseCore.Cfg.ownSems0
  rw [SparseCore.bigSep_sdiff_split' (t := Finset.univ.image (tcell (VT d L)))
      (Finset.image_subset_iff.mpr fun k _ => mem_ownCells.mpr ⟨rfl, (show ∀ s : DmaSem sig, (SemLoc.dma s : SemLoc sig).isScoped .scVector = true by decide) _⟩),
    SparseCore.bigSep_image_of_injOn (fun a _ b _ h => by
      have := congrArg (fun g : GSem nD τ sig => g.2) h
      simp only [SemLoc.dma.injEq, Fin.mk.injEq] at this; exact Fin.ext this)]
  rw [BI.bigSep_univ_eq_bigSepL [0, 1, 2, 3, 4, 5, 6, 7, 8, 9, 10, 11, 12, 13, 14, 15, 16] (by decide) (by decide)]
  rfl

omit [FloatOps F] in
/-- The tile's own buffers: the two scratch buffers, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The body of the task on tile `L`, as the program calls it. -/
abbrev tileProg : Prog (TpuEff nD τ sig (Elt F) Λ₀ (VT d L).2) PUnit :=
  cc0__sc_gather_body L aV (Memref.isWhole_whole _) iV (Memref.isWhole_whole _) oV (Memref.isWhole_whole _)
    sV (Memref.isWhole_whole _) rV (Memref.isWhole_whole _) cc0_scratch2 cc0_scoped0 cc0_scoped1 cc0_scoped2 cc0_scoped3
    cc0_scoped4 cc0_scoped5 cc0_scoped6 cc0_scoped7 cc0_scoped8 cc0_scoped9 cc0_scoped10 cc0_scoped11 cc0_scoped12
    cc0_scoped13 cc0_scoped14 cc0_scoped15

/-- The task from its part, its scratch and its cells: it returns its part with the gathered rows in its blocks. -/
theorem tile_body (hI : InRows (F := F) (I d)) (O : CellTallies nD τ sig (HIx 1)) (W : Waits sig (HIx 1)) (hO : ∀ g, O g none = 0) :
    iprop(levAts (K (F := F)).L (K (F := F)).lev ∗ emp ∗ tilePart A I d (o d) (coreOf L) (subOf L)
        ∗ scopedBufs (VT d L) ∗ scopedSems0 (VT d L) ∗ owes (VT d L) O W)
      ⊢ wp frame (wpE (defs₀ (F := F)) 𝒱₀ (VT d L) none) Set.univ (tileProg d L)
          fun _ => iprop(tilePart A I d (gathered (A d) (I d)) (coreOf L) (subOf L)
            ∗ scopedBufs (VT d L) ∗ scopedSems0 (VT d L)
            ∗ ∃ W', ⌜∀ p ∈ W', p ∈ W ∨ p.2 = none⌝ ∗ owes (VT d L) O W') := by
  rw [(K (F := F)).scopedBufs_V scFacts d (cV L) (jV L), SparseCore.Cfg.scopedSems0_V (Val := Elt F) d (cV L) (jV L), ownSems0_V, ownBufs_V]
  unfold tilePart
  rw [bigSep_turns, bigSep_turns]
  iintro ⟨#Hlv, -, ⟨HA, HI, HO0, HO1, HO2, HO3, HO4, HO5, HO6, HO7⟩, ⟨⟨%fs, Hs⟩, ⟨%fr, Hr⟩, Hbufs⟩, ⟨Hcells, Hsems⟩, HO⟩
  ihave Hmw := (show levAts (K (F := F)).L (K (F := F)).lev ⊢ Transfers.MayWaits (VT d L) (default : HIx 1) O from
    (K (F := F)).mayWaits_none (thr := VT d L) hO) $$ Hlv
  have h0 : ∀ f, oPt (F := F) d L 0#32 (k0_off2_inb L 0) f = oBlk d f (coreOf L) (subOf L) 0 := oPt_eq d L 0 _
  have h1 : ∀ f, oPt (F := F) d L 128#32 (k0_off2_inb L 1) f = oBlk d f (coreOf L) (subOf L) 1 := oPt_eq d L 1 _
  have h2 : ∀ f, oPt (F := F) d L 256#32 (k0_off2_inb L 2) f = oBlk d f (coreOf L) (subOf L) 2 := oPt_eq d L 2 _
  have h3 : ∀ f, oPt (F := F) d L 384#32 (k0_off2_inb L 3) f = oBlk d f (coreOf L) (subOf L) 3 := oPt_eq d L 3 _
  have h4 : ∀ f, oPt (F := F) d L 512#32 (k0_off2_inb L 4) f = oBlk d f (coreOf L) (subOf L) 4 := oPt_eq d L 4 _
  have h5 : ∀ f, oPt (F := F) d L 640#32 (k0_off2_inb L 5) f = oBlk d f (coreOf L) (subOf L) 5 := oPt_eq d L 5 _
  have h6 : ∀ f, oPt (F := F) d L 768#32 (k0_off2_inb L 6) f = oBlk d f (coreOf L) (subOf L) 6 := oPt_eq d L 6 _
  have h7 : ∀ f, oPt (F := F) d L 896#32 (k0_off2_inb L 7) f = oBlk d f (coreOf L) (subOf L) 7 := oPt_eq d L 7 _
  have hrun := tile_run d L (A d) (I d) hI (tileSh (coreOf L) (subOf L)) (tileSh (coreOf L) (subOf L)) O W (o d) fs fr
  simp only [h0, h1, h2, h3, h4, h5, h6, h7] at hrun
  iapply (wp_wand_r frame _ _)
  isplitl [HA HI HO0 HO1 HO2 HO3 HO4 HO5 HO6 HO7 Hs Hr Hcells HO]
  · iapply hrun
    isplitr; · iexact Hmw
    isplitl [HA]; · iexact HA
    isplitl [HI]; · iexact HI
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [Hs]; · iexact Hs
    isplitl [Hr]; · iexact Hr
    isplitl [Hcells]; · iexact Hcells
    iexact HO
  iintro %u ⟨HA, HI, HO0, HO1, HO2, HO3, HO4, HO5, HO6, HO7, Hs, Hr, Hcells, HO⟩
  isplitl [HA HI HO0 HO1 HO2 HO3 HO4 HO5 HO6 HO7]
  · isplitl [HA]; · iexact HA
    isplitl [HI]; · iexact HI
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    iexact HO7
  isplitl [Hs Hr Hbufs]
  · isplitl [Hs]; · iexact Hs
    isplitl [Hr]; · iexact Hr
    iexact Hbufs
  isplitl [Hcells Hsems]
  · isplitl [Hcells]; · iexact Hcells
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileProg d (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets the launch's obligation, the words of the index list being row numbers. -/
theorem tileObl (hI : ∀ d, InRows (F := F) (I d)) : (K (F := F)).TileObl (D (F := F)) 𝒱 (P A I o) v₀ 0 := by
  intro d c i O W hO _ _
  simp only [show (P A I o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector d]; simp only [SparseCore.onTile, hci, and_self, ↓reduceDIte]
  exact (tile_body A I o d (coordsV ⟨_, hci.1⟩ ⟨_, hci.2⟩) (hI d) O W hO).trans (wp_mono frame _ _ fun _ => obl_post)

end Tile

/-! ## The split over the tiles -/

omit [FloatOps F] in
theorem corePart_eq (d : Dev nD) (f : Buf (Elt F) (oLoc d)) (c : Fin 2) :
    (corePart A I d f c : sProp 𝕄) = bigSep Finset.univ fun i : Fin 16 => tilePart A I d f c i := by
  unfold corePart tilePart
  rw [bigSep_sep', bigSep_sep', ← pointsTo_cut (A d) 15 (coreSh c), ← pointsTo_cut (I d) 15 (coreSh c)]

theorem vecSplit : (K (F := F)).VecSplit' (P A I o) 0 := by
  intro d c
  show corePart A I d (o d) (Fin.cast nCore_zero c) ⊢ |={Set.univ}=> iprop(
      (bigSep Finset.univ fun i : Fin ((K (F := F)).nSub 0) => tilePart A I d (o d) (Fin.cast nCore_zero c) (Fin.cast nSub_zero i))
      ∗ ((bigSep Finset.univ fun i : Fin ((K (F := F)).nSub 0) => tilePart A I d (gathered (A d) (I d)) (Fin.cast nCore_zero c) (Fin.cast nSub_zero i))
          -∗ corePart A I d (gathered (A d) (I d)) (Fin.cast nCore_zero c)))
  rw [corePart_eq, corePart_eq]
  iintro H; imodintro
  isplitl [H]; · iexact H
  iintro H; iexact H

/-- The table, the index list and the result, whole, are the two SparseCores' parts. -/
theorem parts_eq (d : Dev nD) (f : Buf (Elt F) (oLoc d)) :
    (iprop((aLoc d ↦{fullShare} A d) ∗ (iLoc d ↦{fullShare} I d) ∗ (oLoc d ↦{fullShare} f)) : sProp 𝕄)
      = bigSep Finset.univ fun c : Fin ((K (F := F)).nCore 0) => corePart A I d f (Fin.cast nCore_zero c) := by
  rw [pointsTo_cut (A d) 1 fullShare, pointsTo_cut (I d) 1 fullShare, oPts_blocks]
  show _ = bigSep Finset.univ fun c : Fin 2 => corePart A I d f c
  unfold corePart
  rw [bigSep_sep', bigSep_sep']

end Cert.Proof.KernelIdeal

end
-- ==== Proof.MainI.lean ====
/-
  The program on the TensorCore: the host operations before the call, the gather on the SparseCores, the expansion,
  and the reshape of the result. `run_main` is the whole launch: the arguments end as they were, every semaphore
  counter at zero, and the result array holds `final`.
-/
module

public import proofs.«01_k».proof.Proof.LaunchI
public import proofs.«01_k».proof.Defs

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.ShloMosaic.StableHlo (held seq after)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host operations and the contents they leave -/

/-- A buffer of the TensorCore as a buffer of its device. -/
abbrev dv (b : Ref sig .tc) : DevRef τ sig := Proc.devRef .tc b

/-- The operations before the call: the index list laid flat, both factors padded with zeros to 128. -/
def hostOps : List (HloOp τ sig (Elt F)) :=
  [StableHlo.reshape main_arg2 main_v0 (rfl : (.i32 : EltTy) = .i32) shapeCasts_S2048x16_S32768,
   StableHlo.nullary main_c (constantI S_ 32 0#32),
   StableHlo.TRef.unary (.of main_c : StableHlo.TRef sig ⟨S_, .i32⟩) main_call0.v0 (sitofp .f32),
   StableHlo.TRef.binary (.of main_arg0 : StableHlo.TRef sig ⟨S16384x32, .f32⟩) main_call0.v0 main_call0.v1
     (fun x v => pad S16384x128 ![0, 0] ![0, 96] ![0, 0] x v pads_S16384x32_S16384x128_000_0960 h_S_),
   StableHlo.nullary main_c_0 (constantI S_ 32 0#32),
   StableHlo.TRef.unary (.of main_c_0 : StableHlo.TRef sig ⟨S_, .i32⟩) main_call1.v0 (sitofp .f32),
   StableHlo.TRef.binary (.of main_arg1 : StableHlo.TRef sig ⟨S32x1024, .f32⟩) main_call1.v0 main_call1.v1
     (fun x v => pad S128x1024 ![0, 0] ![96, 0] ![0, 0] x v pads_S32x1024_S128x1024_0960_000 h_S_)]

/-- The last operation: the rows regrouped as positions and choices. -/
abbrev lastOp : HloOp τ sig (Elt F) :=
  StableHlo.reshape main_v4 main_v5 (rfl : (.f32 : EltTy) = .f32) shapeCasts_S32768x1024_S1x2048x16x1024

/-- The padded first factor, the padded second factor, the flat index list, as functions of the arguments. -/
def padA (a : S16384x32.Idx → Elt F .f32) : S16384x128.Idx → Elt F .f32 :=
  pad S16384x128 ![0, 0] ![0, 96] ![0, 0] a (sitofp .f32 (constantI S_ 32 0#32)) pads_S16384x32_S16384x128_000_0960 h_S_
def padB (b : S32x1024.Idx → Elt F .f32) : S128x1024.Idx → Elt F .f32 :=
  pad S128x1024 ![0, 0] ![96, 0] ![0, 0] b (sitofp .f32 (constantI S_ 32 0#32)) pads_S32x1024_S128x1024_0960_000 h_S_
def flatI (t : S2048x16.Idx → Elt F .i32) : S32768.Idx → Elt F .i32 := shapeCast S32768 t shapeCasts_S2048x16_S32768

/-- What the program computes: the gathered rows of the padded first factor times the padded second factor, regrouped. -/
def final (a : S16384x32.Idx → Elt F .f32) (b : S32x1024.Idx → Elt F .f32) (t : S2048x16.Idx → Elt F .i32) :
    S1x2048x16x1024.Idx → Elt F .f32 :=
  shapeCast S1x2048x16x1024 (expanded (gathered (padA a) (flatI t)) (padB b)) shapeCasts_S32768x1024_S1x2048x16x1024

variable (m : (ℓ : Loc nD τ sig) → Buf (Elt F) ℓ) (ρ : Dev nD → PrngReg)

/-- The contents at the launch, before the call, after it, after the expansion, at the end. -/
def V0 (d : Dev nD) : Valuation τ sig (Elt F) := fun b => m (d, b)
def V1 (d : Dev nD) : Valuation τ sig (Elt F) := after hostOps (V0 m d)
def V2 (d : Dev nD) : Valuation τ sig (Elt F) :=
  Function.update (V1 m d) (dv main_v3) (gathered (V1 m d (dv main_v1)) (V1 m d (dv main_v0)))
def V3 (d : Dev nD) : Valuation τ sig (Elt F) :=
  Function.update (V2 m d) (dv main_v4) (expanded (V2 m d (dv main_v3)) (V2 m d (dv main_v2)))
def V4 (d : Dev nD) : Valuation τ sig (Elt F) := (lastOp (F := F)).result (V3 m d)

theorem V1_v0 (d : Dev nD) : V1 m d (dv main_v0) = flatI (m ((SparseCore.T d).loc main_arg2)) := by
  unfold V1 hostOps
  simp (disch := decide) only [StableHlo.after_cons, StableHlo.after_nil, ↓ StableHlo.readResult, StableHlo.reshape_result']
  rfl
theorem V1_v1 (d : Dev nD) : V1 m d (dv main_v1) = padA (m ((SparseCore.T d).loc main_arg0)) := by
  unfold V1 hostOps
  after_results_simp
  rfl
theorem V1_v2 (d : Dev nD) : V1 m d (dv main_v2) = padB (m ((SparseCore.T d).loc main_arg1)) := by
  unfold V1 hostOps
  after_results_simp
  rfl
theorem V1_arg0 (d : Dev nD) : V1 m d (dv main_arg0) = m ((SparseCore.T d).loc main_arg0) := by
  unfold V1 hostOps
  after_results_simp
  rfl
theorem V1_arg1 (d : Dev nD) : V1 m d (dv main_arg1) = m ((SparseCore.T d).loc main_arg1) := by
  unfold V1 hostOps
  after_results_simp
  rfl
theorem V1_arg2 (d : Dev nD) : V1 m d (dv main_arg2) = m ((SparseCore.T d).loc main_arg2) := by
  unfold V1 hostOps
  after_results_simp
  rfl

/-- A buffer other than the three written after the host operations ends as those left it. -/
theorem V4_ne (d : Dev nD) (b : Ref sig .tc) (h3 : b ≠ main_v3) (h4 : b ≠ main_v4) (h5 : b ≠ main_v5) : V4 m d (dv b) = V1 m d (dv b) := by
  unfold V4
  rw [StableHlo.reshape_result_ne (h := h5)]
  exact (Function.update_of_ne (StableHlo.devRef_ne_of_ne h4) _ _).trans (Function.update_of_ne (StableHlo.devRef_ne_of_ne h3) _ _)

/-- The result array at the end. -/
theorem V4_v5 (d : Dev nD) :
    V4 m d (dv main_v5) = final (m ((SparseCore.T d).loc main_arg0)) (m ((SparseCore.T d).loc main_arg1)) (m ((SparseCore.T d).loc main_arg2)) := by
  unfold V4
  rw [StableHlo.reshape_result]
  have h4 : V3 m d (dv main_v4) = expanded (gathered (padA (m ((SparseCore.T d).loc main_arg0))) (flatI (m ((SparseCore.T d).loc main_arg2)))) (padB (m ((SparseCore.T d).loc main_arg1))) := by
    unfold V3
    rw [Function.update_self]
    unfold V2
    rw [Function.update_self, Function.update_of_ne (StableHlo.devRef_ne_of_ne (by decide)), V1_v0, V1_v1, V1_v2]
  rw [h4]
  rfl

/-! ## The TensorCore's buffers -/

/-- The unscoped buffers of a TensorCore. -/
def ucRefs : Finset (DevRef τ sig) := (StableHlo.tcRefs τ sig).filter fun b => ¬ b.isScoped

omit [FloatOps F] in
theorem unscoped_held (d : Dev nD) (V : Valuation τ sig (Elt F)) :
    (unscopedBufs d (fun b => V (dv b)) : sProp 𝕄) = held (SparseCore.T d) ucRefs V := by
  unfold unscopedBufs StableHlo.held ucRefs StableHlo.tcRefs
  rw [Finset.filter_map, bigSep_map]; rfl

omit [FloatOps F] in
theorem mem_uc (b : Ref sig .tc) (h : b.isScoped = false) : dv b ∈ ucRefs :=
  Finset.mem_filter.mpr ⟨StableHlo.devRef_mem_tcRefs b, by rw [show (dv b).isScoped = b.isScoped from rfl, h]; decide⟩

/-- The three arrays of the call. -/
def callRefs : Finset (DevRef τ sig) := {dv main_v1, dv main_v0, dv main_v3}

omit [FloatOps F] in
theorem callRefs_sub : callRefs ⊆ ucRefs := by
  intro b hb
  simp only [callRefs, Finset.mem_insert, Finset.mem_singleton] at hb
  rcases hb with rfl | rfl | rfl <;> exact mem_uc _ rfl

omit [FloatOps F] in
theorem held_call (d : Dev nD) (V : Valuation τ sig (Elt F)) :
    (held (SparseCore.T d) callRefs V : sProp 𝕄)
      = iprop((aLoc d ↦{fullShare} V (dv main_v1)) ∗ (iLoc d ↦{fullShare} V (dv main_v0)) ∗ (oLoc d ↦{fullShare} V (dv main_v3))) := by
  unfold StableHlo.held callRefs
  rw [SparseCore.bigSep_insert' (by decide), SparseCore.bigSep_insert' (by decide), bigSep_singleton]

theorem held_rest (d : Dev nD) :
    (held (SparseCore.T d) (ucRefs \ callRefs) (V1 m d) : sProp 𝕄) = held (SparseCore.T d) (ucRefs \ callRefs) (V2 m d) :=
  StableHlo.held_congr _ fun b hb => (Function.update_of_ne (fun e => (Finset.mem_sdiff.mp hb).2 (by
    rw [e]; simp [callRefs])) _ _).symm

/-- What the call's arrays hold when it starts, per device. -/
abbrev A0 (d : Dev nD) : Buf (Elt F) (aLoc d) := V1 m d (dv main_v1)
abbrev I0 (d : Dev nD) : Buf (Elt F) (iLoc d) := V1 m d (dv main_v0)
abbrev O0 (d : Dev nD) : Buf (Elt F) (oLoc d) := V1 m d (dv main_v3)

/-- The launch's protocol at the contents the host operations leave. -/
abbrev PP : (K (F := F)).Pay (nD := nD) (Val := Elt F) (Name := ℕ) (U := UU) := P (A0 m) (I0 m) (O0 m)

theorem st_eq (d : Dev nD) : (held (SparseCore.T d) callRefs (V1 m d) : sProp 𝕄)
    = bigSep Finset.univ fun c : Fin ((K (F := F)).nCore 0) => (PP m).st 0 d c := by
  rw [held_call]
  exact parts_eq (A0 m) (I0 m) d (O0 m d)

theorem dn_eq (d : Dev nD) : (held (SparseCore.T d) callRefs (V2 m d) : sProp 𝕄)
    = bigSep Finset.univ fun c : Fin ((K (F := F)).nCore 0) => (PP m).dn 0 d c := by
  rw [held_call]
  unfold V2
  rw [Function.update_self, Function.update_of_ne (StableHlo.devRef_ne_of_ne (by decide)), Function.update_of_ne (StableHlo.devRef_ne_of_ne (by decide))]
  exact parts_eq (A0 m) (I0 m) d (gathered (A0 m d) (I0 m d))

/-! ## The expansion -/

abbrev adm : (p : Fin 1) → (pcfgs (F := F) p).Adm := fun p => (cfgs p).toPCfg_adm

/-- The region at this program's contents. -/
abbrev region : Pipeline.RegionSeg (pcfgs (F := F)) adm (pdats (fun c b => V2 m c (dv b)) adm) (none : HIx 1) defs₀ 𝒱₀ (K (F := F)).L (K (F := F)).lev 0 :=
  reg (fun c b => V2 m c (dv b)) adm (fun c b => V3 m c (dv b)) (fun c => Function.update_self _ _ _)
    (fun c b h => Function.update_of_ne (StableHlo.devRef_ne_of_ne h) _ _)

/-- The ghost state of the region's staging cells, dealt to each core at the launch. -/
abbrev G (d : Dev nD) : sProp 𝕄 :=
  iprop(Pipeline.cellsGhost cfgs (EP (F := F)) 0 d ∗ Pipeline.toksInit cfgs (EP (F := F)) 0 d)

/-- The region's call, in the kernels' own signature and in the program's. -/
abbrev expandCall : Prog (TpuEff nD τ sig (Elt F) (ΛP (F := F)) .tc) PUnit := .op (.customCall (Pipeline.entry 0) ()) .ret

theorem lift_expand : (SparseCore.liftProg (Q := 1) (expandCall (F := F)) : Prog (TpuEff nD τ sig (Elt F) (SparseCore.Sig (ΛP (F := F)) 1) .tc) PUnit)
    = Prog.lift (.customCall (SparseCore.inner (Pipeline.entry 0)) ()) := rfl

theorem wp_expand [∀ e, Nonempty (Elt F e)] (d : Dev nD) (Φ : PUnit → sProp 𝕄) :
    iprop(((boundary (SparseCore.T d) ∗ held (SparseCore.T d) ucRefs (V3 m d) ∗ owesLow d) -∗ Φ ⟨⟩)
        ∗ boundary (SparseCore.T d) ∗ held (SparseCore.T d) ucRefs (V2 m d) ∗ owesLow d ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Φ := by
  have hk : iprop(((boundary (SparseCore.T d) ∗ held (SparseCore.T d) ucRefs (V3 m d) ∗ owesLow d) -∗ Φ ⟨⟩)
        ∗ boundary (SparseCore.T d) ∗ held (SparseCore.T d) ucRefs (V2 m d) ∗ owesLow d ∗ levAts (K (F := F)).L (K (F := F)).lev ∗ G d)
      ⊢ iprop(((boundary (SparseCore.T d) ∗ unscopedBufs d (fun b => V3 m d (dv b)) ∗ owesLow d)
          -∗ wp frame (wpE (D (F := F)) 𝒱 (SparseCore.T d) none) Set.univ (.ret ⟨⟩) Φ)
        ∗ boundary (SparseCore.T d) ∗ (unscopedBufs d (fun b => V2 m d (dv b)) ∗ owesLow d) ∗ levAts (K (F := F)).L (K (F := F)).lev ∗ G d) := by
    rw [unscoped_held, unscoped_held]
    iintro ⟨Hk, Hb, Hu, HO, Hl, HG⟩
    isplitl [Hk]
    · iintro ⟨Hb, Hu, HO⟩
      rw [wp_ret]; imodintro
      iapply Hk
      isplitl [Hb]; · iexact Hb
      isplitl [Hu]; · iexact Hu
      iexact HO
    isplitl [Hb]; · iexact Hb
    isplitl [Hu HO]
    · isplitl [Hu]; · iexact Hu
      iexact HO
    isplitl [Hl]; · iexact Hl
    iexact HG
  have h : iprop(((boundary (SparseCore.T d) ∗ unscopedBufs d (fun b => V3 m d (dv b)) ∗ owesLow d)
          -∗ wp frame (wpE (D (F := F)) 𝒱 (SparseCore.T d) none) Set.univ (.ret ⟨⟩) Φ)
        ∗ boundary (SparseCore.T d) ∗ (unscopedBufs d (fun b => V2 m d (dv b)) ∗ owesLow d) ∗ levAts (K (F := F)).L (K (F := F)).lev ∗ G d)
      ⊢ wp frame (wpE (D (F := F)) 𝒱 (SparseCore.T d) none) Set.univ expandCall Φ :=
    Pipeline.RegionSeg.wp (pcfgs (F := F)) adm (pdats (fun c b => V2 m c (dv b)) adm) (none : HIx 1) cellOf_inj EP defs₀ 𝒱₀ (K (F := F)).L (K (F := F)).lev
      (region m) d none (fun _ h => nomatch h) .ret Φ
  rw [← lift_expand]
  exact (hk.trans h).trans ((K (F := F)).wp_liftProg (D (F := F)) 𝒱 (SparseCore.T d) Set.univ none expandCall Φ)

/-! ## The program on the TensorCore -/

theorem main_eq (d : Dev nD) : main (F := F) d = (seq hostOps >>= fun _ => (do
    sc.run d 0
    Prog.lift (.customCall (SparseCore.inner (Pipeline.entry 0)) ())
    hlo rfl lastOp (fun _ => .ret ⟨⟩)
    pure ⟨⟩)) := rfl

/-- What the program leaves on device `d`. -/
abbrev FIN (d : Dev nD) : sProp 𝕄 := held (SparseCore.T d) ucRefs (V4 m d)

theorem hostOps_sub : ∀ op ∈ (hostOps : List (HloOp τ sig (Elt F))), op.bufs ⊆ ucRefs := by
  intro op hop b hb
  simp only [hostOps, List.mem_cons, List.not_mem_nil, or_false] at hop
  rcases hop with rfl | rfl | rfl | rfl | rfl | rfl | rfl <;>
  · simp only [StableHlo.reshape_bufs, StableHlo.nullary_bufs, StableHlo.unary_bufs, StableHlo.binary_bufs, Finset.mem_insert, Finset.mem_singleton] at hb
    rcases hb with rfl | hb <;> first | exact mem_uc _ rfl | (rcases hb with rfl | rfl <;> exact mem_uc _ rfl) | (subst hb; exact mem_uc _ rfl)

theorem hostOps_fresh : ∀ op ∈ (hostOps : List (HloOp τ sig (Elt F))), op.fresh = ∅ := by
  intro op hop
  simp only [hostOps, List.mem_cons, List.not_mem_nil, or_false] at hop
  rcases hop with rfl | rfl | rfl | rfl | rfl | rfl | rfl <;> rfl

theorem lastOp_sub : (lastOp (F := F)).bufs ⊆ ucRefs := by
  intro b hb
  simp only [StableHlo.reshape_bufs, Finset.mem_insert, Finset.mem_singleton] at hb
  rcases hb with rfl | rfl <;> exact mem_uc _ rfl

/-- What the core owes after the call is nothing. -/
theorem owes_end (d : Dev nD) :
    (iprop(∃ W, ⌜(K (F := F)).WBelow (SparseCore.T d) W (8 * SparseCore.Cfg.Blocks.fst 1 1 (((0 : Fin 1) : ℕ) + 1))⌝
        ∗ owes (SparseCore.T d) ((K (F := F)).Otc d (((0 : Fin 1) : ℕ) + 1)) W) : sProp 𝕄) = owesLow d := by
  rw [(K (F := F)).Otc_end d (show (1 : ℕ) ≤ ((0 : Fin 1) : ℕ) + 1 from le_refl 1)]
  rfl

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (fun b : Ref sig .tc => m ((SparseCore.T d).loc b)) = fun b => V0 m d (dv b) from rfl, unscoped_held, main_eq]
  iintro ⟨#Hctx, Hst, ⟨Hb, Hheld, Hts, -⟩, HG⟩
  iapply (StableHlo.wp_seq 𝒱 (bd := none) (E := Set.univ) d ucRefs _ hostOps hostOps_sub hostOps_fresh (V0 m d)) $$ [Hb Hheld]
  · isplitl [Hb] <;> iassumption
  iintro ⟨Hb, Hheld⟩
  simp only [wp_bind, wp_pure]
  ihave Hh := (Entails.of_eq ((show (held d.tc ucRefs (after hostOps (V0 m d)) : sProp 𝕄) = held (SparseCore.T d) ucRefs (V1 m d) from rfl).trans
    (StableHlo.held_sub_split (SparseCore.T d) callRefs_sub (V1 m d)))) $$ Hheld
  icases Hh with ⟨Hcall, Hrest⟩
  iapply ((K (F := F)).wp_run (D (F := F)) 𝒱 (EH := EH) (P := PP m) κ d 0) $$ [Hst Hcall Hrest Hb Hts HG]
  isplitr; · iexact Hctx
  isplitl [Hst]; · iexact Hst
  isplitl [Hcall]
  · rw [← st_eq]; iexact Hcall
  iintro ⟨Hst, Hdn⟩
  ihave Hcall := (Entails.of_eq (dn_eq m d).symm) $$ Hdn
  ihave Hrest := (Entails.of_eq (held_rest m d)) $$ Hrest
  ihave Hheld := (Entails.of_eq (StableHlo.held_sub_split (SparseCore.T d) callRefs_sub (V2 m d)).symm) $$ [Hcall Hrest]
  · isplitl [Hcall] <;> iassumption
  unfold SparseCore.Cfg.tcSt
  icases Hst with ⟨HO, Hst⟩
  ihave HO := (Entails.of_eq (owes_end d)) $$ HO
  iapply (wp_expand m d _) $$ [HO Hst Hheld Hb Hts HG]
  ihave Hl := ((K (F := F)).ctx_levAts (EH := EH) (P := PP m) κ) $$ Hctx
  isplitr [HO Hheld Hb HG Hl]
  · iintro ⟨Hb, Hheld, HO⟩
    iapply (StableHlo.wp_hlo_within 𝒱 (SparseCore.T d) none Set.univ (op := lastOp) (S := ucRefs) lastOp_sub (V := V3 m d)) $$ [Hb Hheld]
    · isplitl [Hb] <;> iassumption
    iintro ⟨Hb, Hheld⟩
    rw [wp_ret]; imodintro; imodintro
    ihave HO := (Entails.of_eq (owes_end d).symm) $$ HO
    isplitl [HO Hst]
    · isplitl [HO]; · iexact HO
      iexact Hst
    isplitl [Hheld]; · iexact Hheld
    isplitl [Hb] <;> iassumption
  isplitl [Hb]; · iexact Hb
  isplitl [Hheld]; · iexact Hheld
  isplitl [HO]; · iexact HO
  isplitl [Hl]; · iexact Hl
  iexact HG

/-! ## The launch's ghost state -/

/-- The handshakes' launch state, and the staging cells' of the one pipeline. -/
def u₀ : UU := (initOf (K (F := F)).hsCells (K (F := F)).hsToks, (initOf (Pipeline.cells (nD := nD) (τ := τ) cfgs cellOf_inj) (Pipeline.launchToks cfgs cellOf_inj), 1))

theorem ownU_split (a : UH) (b : UP) :
    (ownU ((a, (b, 1)) : UU) : sProp 𝕄) ⊢ iprop(BI.own (EH a) ∗ BI.own (EP b)) := by
  refine (ownU_pair a ((b, 1) : UP × Counters)).trans (sep_mono .rfl ?_)
  refine (own_pair_emb (embR : Emb (UP × Counters) 𝕄) b (1 : Counters)).trans sep_elim_left

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_split _ _) $$ Hu
  icases H with ⟨HH, HP⟩
  imod (Pipeline.fund_ghost cfgs (EP (F := F)) cellOf_inj) $$ HP with ⟨Hg, Ht⟩
  imodintro
  isplitl [HH]; · iexact HH
  isplitl [Hg Ht]
  · rw [bigSep_sep']
    isplitl [Hg]
    · rw [show (bigSep Finset.univ fun d : Dev nD => Pipeline.cellsGhost cfgs (EP (F := F)) 0 d)
          = bigSep Finset.univ fun c : Dev nD => bigSep Finset.univ fun p : Fin 1 => Pipeline.cellsGhost cfgs (EP (F := F)) p c from
        bigSep_congr fun c _ => (bigSep_univ_of_subsingleton (0 : Fin 1) (Φ := fun p : Fin 1 => Pipeline.cellsGhost cfgs (EP (F := F)) p c)).symm]
      iexact Hg
    · rw [show (bigSep Finset.univ fun d : Dev nD => Pipeline.toksInit cfgs (EP (F := F)) 0 d)
          = bigSep Finset.univ fun c : Dev nD => bigSep Finset.univ fun p : Fin 1 => Pipeline.toksInit cfgs (EP (F := F)) p c from
        bigSep_congr fun c _ => (bigSep_univ_of_subsingleton (0 : Fin 1) (Φ := fun p : Fin 1 => Pipeline.toksInit cfgs (EP (F := F)) p c)).symm]
      iexact Ht
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), bigSep_none]
  iempintro

/-! ## The final state -/

/-- What a final state holds on device `d`: every unscoped buffer of its TensorCore at `V4`. -/
def fq (d : Dev nD) (s' : Phys nD τ sig (Elt F)) : Prop := ∀ b : Ref sig .tc, b.isScoped = false → s'.mem.mem (d, dv b) = V4 m d (dv b)

theorem hfin (d : Dev nD) (s' : Phys nD τ sig (Elt F)) : iprop(FIN m d ∗ SI s') ⊢ (⌜fq m d s'⌝ : sProp 𝕄) := by
  have one (b : Ref sig .tc) (hb : b.isScoped = false) : iprop(FIN m d ∗ SI s') ⊢ (⌜s'.mem.mem (d, dv b) = V4 m d (dv b)⌝ : sProp 𝕄) := by
    unfold FIN StableHlo.held
    rw [SparseCore.bigSep_erase' (mem_uc b hb)]
    iintro ⟨⟨Hx, -⟩, HSI⟩
    ihave H := (SI_pointsTo_agree (st := s') (ℓ := (d, dv b)) (I := Finset.univ) (q := fullShare) (f := V4 m d (dv b))) $$ [HSI Hx]
    · isplitl [HSI] <;> iassumption
    icases H with %h
    ipureintro; exact funext fun i => h i (Finset.mem_univ i)
  exact fun a ha b hb => one b hb a ha

/-- What every final state holds: the arguments as at the launch, the result at `final` of them, the counters at zero. -/
def QC : PUnit × MemSt nD τ sig (Elt F) → Prop := fun r =>
  (∀ d : Dev nD, r.2.mem ((SparseCore.T d).loc main_v5)
        = final (m ((SparseCore.T d).loc main_arg0)) (m ((SparseCore.T d).loc main_arg1)) (m ((SparseCore.T d).loc main_arg2))
      ∧ r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2))
    ∧ r.2.sem = fun _ => 0

theorem hQ (s' : Phys nD τ sig (Elt F)) (h : ∀ d, fq m d s') (hz : s'.mem.sem = fun _ => 0) : QC m (⟨⟩, s'.mem) := by
  refine ⟨fun d => ⟨(h d main_v5 rfl).trans (V4_v5 m d), ?_, ?_, ?_⟩, hz⟩
  · exact (h d main_arg0 rfl).trans ((V4_ne m d main_arg0 (by decide) (by decide) (by decide)).trans (V1_arg0 m d))
  · exact (h d main_arg1 rfl).trans ((V4_ne m d main_arg1 (by decide) (by decide) (by decide)).trans (V1_arg1 m d))
  · exact (h d main_arg2 rfl).trans ((V4_ne m d main_arg2 (by decide) (by decide) (by decide)).trans (V1_arg2 m d))

/-- The words of the index argument are row numbers. -/
def ArgInRows : Prop := ∀ (d : Dev nD) (j : S2048x16.Idx), (m ((SparseCore.T d).loc main_arg2) j : BitVec 32).toNat < 16384

theorem flat_inRows (h : ArgInRows m) (d : Dev nD) : InRows (F := F) (I0 m d) := fun j => by
  unfold I0
  rw [V1_v0]
  exact h d _

/-- The whole program runs to its end, faultless, from any launch memory whose index words are row numbers. -/
theorem run_main [∀ e, Nonempty (Elt F e)] (hpre : ArgInRows m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) scFacts v₀
    (fun q hq => match q with | 0 => nomatch hq)
    (fun q _ => match q with | 0 => tileObl (A0 m) (I0 m) (O0 m) (flat_inRows m hpre))
    (fun q _ => match q with | 0 => SparseCore.Cfg.VecSplit.of_plain (vecSplit (A0 m) (I0 m) (O0 m)))
    m ρ main (fun d => G (F := F) d) (FIN m) (u₀ (F := F)) (sep_elim_left.trans (hu₀ m)) (hmain m ρ) (fq m) (hfin m) (QC m) (hQ m)

end Cert.Proof.KernelIdeal

end
-- ==== Proof.ValueI.lean ====
/-
  The value the kernel leaves, read at an index over the extended reals, and the value of the reference there: both are
  the sum over the 32 columns of the first factor of its entry in the row the index list names times the second
  factor's entry. The kernel sums over 128 columns of padded factors: the last 96 terms are zero times zero.
-/
module

public import proofs.«01_k».proof.Proof.MainI
public import proofs.«01_k».proof.Proof.Gen.ReferenceIdeal.Run
public import proofs.«01_k».proof.Proof.Gen.ReferenceIdeal.Read
public import Idealize.ShloMosaic.Lib.KernelVsHost
public import Idealize.ShloMosaic.Lib.ValueIdx

@[expose] public section

noncomputable section

namespace Cert.Proof.KernelIdeal

open Cert.KernelIdeal Cert.KernelIdeal.Gen

open Idealize.ShloMosaic

/-! ## Indices -/

/-- The index of row `r`, column `k` of the first factor. -/
abbrev ax (r : Fin 16384) (k : Fin 32) : S16384x32.Idx := fun a => match a with
  | ⟨0, _⟩ => r
  | ⟨1, _⟩ => k

/-- The index of row `k`, column `y` of the second factor. -/
abbrev bx (k : Fin 32) (y : Fin 1024) : S32x1024.Idx := fun a => match a with
  | ⟨0, _⟩ => k
  | ⟨1, _⟩ => y

/-- The index of row `k`, column `y` of the second factor padded. -/
abbrev bpx (k : Fin 128) (y : Fin 1024) : S128x1024.Idx := fun a => match a with
  | ⟨0, _⟩ => k
  | ⟨1, _⟩ => y

/-- The place of the index list that an index of the result belongs to. -/
abbrev tx (i : S1x2048x16x1024.Idx) : S2048x16.Idx := fun a => match a with
  | ⟨0, _⟩ => ⟨(i 1).val, (i 1).isLt⟩
  | ⟨1, _⟩ => ⟨(i 2).val, (i 2).isLt⟩

/-- The row and column of the expanded array that an index of the result is laid out at. -/
abbrev ex (i : S1x2048x16x1024.Idx) : S32768x1024.Idx := fun a => match a with
  | ⟨0, _⟩ => ⟨(i 1).val * 16 + (i 2).val, by
      have h1 : (i 1).val < 2048 := (i 1).isLt
      have h2 : (i 2).val < 16 := (i 2).isLt
      show _ < 32768; omega⟩
  | ⟨1, _⟩ => ⟨(i 3).val, (i 3).isLt⟩

/-- The row of the table that an index of the result reads. -/
def rowOf (t : S2048x16.Idx → BitVec 32) (i : S1x2048x16x1024.Idx) : Fin 16384 :=
  ⟨(t (tx i)).toNat % 16384, Nat.mod_lt _ (by decide)⟩

/-- The column of an index of the result. -/
def colOf (i : S1x2048x16x1024.Idx) : Fin 1024 := ⟨(i 3).val, (i 3).isLt⟩

/-! ## The padded factors -/

/-- In its first 32 columns the padded first factor is the factor. -/
theorem padA_inside (a : S16384x32.Idx → Elt Ideal .f32) (r : Fin 16384) (c : Fin 128) (k : Fin 32) (h : c.val = k.val) :
    padA (F := Ideal) a (ixA r c) = a (ax r k) := by
  unfold padA
  refine pad_apply_of_inside _ _ _ _ _ _ _ _ (ax r k) fun b => ?_
  match b with
  | ⟨0, _⟩ => show r.val = 0 + r.val * (0 + 1); omega
  | ⟨1, _⟩ => show c.val = 0 + k.val * (0 + 1); omega

/-- In its last 96 columns the padded first factor is zero. -/
theorem padA_outside (a : S16384x32.Idx → Elt Ideal .f32) (r : Fin 16384) (c : Fin 128) (h : 32 ≤ c.val) :
    padA (F := Ideal) a (ixA r c) = (0 : EReal) := by
  unfold padA
  refine (pad_apply_of_not_inside _ _ _ _ _ _ _ _ 1 ?_).trans (sitofp_zero (φ := .f32))
  rintro ⟨-, -, h3⟩
  have h4 : (c.val - 0) / (0 + 1) < 32 := h3
  omega

/-- In its first 32 rows the padded second factor is the factor. -/
theorem padB_inside (b : S32x1024.Idx → Elt Ideal .f32) (c : Fin 128) (y : Fin 1024) (k : Fin 32) (h : c.val = k.val) :
    padB (F := Ideal) b (bpx c y) = b (bx k y) := by
  unfold padB
  refine pad_apply_of_inside _ _ _ _ _ _ _ _ (bx k y) fun a => ?_
  match a with
  | ⟨0, _⟩ => show c.val = 0 + k.val * (0 + 1); omega
  | ⟨1, _⟩ => show y.val = 0 + y.val * (0 + 1); omega

/-! ## The kernel's value at an index -/

/-- The list laid flat, at the place of an index of the result. -/
theorem flatI_apply (t : S2048x16.Idx → Elt Ideal .i32) (i : S1x2048x16x1024.Idx) (n : Fin 32768)
    (h : n.val = (i 1).val * 16 + (i 2).val) : flatI (F := Ideal) t (ixI n) = t (tx i) := by
  unfold flatI
  refine shapeCast_apply _ _ _ (tx i) ?_
  rw [Shape.rowMajor_val_two, Shape.rowMajor_val_one]
  exact h.symm

/-- The dimension numbers of the product one step of the expansion takes. -/
abbrev dK : DotDims S4096x128 S128x1024 S4096x1024 := dot_S4096x128_S128x1024_S4096x1024_1_0_0_1_n_n

/-- The left operand's row is the result's. -/
theorem lhs0 (i : S4096x1024.Idx) (q : dK.contr.Idx) : (dK.lhsIdx i q 0).val = (i 0).val := by
  unfold DotDims.lhsIdx
  rw [dif_neg (show ¬(0 : Fin S4096x128.rank) ∈ dK.lhsBatch by decide),
    dif_pos (show (0 : Fin S4096x128.rank) ∈ dK.lhsNonContracting by decide)]
  rfl

/-- The right operand's column is the result's. -/
theorem rhs1 (i : S4096x1024.Idx) (q : dK.contr.Idx) : (dK.rhsIdx i q 1).val = (i 1).val := by
  unfold DotDims.rhsIdx
  rw [dif_neg (show ¬(1 : Fin S128x1024.rank) ∈ dK.rhsBatch by decide),
    dif_pos (show (1 : Fin S128x1024.rank) ∈ dK.rhsNonContracting by decide)]
  rfl

/-- One step of the expansion at an index: the sum over the 128 columns of the block. -/
theorem pay_apply (X : S4096x128.Idx → Elt Ideal .f32) (B : S128x1024.Idx → Elt Ideal .f32) (i : S4096x1024.Idx)
    (L : Fin 128 → S4096x128.Idx) (hL : ∀ k, (L k 0).val = (i 0).val ∧ (L k 1).val = k.val) (y : Fin 1024)
    (hy : y.val = (i 1).val) :
    k1_pay1 (F := Ideal) X B i = ∑ k : Fin 128, (X (L k) * B (bpx k y) : EReal) := by
  unfold k1_pay1
  simp only [matmul]
  rw [Ideal.matmul_constant_zero_apply, ← Equiv.sum_comp (ValueIdx.contrEquiv1 dK 128 rfl rfl).symm]
  refine Finset.sum_congr rfl fun k _ => ?_
  have hk := ValueIdx.contrEquiv1_symm_val dK 128 rfl rfl k
  have el : dK.lhsIdx i ((ValueIdx.contrEquiv1 dK 128 rfl rfl).symm k) = L k := funext fun a => Fin.ext (by
    match a with
    | ⟨0, _⟩ => exact (lhs0 _ _).trans (hL k).1.symm
    | ⟨1, _⟩ => exact ((dK.lhsIdx_val_of_single rfl _ _).trans hk).trans (hL k).2.symm)
  have er : dK.rhsIdx i ((ValueIdx.contrEquiv1 dK 128 rfl rfl).symm k) = bpx k y := funext fun a => Fin.ext (by
    match a with
    | ⟨0, _⟩ => exact (dK.rhsIdx_val_of_single rfl _ _).trans hk
    | ⟨1, _⟩ => exact (rhs1 _ _).trans hy.symm)
  rw [el, er]
  rw [shapeCast_apply X _ (L k) (L k) rfl, shapeCast_apply B _ (bpx k y) (bpx k y) rfl]

/-- What the kernel leaves at an index: the row the list names times the column, summed over the 32 columns. -/
theorem final_apply (a : S16384x32.Idx → Elt Ideal .f32) (b : S32x1024.Idx → Elt Ideal .f32)
    (t : S2048x16.Idx → Elt Ideal .i32) (i : S1x2048x16x1024.Idx) :
    final (F := Ideal) a b t i = ∑ k : Fin 32, (a (ax (rowOf t i) k) * b (bx k (colOf i)) : EReal) := by
  have h1 : (i 1).val < 2048 := (i 1).isLt
  have h2 : (i 2).val < 16 := (i 2).isLt
  have h0 : (i 0).val = 0 := by have h : (i 0).val < 1 := (i 0).isLt; omega
  unfold final
  rw [shapeCast_apply _ _ i (ex i) (by
    rw [Shape.rowMajor_val_two, Shape.rowMajor_val_four]
    show ((i 1).val * 16 + (i 2).val) * 1024 + (i 3).val
      = (((i 0).val * 2048 + (i 1).val) * 16 + (i 2).val) * 1024 + (i 3).val
    omega)]
  unfold expanded
  refine (pay_apply _ _ _ (fun k => fun a => match a with
    | ⟨0, _⟩ => ⟨((i 1).val * 16 + (i 2).val) % 4096, Nat.mod_lt _ (by decide)⟩
    | ⟨1, _⟩ => k) (fun k => ⟨rfl, rfl⟩) (colOf i) rfl).trans ?_
  have hterm : ∀ k : Fin 128, (gathered (F := Ideal) (padA a) (flatI t) (fun z => match z with
      | ⟨0, _⟩ => ⟨((i 1).val * 16 + (i 2).val) / 4096 * 4096 + ((i 1).val * 16 + (i 2).val) % 4096, by
          show _ < 32768; omega⟩
      | ⟨1, _⟩ => k) * padB (F := Ideal) b (bpx k (colOf i)) : EReal)
      = padA (F := Ideal) a (ixA (rowOf t i) k) * padB (F := Ideal) b (bpx k (colOf i)) := fun k => by
    refine congrArg (fun w : EReal => w * padB (F := Ideal) b (bpx k (colOf i))) ?_
    unfold gathered rowAt rowOf
    have hf := flatI_apply t i ⟨((i 1).val * 16 + (i 2).val) / 4096 * 4096 + ((i 1).val * 16 + (i 2).val) % 4096, by omega⟩
      (by show _ / 4096 * 4096 + _ % 4096 = _; omega)
    refine congrArg (fun r => padA (F := Ideal) a (ixA r k)) (Fin.ext ?_)
    exact congrArg (fun w : BitVec 32 => w.toNat % 16384) hf
  refine (Finset.sum_congr rfl fun k _ => hterm k).trans ?_
  rw [show (∑ k : Fin 128, (padA (F := Ideal) a (ixA (rowOf t i) k) * padB (F := Ideal) b (bpx k (colOf i)) : EReal))
      = ∑ k : Fin (32 + 96), (padA (F := Ideal) a (ixA (rowOf t i) k) * padB (F := Ideal) b (bpx k (colOf i)) : EReal) from rfl,
    Fin.sum_univ_add]
  rw [Finset.sum_eq_zero (s := (Finset.univ : Finset (Fin 96))) (fun k _ => by
    rw [padA_outside a _ _ (by show 32 ≤ 32 + k.val; omega)]
    exact zero_mul _), add_zero]
  refine Finset.sum_congr rfl fun k _ => ?_
  rw [padA_inside a _ _ k rfl, padB_inside b _ _ k rfl]

/-! ## The reference's value at an index -/

open Cert.ReferenceIdeal.Read in
/-- An index of the list that is in range is not changed by the reference's wrapping of negative indices. -/
theorem wrap_apply (t : S2048x16.Idx → Elt Ideal .i32) (j : S2048x16.Idx) (h : (t j : BitVec 32).toNat < 16384) :
    val_main_v5 (F := Ideal) t j = t j := by
  rw [val_main_v5_apply, val_main_v2_apply, val_main_v1_apply, val_main_c_apply]
  have e : IntOp.cmpi .slt (t j : BitVec 32) 0#32 = 0#1 := by
    generalize (t j : BitVec 32) = w at h
    have hs : w.slt 0#32 = false := by
      rw [BitVec.slt_eq_decide, decide_eq_false_iff_not, BitVec.toInt_eq_toNat_cond]
      simp only [BitVec.toInt_zero]
      split <;> omega
    show BitVec.ofBool (w.slt 0#32) = 0#1
    rw [hs]; rfl
  rw [e]; rfl

/-- The index of the column of starts that an index of the gathered array reads. -/
abbrev sx (j : Cert.ReferenceIdeal.S2048x16x1024.Idx) : Cert.ReferenceIdeal.S2048x16x1.Idx := fun a => match a with
  | ⟨0, _⟩ => ⟨(j 0).val, (j 0).isLt⟩
  | ⟨1, _⟩ => ⟨(j 1).val, (j 1).isLt⟩
  | ⟨2, _⟩ => ⟨0, Nat.one_pos⟩

/-- The index of row `r`, column `y` of the full product. -/
abbrev px (r : Fin 16384) (y : Fin 1024) : Cert.ReferenceIdeal.S16384x1024.Idx := fun a => match a with
  | ⟨0, _⟩ => r
  | ⟨1, _⟩ => y

/-- The dimension numbers of the reference's gather. -/
abbrev gR : GatherDims Cert.ReferenceIdeal.S16384x1024 Cert.ReferenceIdeal.S2048x16x1 Cert.ReferenceIdeal.S2048x16x1024 :=
  Cert.ReferenceIdeal.gather_S16384x1024_S2048x16x1_S2048x16x1024_2_0_n_n_0_2_11024

/-- The reference's gather at an index whose start names a row of the table: that row, the same column. -/
theorem gather_apply (x : Cert.ReferenceIdeal.S16384x1024.Idx → Elt Ideal .f32) (s : Cert.ReferenceIdeal.S2048x16x1.Idx → BitVec 32)
    (j : Cert.ReferenceIdeal.S2048x16x1024.Idx) (r : Fin 16384) (hr : (s (sx j)).toNat = r.val) :
    Host.gather gR x s j = x (px r (j 2)) := by
  unfold Host.gather
  refine congrArg x (funext fun a => Fin.ext ?_)
  show gR.start j s a + gR.batchCoord j a + gR.offCoord j a = _
  rw [GatherDims.batchCoord_eq_zero _ _ _ (fun h => by cases h)]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ gR.startIndexMap from List.mem_singleton.mpr rfl)]
    have hsi : gR.siIdx j ⟨List.idxOf (⟨0, by decide⟩ : Fin 2) gR.startIndexMap,
        List.idxOf_lt_length_iff.2 (List.mem_singleton.mpr rfl)⟩ = sx j := by
      funext b; refine Fin.ext ?_
      match b with
      | ⟨0, _⟩ => rfl
      | ⟨1, _⟩ => rfl
      | ⟨2, _⟩ => rfl
    rw [hsi]
    show min (s (sx j)).toInt.toNat (16384 - 1) + 0 + 0 = r.val
    have hlt := r.isLt
    rw [BitVec.toInt_eq_toNat_cond, if_pos (by omega), Int.toNat_natCast, hr]
    omega
  | ⟨1, _⟩ =>
    unfold GatherDims.start
    rw [dif_neg (fun h => by have := List.mem_singleton.1 h; cases this)]
    show 0 + 0 + gR.offCoord j ⟨1, _⟩ = (j 2).val
    unfold GatherDims.offCoord
    rw [dif_pos (show (⟨1, by decide⟩ : Fin 2) ∈ gR.sKept by decide), Nat.zero_add]
    rfl

open Cert.ReferenceIdeal.Read in
/-- The reference's result is what the kernel leaves, where every index of the list names a row of the table. -/
theorem reference_eq (a : S16384x32.Idx → Elt Ideal .f32) (b : S32x1024.Idx → Elt Ideal .f32)
    (t : S2048x16.Idx → Elt Ideal .i32) (h : ∀ j, (t j : BitVec 32).toNat < 16384) :
    val_main_v8 (F := Ideal) a b t = final (F := Ideal) a b t := by
  funext i
  have ht := h (tx i)
  rw [final_apply, val_main_v8_apply]
  unfold val_main_v7
  rw [gather_apply _ _ _ (rowOf t i) (by
    rw [val_main_v6_apply]
    refine (congrArg BitVec.toNat (wrap_apply t (tx i) ht)).trans ?_
    exact (Nat.mod_eq_of_lt ht).symm), val_main_v0_apply]
  rfl

end Cert.Proof.KernelIdeal

end
-- ==== Proof.SoftmaxI.lean ====
/-
  Softmax over the extended reals, taken in two halves: the kernel reads a row of scores in two chunks of 1024, keeps a
  running maximum, a running sum of exponentials and a running weighted mean, and rescales what it has when the maximum
  grows; the reference subtracts the row's maximum once and divides once. Where the scores are real numbers the two give
  the same weighted mean, whatever the values that are averaged (infinities among them too).
-/
module

public import Idealize.ShloMosaic.PureOps.Ideal
public import Idealize.ShloMosaic.PureOps.Ideal.Laws

@[expose] public section

noncomputable section

namespace Cert.Proof.Softmax

open Idealize.ShloMosaic

/-! ## Real numbers among the extended reals -/

/-- An extended real that is a real number. -/
def IsReal (a : EReal) : Prop := ∃ r : ℝ, a = (r : EReal)

/-- A sum of two real numbers is one. -/
theorem IsReal.add {a b : EReal} (ha : IsReal a) (hb : IsReal b) : IsReal (a + b) := by
  obtain ⟨r, rfl⟩ := ha; obtain ⟨q, rfl⟩ := hb
  exact ⟨r + q, (EReal.coe_add r q).symm⟩

/-- A product of two real numbers is one. -/
theorem IsReal.mul {a b : EReal} (ha : IsReal a) (hb : IsReal b) : IsReal (a * b) := by
  obtain ⟨r, rfl⟩ := ha; obtain ⟨q, rfl⟩ := hb
  exact ⟨r * q, (EReal.coe_mul r q).symm⟩

/-- A finite sum of real numbers, as an extended real, is the sum of the extended reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A finite sum of extended reals that are real numbers is one. -/
theorem isReal_sum {ι : Type} [Fintype ι] (f : ι → EReal) (h : ∀ i, IsReal (f i)) : IsReal (∑ i, f i) := by
  choose g hg using h
  exact ⟨∑ i, g i, by rw [coe_sum]; exact Finset.sum_congr rfl fun i _ => hg i⟩

/-- An extended real whose absolute value is below infinity is a real number. -/
theorem isReal_of_abs_lt (a : EReal) (h : max a (-a) < ⊤) : IsReal a := by
  induction a using EReal.rec with
  | bot => simp at h
  | top => simp at h
  | coe r => exact ⟨r, rfl⟩

/-- The maximum of a nonempty family of real numbers, started from minus infinity, is a real number. -/
theorem isReal_fold_max {n : ℕ} (f : Fin (n + 1) → EReal) (h : ∀ i, IsReal (f i)) :
    IsReal ((Finset.univ : Finset (Fin (n + 1))).fold max ⊥ f) := by
  have h1 : (Finset.univ : Finset (Fin (n + 1))).fold max ⊥ f < ⊤ :=
    (Finset.fold_max_lt (c := (⊤ : EReal))).2 ⟨bot_lt_top, fun i _ => by obtain ⟨r, hr⟩ := h i; rw [hr]; exact EReal.coe_lt_top r⟩
  have h2 : ⊥ < (Finset.univ : Finset (Fin (n + 1))).fold max ⊥ f :=
    (Finset.lt_fold_max (c := (⊥ : EReal))).2 (Or.inr ⟨0, Finset.mem_univ _, by obtain ⟨r, hr⟩ := h 0; rw [hr]; exact EReal.bot_lt_coe r⟩)
  exact ⟨_, (EReal.coe_toReal h1.ne h2.ne').symm⟩

/-- A nonnegative real factor goes into a finite sum of extended reals. -/
theorem mul_sum_real {ι : Type} [Fintype ι] (c : ℝ) (hc : 0 ≤ c) (f : ι → EReal) :
    (c : EReal) * ∑ i, f i = ∑ i, (c : EReal) * f i := by
  classical
  induction (Finset.univ : Finset ι) using Finset.induction_on with
  | empty => simp
  | insert a s ha ih =>
    rw [Finset.sum_insert ha, Finset.sum_insert ha,
      EReal.left_distrib_of_nonneg_of_ne_top (EReal.coe_nonneg.2 hc) (EReal.coe_ne_top c), ih]

/-! ## The two computations -/

/-- The place in a row of the `j`-th score of its first half. -/
abbrev lo (j : Fin 1024) : Fin 2048 := ⟨j.val, by omega⟩

/-- The place in a row of the `j`-th score of its second half. -/
abbrev hi (j : Fin 1024) : Fin 2048 := ⟨1024 + j.val, by omega⟩

/-- A sum over a row is the sum over its first half and the sum over its second half. -/
theorem sum_halves (f : Fin 2048 → EReal) : ∑ j, f j = (∑ j : Fin 1024, f (lo j)) + ∑ j : Fin 1024, f (hi j) :=
  Fin.sum_univ_add (a := 1024) (b := 1024) f

/-- The maximum of the first half, as the kernel takes it. -/
def max1 (sc : Fin 2048 → EReal) : EReal := max ⊥ ((Finset.univ : Finset (Fin 1024)).fold max ⊥ fun j => sc (lo j))

/-- The running maximum after the second half. -/
def max2 (sc : Fin 2048 → EReal) : EReal :=
  max (max1 sc) ((Finset.univ : Finset (Fin 1024)).fold max ⊥ fun j => sc (hi j))

/-- The sum of exponentials of the first half, after the empty sum it started from (`z` is zero times a factor). -/
def den1 (z : EReal) (sc : Fin 2048 → EReal) : EReal := z + ∑ j : Fin 1024, Ideal.exp (sc (lo j) - max1 sc)

/-- The weighted mean of the first half. -/
def acc1 (z : EReal) (sc v : Fin 2048 → EReal) : EReal :=
  ((∑ j : Fin 1024, Ideal.exp (sc (lo j) - max1 sc) * v (lo j)) + z * 0) * Ideal.div 1 (den1 z sc)

/-- The sum of exponentials of the first half, rescaled to the maximum of the whole row. -/
def scaled (z : EReal) (sc : Fin 2048 → EReal) : EReal :=
  Ideal.exp (if max1 sc = max2 sc then 0 else max1 sc - max2 sc) * den1 z sc

/-- The weighted mean of the whole row as the kernel leaves it. -/
def twoHalves (z : EReal) (sc v : Fin 2048 → EReal) : EReal :=
  ((∑ j : Fin 1024, Ideal.exp (sc (hi j) - max2 sc) * v (hi j)) + scaled z sc * acc1 z sc v)
    * Ideal.div 1 (scaled z sc + ∑ j : Fin 1024, Ideal.exp (sc (hi j) - max2 sc))

/-- The maximum of the row, as the reference takes it. -/
def rowMax (sc : Fin 2048 → EReal) : EReal := max ⊥ ((Finset.univ : Finset (Fin 2048)).fold max ⊥ sc)

/-- The weighted mean of the row as the reference takes it: each weight an exponential over the sum of all. -/
def wholeRow (sc v : Fin 2048 → EReal) : EReal :=
  ∑ j, Ideal.div (Ideal.exp (sc j - rowMax sc)) (0 + ∑ k, Ideal.exp (sc k - rowMax sc)) * v j

/-- The exponential of a difference of two real numbers. -/
theorem exp_sub_coe (a b : ℝ) : Ideal.exp ((a : EReal) - (b : EReal)) = (Real.exp (a - b) : EReal) := by
  rw [← EReal.coe_sub]; rfl

/-- One over a real number that is not zero. -/
theorem one_div_coe (d : ℝ) (h : d ≠ 0) : Ideal.div 1 (d : EReal) = ((1 / d : ℝ) : EReal) := by
  rw [Ideal.div_coe h, one_mul]

/-- Where the scores of a row are real numbers, the weighted mean taken in two halves is the one taken at once. -/
theorem twoHalves_eq (sc v : Fin 2048 → EReal) (h : ∀ j, IsReal (sc j)) : twoHalves 0 sc v = wholeRow sc v := by
  choose s hs using h
  obtain rfl : sc = fun j => (s j : EReal) := funext hs
  have hreal : ∀ j, IsReal ((fun j => (s j : EReal)) j) := fun j => ⟨s j, rfl⟩
  obtain ⟨m, hm⟩ : IsReal (max1 fun j => (s j : EReal)) := by
    unfold max1; rw [max_eq_right bot_le]; exact isReal_fold_max (n := 1023) _ fun j => hreal (lo j)
  obtain ⟨M, hM⟩ : IsReal (max2 fun j => (s j : EReal)) := by
    unfold max2
    obtain ⟨q, hq⟩ := isReal_fold_max (n := 1023) (fun j => (s (hi j) : EReal)) fun j => hreal (hi j)
    refine ⟨max m q, ?_⟩
    rw [hm]
    refine (congrArg (max (m : EReal)) hq).trans ?_
    exact (EReal.coe_strictMono.monotone.map_max).symm
  obtain ⟨R, hR⟩ : IsReal (rowMax fun j => (s j : EReal)) := by
    unfold rowMax; rw [max_eq_right bot_le]; exact isReal_fold_max (n := 2047) _ hreal
  have hd1 : den1 0 (fun j => (s j : EReal)) = ((∑ j : Fin 1024, Real.exp (s (lo j) - m) : ℝ) : EReal) := by
    unfold den1; rw [hm, zero_add, coe_sum]; exact Finset.sum_congr rfl fun j _ => exp_sub_coe _ _
  have pos1 : 0 < ∑ j : Fin 1024, Real.exp (s (lo j) - m) :=
    Finset.sum_pos (fun j _ => Real.exp_pos _) ⟨0, Finset.mem_univ _⟩
  generalize hD1 : (∑ j : Fin 1024, Real.exp (s (lo j) - m)) = D1 at hd1 pos1
  have hc : Ideal.exp (if (m : EReal) = (M : EReal) then 0 else (m : EReal) - (M : EReal)) = (Real.exp (m - M) : EReal) := by
    split
    · next h => rw [EReal.coe_eq_coe_iff.1 h, sub_self]; exact Ideal.exp_coe 0
    · exact exp_sub_coe _ _
  have hsc : scaled 0 (fun j => (s j : EReal)) = ((∑ j : Fin 1024, Real.exp (s (lo j) - M) : ℝ) : EReal) := by
    unfold scaled; rw [hm, hM, hc, hd1, ← EReal.coe_mul, ← hD1, Finset.mul_sum]
    refine congrArg _ (Finset.sum_congr rfl fun j _ => ?_)
    rw [← Real.exp_add]; exact congrArg Real.exp (by ring)
  have hacc : scaled 0 (fun j => (s j : EReal)) * acc1 0 (fun j => (s j : EReal)) v
      = ∑ j : Fin 1024, ((Real.exp (s (lo j) - M) : ℝ) : EReal) * v (lo j) := by
    have e1 : scaled 0 (fun j => (s j : EReal)) = ((Real.exp (m - M) : ℝ) : EReal) * (D1 : EReal) := by
      unfold scaled; rw [hm, hM, hc, hd1]
    rw [e1]
    unfold acc1
    rw [hm, hd1, one_div_coe _ pos1.ne', zero_mul, add_zero, mul_assoc, mul_left_comm (D1 : EReal), ← EReal.coe_mul,
      mul_one_div_cancel pos1.ne', EReal.coe_one, mul_one, mul_sum_real _ (Real.exp_pos _).le]
    refine Finset.sum_congr rfl fun j _ => ?_
    rw [exp_sub_coe, ← mul_assoc, ← EReal.coe_mul, ← Real.exp_add]
    exact congrArg (fun a : ℝ => (Real.exp a : EReal) * v (lo j)) (by ring)
  have hD2 : scaled 0 (fun j => (s j : EReal)) + ∑ j : Fin 1024, Ideal.exp ((s (hi j) : EReal) - (M : EReal))
      = ((∑ j : Fin 2048, Real.exp (s j - M) : ℝ) : EReal) := by
    rw [coe_sum, sum_halves, hsc, coe_sum]
    exact congrArg _ (Finset.sum_congr rfl fun j _ => exp_sub_coe _ _)
  have pos2 : 0 < ∑ j : Fin 2048, Real.exp (s j - M) :=
    Finset.sum_pos (fun j _ => Real.exp_pos _) ⟨0, Finset.mem_univ _⟩
  have posR : 0 < ∑ j : Fin 2048, Real.exp (s j - R) :=
    Finset.sum_pos (fun j _ => Real.exp_pos _) ⟨0, Finset.mem_univ _⟩
  have hrel : ∑ j : Fin 2048, Real.exp (s j - M) = Real.exp (R - M) * ∑ j : Fin 2048, Real.exp (s j - R) := by
    rw [Finset.mul_sum]
    refine Finset.sum_congr rfl fun j _ => ?_
    rw [← Real.exp_add]; exact congrArg Real.exp (by ring)
  have hT : (∑ j : Fin 1024, Ideal.exp ((s (hi j) : EReal) - (M : EReal)) * v (hi j))
      + ∑ j : Fin 1024, ((Real.exp (s (lo j) - M) : ℝ) : EReal) * v (lo j)
      = ∑ j : Fin 2048, ((Real.exp (s j - M) : ℝ) : EReal) * v j := by
    rw [sum_halves (fun j => ((Real.exp (s j - M) : ℝ) : EReal) * v j), add_comm]
    exact congrArg _ (Finset.sum_congr rfl fun j _ => by rw [exp_sub_coe])
  unfold twoHalves
  rw [hacc, hM, hT, hD2, one_div_coe _ pos2.ne', mul_comm, mul_sum_real _ (one_div_nonneg.2 pos2.le)]
  unfold wholeRow
  rw [hR, zero_add, show (∑ k, Ideal.exp ((s k : EReal) - (R : EReal))) = ((∑ j : Fin 2048, Real.exp (s j - R) : ℝ) : EReal) by
    rw [coe_sum]; exact Finset.sum_congr rfl fun j _ => exp_sub_coe _ _]
  refine Finset.sum_congr rfl fun j _ => ?_
  rw [Ideal.div_coe posR.ne', exp_sub_coe, ← mul_assoc, ← EReal.coe_mul, ← EReal.coe_mul, hrel]
  refine congrArg (fun a : ℝ => (a : EReal) * v j) ?_
  have h1 := Real.exp_ne_zero (R - M)
  have h2 := posR.ne'
  have h3 : Real.exp (s j - M) = Real.exp (R - M) * Real.exp (s j - R) := by
    rw [← Real.exp_add]; exact congrArg Real.exp (by ring)
  rw [h3]
  generalize (∑ j : Fin 2048, Real.exp (s j - R)) = D at h2 ⊢
  field_simp

end Cert.Proof.Softmax

end
-- ==== Proof.ProjI.lean ====
/-
  The products, row reductions and broadcasts of the first part of the program read at an index over the extended reals,
  and its projection body: a row of the input times a row of a weight matrix plus a bias.
-/
module

public import proofs.«01_k».proof.Proof.SoftmaxI
public import proofs.«01_k».proof.Proof.Gen.ContextIdeal.Skeleton
public import Idealize.ShloMosaic.Lib.KernelVsHost
public import Idealize.ShloMosaic.Lib.ValueIdx

@[expose] public section

noncomputable section

namespace Cert.Proof.Context

open Cert.ContextIdeal Cert.ContextIdeal.Gen

open Idealize.ShloMosaic
open Idealize.ShloMosaic.ValueIdx
open Cert.Proof.Softmax

/-! ## Equal operands -/

/-- Sums of equal extended reals are equal. -/
theorem addC {a b c d : EReal} (h : a = b) (h' : c = d) : a + c = b + d := by rw [h, h']

/-- Products of equal extended reals are equal. -/
theorem mulC {a b c d : EReal} (h : a = b) (h' : c = d) : a * c = b * d := by rw [h, h']

/-- Maxima of equal extended reals are equal. -/
theorem maxC {a b c d : EReal} (h : a = b) (h' : c = d) : max a c = max b d := by rw [h, h']

/-- Quotients of equal extended reals are equal. -/
theorem divC {a b c d : EReal} (h : a = b) (h' : c = d) : Ideal.div a c = Ideal.div b d := by rw [h, h']

/-! ## Operations at an index -/

section
variable {s : Shape} (a b : FVec Ideal s .f32) (i : s.Idx)

/-- A sum of two arrays at an index. -/
theorem addA : addf a b i = (a i + b i : EReal) := rfl

/-- A difference of two arrays at an index. -/
theorem subA : subf a b i = (a i - b i : EReal) := rfl

/-- A product of two arrays, entry by entry, at an index. -/
theorem mulA : mulf a b i = (a i * b i : EReal) := rfl

/-- A quotient of two arrays at an index. -/
theorem divA : divf a b i = Ideal.div (a i) (b i) := rfl

/-- A maximum of two arrays at an index. -/
theorem maxA : maximumf a b i = max (a i : EReal) (b i) := rfl

/-- The exponential of an array at an index. -/
theorem expA : exp a i = Ideal.exp (a i) := rfl

/-- A number repeated over a shape, at an index. -/
theorem splatA (w : BitVec 32) : broadcast s (Scalar.ofBits (F := Ideal) .f32 w) i = Ideal.ofBits .f32 w := rfl

/-- A choice between two arrays by the equality of two others, at an index. -/
theorem selectA (x y : FVec Ideal s .f32) :
    select (cmpf .oeq x y) a b i = if (x i : EReal) = y i then a i else b i := by
  show (if Ideal.cmp .oeq (x i) (y i) = 1 then a i else b i) = _
  by_cases h : (x i : EReal) = y i
  · rw [if_pos h, if_pos]
    simp [Ideal.cmp, h]
  · rw [if_neg h, if_neg]
    simp [Ideal.cmp, h]

end

/-! ## Products -/

/-- The dimension numbers of the projection's product. -/
abbrev dP : DotDims S512x1024 S64x1024 S512x64 := dot_S512x1024_S64x1024_S512x64_1_1_0_0_n_n

/-- The dimension numbers of the product of queries and keys. -/
abbrev dS : DotDims S512x64 S2048x64 S512x2048 := dot_S512x64_S2048x64_S512x2048_1_1_0_0_n_n

/-- The dimension numbers of the product of weights and values. -/
abbrev dV : DotDims S512x1024 S1024x64 S512x64 := dot_S512x1024_S1024x64_S512x64_1_0_0_1_n_n

/-- The left operand's axis 0 in this product is the result's axis 0. -/
theorem dP_lhs0 (i : S512x64.Idx) (q : dP.contr.Idx) : (dP.lhsIdx i q 0).val = (i 0).val := by
  unfold DotDims.lhsIdx
  rw [dif_neg (show ¬(0 : Fin S512x1024.rank) ∈ dP.lhsBatch by decide),
    dif_pos (show (0 : Fin S512x1024.rank) ∈ dP.lhsNonContracting by decide)]
  rfl

/-- The right operand's axis 0 in this product is the result's axis 1. -/
theorem dP_rhs0 (i : S512x64.Idx) (q : dP.contr.Idx) : (dP.rhsIdx i q 0).val = (i 1).val := by
  unfold DotDims.rhsIdx
  rw [dif_neg (show ¬(0 : Fin S64x1024.rank) ∈ dP.rhsBatch by decide),
    dif_pos (show (0 : Fin S64x1024.rank) ∈ dP.rhsNonContracting by decide)]
  rfl

/-- The left operand's axis 0 in this product is the result's axis 0. -/
theorem dS_lhs0 (i : S512x2048.Idx) (q : dS.contr.Idx) : (dS.lhsIdx i q 0).val = (i 0).val := by
  unfold DotDims.lhsIdx
  rw [dif_neg (show ¬(0 : Fin S512x64.rank) ∈ dS.lhsBatch by decide),
    dif_pos (show (0 : Fin S512x64.rank) ∈ dS.lhsNonContracting by decide)]
  rfl

/-- The right operand's axis 0 in this product is the result's axis 1. -/
theorem dS_rhs0 (i : S512x2048.Idx) (q : dS.contr.Idx) : (dS.rhsIdx i q 0).val = (i 1).val := by
  unfold DotDims.rhsIdx
  rw [dif_neg (show ¬(0 : Fin S2048x64.rank) ∈ dS.rhsBatch by decide),
    dif_pos (show (0 : Fin S2048x64.rank) ∈ dS.rhsNonContracting by decide)]
  rfl

/-- The left operand's axis 0 in this product is the result's axis 0. -/
theorem dV_lhs0 (i : S512x64.Idx) (q : dV.contr.Idx) : (dV.lhsIdx i q 0).val = (i 0).val := by
  unfold DotDims.lhsIdx
  rw [dif_neg (show ¬(0 : Fin S512x1024.rank) ∈ dV.lhsBatch by decide),
    dif_pos (show (0 : Fin S512x1024.rank) ∈ dV.lhsNonContracting by decide)]
  rfl

/-- The right operand's axis 1 in this product is the result's axis 1. -/
theorem dV_rhs1 (i : S512x64.Idx) (q : dV.contr.Idx) : (dV.rhsIdx i q 1).val = (i 1).val := by
  unfold DotDims.rhsIdx
  rw [dif_neg (show ¬(1 : Fin S1024x64.rank) ∈ dV.rhsBatch by decide),
    dif_pos (show (1 : Fin S1024x64.rank) ∈ dV.rhsNonContracting by decide)]
  rfl

/-- The projection's product at row `r`, column `d`: a sum over the 1024 columns. -/
theorem projDot_apply (x : FVec Ideal S512x1024 .f32) (w : FVec Ideal S64x1024 .f32) (r : Fin 512) (d : Fin 64) :
    matmul dP none x w (constant S512x64 .f32 0x00000000#32) (ix2 r d)
      = ∑ k : Fin 1024, (x (ix2 r k) * w (ix2 d k) : EReal) := by
  simp only [matmul]
  rw [Ideal.matmul_constant_zero_apply, ← Equiv.sum_comp (contrEquiv1 dP 1024 rfl rfl).symm]
  refine Finset.sum_congr rfl fun k _ => ?_
  have hk := contrEquiv1_symm_val dP 1024 rfl rfl k
  have el : dP.lhsIdx (ix2 r d) ((contrEquiv1 dP 1024 rfl rfl).symm k) = ix2 r k := funext fun a => Fin.ext (by
    match a with
    | ⟨0, _⟩ => exact dP_lhs0 _ _
    | ⟨1, _⟩ => exact (dP.lhsIdx_val_of_single rfl _ _).trans hk)
  have er : dP.rhsIdx (ix2 r d) ((contrEquiv1 dP 1024 rfl rfl).symm k) = ix2 d k := funext fun a => Fin.ext (by
    match a with
    | ⟨0, _⟩ => exact dP_rhs0 _ _
    | ⟨1, _⟩ => exact (dP.rhsIdx_val_of_single rfl _ _).trans hk)
  rw [el, er]

/-- The product of queries and keys at row `r`, column `j`: a sum over the 64 columns of the head. -/
theorem scoreDot_apply (x : FVec Ideal S512x64 .f32) (w : FVec Ideal S2048x64 .f32) (r : Fin 512) (j : Fin 2048) :
    matmul dS none x w (constant S512x2048 .f32 0x00000000#32) (ix2 r j)
      = ∑ d : Fin 64, (x (ix2 r d) * w (ix2 j d) : EReal) := by
  simp only [matmul]
  rw [Ideal.matmul_constant_zero_apply, ← Equiv.sum_comp (contrEquiv1 dS 64 rfl rfl).symm]
  refine Finset.sum_congr rfl fun k _ => ?_
  have hk := contrEquiv1_symm_val dS 64 rfl rfl k
  have el : dS.lhsIdx (ix2 r j) ((contrEquiv1 dS 64 rfl rfl).symm k) = ix2 r k := funext fun a => Fin.ext (by
    match a with
    | ⟨0, _⟩ => exact dS_lhs0 _ _
    | ⟨1, _⟩ => exact (dS.lhsIdx_val_of_single rfl _ _).trans hk)
  have er : dS.rhsIdx (ix2 r j) ((contrEquiv1 dS 64 rfl rfl).symm k) = ix2 j k := funext fun a => Fin.ext (by
    match a with
    | ⟨0, _⟩ => exact dS_rhs0 _ _
    | ⟨1, _⟩ => exact (dS.rhsIdx_val_of_single rfl _ _).trans hk)
  rw [el, er]

/-- The product of weights and values at row `r`, column `d`: a sum over the 1024 rows of the values. -/
theorem meanDot_apply (x : FVec Ideal S512x1024 .f32) (w : FVec Ideal S1024x64 .f32) (r : Fin 512) (d : Fin 64) :
    matmul dV none x w (constant S512x64 .f32 0x00000000#32) (ix2 r d)
      = ∑ j : Fin 1024, (x (ix2 r j) * w (ix2 j d) : EReal) := by
  simp only [matmul]
  rw [Ideal.matmul_constant_zero_apply, ← Equiv.sum_comp (contrEquiv1 dV 1024 rfl rfl).symm]
  refine Finset.sum_congr rfl fun k _ => ?_
  have hk := contrEquiv1_symm_val dV 1024 rfl rfl k
  have el : dV.lhsIdx (ix2 r d) ((contrEquiv1 dV 1024 rfl rfl).symm k) = ix2 r k := funext fun a => Fin.ext (by
    match a with
    | ⟨0, _⟩ => exact dV_lhs0 _ _
    | ⟨1, _⟩ => exact (dV.lhsIdx_val_of_single rfl _ _).trans hk)
  have er : dV.rhsIdx (ix2 r d) ((contrEquiv1 dV 1024 rfl rfl).symm k) = ix2 k d := funext fun a => Fin.ext (by
    match a with
    | ⟨0, _⟩ => exact (dV.rhsIdx_val_of_single rfl _ _).trans hk
    | ⟨1, _⟩ => exact dV_rhs1 _ _)
  rw [el, er]

/-! ## Rows -/

/-- The maximum of a row, as a column. -/
theorem rowMax_apply (x : FVec Ideal S512x1024 .f32) (r : Fin 512) :
    shapeCast S512x1 (multiReduction .maximumf [1] S512 x 0xFF800000#32 reduces_S512x1024_S512 (.inl rfl) rfl)
        shapeCasts_S512_S512x1 (ix2 r (0 : Fin 1))
      = (Finset.univ : Finset (Fin 1024)).fold max (⊥ : EReal) fun j => x (ix2 r j) := by
  rw [shapeCast_apply _ shapeCasts_S512_S512x1 (ix2 r (0 : Fin 1)) (ix1 r) (by
    rw [Shape.rowMajor_val_one, Shape.rowMajor_val_two]; show r.val = r.val * 1 + 0; omega)]
  refine (Ideal.multiReduction_maximumf_single x _ reduces_S512x1024_S512 (.inl rfl) rfl (ix1 r)).trans ?_
  have h0 : (FloatOps.ofBits (F := Ideal) .f32 0xFF800000#32 : EReal) = ⊥ := by
    show Ideal.ofBits .f32 0xFF800000#32 = ⊥
    simp [Ideal.ofBits, Ideal.ieee]
  refine (congrArg (fun b : EReal => (Finset.univ : Finset (Fin 1024)).fold max b _) h0).trans ?_
  refine congrArg (fun f => (Finset.univ : Finset (Fin 1024)).fold max (⊥ : EReal) f) (funext fun j => ?_)
  refine congrArg x (funext fun a => ?_)
  match a with
  | ⟨0, _⟩ => rfl
  | ⟨1, _⟩ => rfl

/-- The sum of a row, as a column. -/
theorem rowSum_apply (x : FVec Ideal S512x1024 .f32) (r : Fin 512) :
    shapeCast S512x1 (multiReduction .add [1] S512 x 0x00000000#32 reduces_S512x1024_S512 (.inl rfl) rfl)
        shapeCasts_S512_S512x1 (ix2 r (0 : Fin 1))
      = ∑ j : Fin 1024, (x (ix2 r j) : EReal) := by
  rw [shapeCast_apply _ shapeCasts_S512_S512x1 (ix2 r (0 : Fin 1)) (ix1 r) (by
    rw [Shape.rowMajor_val_one, Shape.rowMajor_val_two]; show r.val = r.val * 1 + 0; omega)]
  refine (Ideal.multiReduction_add_single x _ reduces_S512x1024_S512 (.inl rfl) rfl (ix1 r)).trans ?_
  refine Finset.sum_congr rfl fun j _ => congrArg x (funext fun a => ?_)
  match a with
  | ⟨0, _⟩ => rfl
  | ⟨1, _⟩ => rfl

/-- A column repeated along 1024 columns. -/
theorem bcastRow_apply (x : FVec Ideal S512x1 .f32) (r : Fin 512) (j : Fin 1024) :
    broadcastTo S512x1024 x broadcasts_S512x1_S512x1024 (ix2 r j) = x (ix2 r (0 : Fin 1)) :=
  broadcastTo_apply _ _ _ _ fun a => match a with
    | ⟨0, _⟩ => rfl
    | ⟨1, _⟩ => rfl

/-- A column repeated along 64 columns. -/
theorem bcastHead_apply (x : FVec Ideal S512x1 .f32) (r : Fin 512) (d : Fin 64) :
    broadcastTo S512x64 x broadcasts_S512x1_S512x64 (ix2 r d) = x (ix2 r (0 : Fin 1)) :=
  broadcastTo_apply _ _ _ _ fun a => match a with
    | ⟨0, _⟩ => rfl
    | ⟨1, _⟩ => rfl

/-! ## The projection body -/

/-- The projection of one block for one head, at row `r`, column `d`: the row of the input times the row of the weights,
    plus the bias. -/
theorem proj_apply (x : Vec Ideal S512x1024 .f32) (w : Vec Ideal S64x1024 .f32) (b : Vec Ideal S1x1x64 .f32)
    (r : Fin 512) (d : Fin 64) :
    k0_pay2 (F := Ideal) x w b (ix3 (0 : Fin 1) r d)
      = (∑ k : Fin 1024, (x (ix2 r k) * w (ix2 d k) : EReal)) + b (ix3 (0 : Fin 1) (0 : Fin 1) d) := by
  unfold k0_pay2 k0_pay1
  try dsimp only
  rw [shapeCast_apply _ shapeCasts_S512x64_S1x512x64 (ix3 (0 : Fin 1) r d) (ix2 r d) (by
    rw [Shape.rowMajor_val_two, Shape.rowMajor_val_three]
    show r.val * 64 + d.val = (0 * 512 + r.val) * 64 + d.val; omega)]
  refine addC ?_ ?_
  · refine (projDot_apply _ w r d).trans (Finset.sum_congr rfl fun k _ => ?_)
    rw [shapeCast_apply x _ (ix2 r k) (ix2 r k) rfl]
  · rw [broadcastTo_apply _ broadcasts_S1x64_S512x64 (ix2 r d) (ix2 (0 : Fin 1) d) (fun a => match a with
      | ⟨0, _⟩ => rfl
      | ⟨1, _⟩ => rfl),
      shapeCast_apply _ shapeCasts_S1x1x64_S1x64 (ix2 (0 : Fin 1) d) (ix3 (0 : Fin 1) (0 : Fin 1) d) (by
        rw [Shape.rowMajor_val_two, Shape.rowMajor_val_three]
        show (0 * 1 + 0) * 64 + d.val = 0 * 64 + d.val; omega),
      shapeCast_apply b _ _ (ix3 (0 : Fin 1) (0 : Fin 1) d) rfl]

/-- The second and third projections are the first at their own operands. -/
theorem pay3_eq : k0_pay3 (F := Ideal) = k0_pay2 := rfl
theorem pay4_eq : k0_pay4 (F := Ideal) = k0_pay2 := rfl

end Cert.Proof.Context

end
-- ==== Proof.AttnI.lean ====
/-
  The attention body of the first part of the program, read at an index over the extended reals: the weighted mean of a
  column of values under the softmax of a row of scores, taken in two halves.
-/
module

public import proofs.«01_k».proof.Proof.ProjI

@[expose] public section

noncomputable section

namespace Cert.Proof.Context

open Cert.ContextIdeal Cert.ContextIdeal.Gen

open Idealize.ShloMosaic
open Idealize.ShloMosaic.ValueIdx
open Cert.Proof.Softmax

/-! ## The scores -/

/-- One, as the printed constant reads. -/
theorem ofBits_one : Ideal.ofBits .f32 0x3F800000#32 = (1 : EReal) := by
  simp [Ideal.ofBits, Ideal.ieee]
  rw [← EReal.coe_mul]
  norm_num

/-- The score of row `r` of a block of queries against row `j` of the keys: their product times an eighth. -/
def scoreB (q : Vec Ideal S1x512x64 .f32) (k : Vec Ideal S1x2048x64 .f32) (r : Fin 512) (j : Fin 2048) : EReal :=
  (∑ d : Fin 64, (q (ix3 (0 : Fin 1) r d) * k (ix3 (0 : Fin 1) j d) : EReal)) * ((1 / 8 : ℝ) : EReal)

/-- The column of a block of values. -/
def valB (v : Vec Ideal S1x2048x64 .f32) (d : Fin 64) (j : Fin 2048) : EReal := v (ix3 (0 : Fin 1) j d)

variable (q : Vec Ideal S1x512x64 .f32) (k v : Vec Ideal S1x2048x64 .f32)

/-- The scores at an index. -/
theorem pay3_apply (r : Fin 512) (j : Fin 2048) : k1_pay3 (F := Ideal) q k (ix2 r j) = scoreB q k r j := by
  unfold k1_pay3 scoreB
  try dsimp only
  rw [mulA, splatA]
  refine mulC ?_ ?_
  · refine (scoreDot_apply _ _ r j).trans (Finset.sum_congr rfl fun d _ => ?_)
    rw [shapeCast_apply q shapeCasts_S1x512x64_S512x64 (ix2 r d) (ix3 (0 : Fin 1) r d) (by
        rw [Shape.rowMajor_val_two, Shape.rowMajor_val_three]
        show (0 * 512 + r.val) * 64 + d.val = r.val * 64 + d.val; omega),
      shapeCast_apply k shapeCasts_S1x2048x64_S2048x64 (ix2 j d) (ix3 (0 : Fin 1) j d) (by
        rw [Shape.rowMajor_val_two, Shape.rowMajor_val_three]
        show (0 * 2048 + j.val) * 64 + d.val = j.val * 64 + d.val; omega)]
  · simp [Ideal.ofBits, Ideal.ieee]
    rw [← EReal.coe_mul]
    norm_num

/-- The scores of the first half. -/
theorem pay5_apply (r : Fin 512) (j : Fin 1024) : k1_pay5 (F := Ideal) q k (ix2 r j) = scoreB q k r (lo j) := by
  unfold k1_pay5
  try dsimp only
  rw [extractStridedSlice_apply _ _ slices_S512x2048_o0_0_S512x1024 (ix2 r j) (ix2 r (lo j)) (fun a => match a with
    | ⟨0, _⟩ => (Nat.zero_add _).symm
    | ⟨1, _⟩ => (Nat.zero_add _).symm)]
  exact pay3_apply q k r (lo j)

/-- The scores of the second half. -/
theorem pay11_apply (r : Fin 512) (j : Fin 1024) : k1_pay11 (F := Ideal) q k (ix2 r j) = scoreB q k r (hi j) := by
  unfold k1_pay11
  try dsimp only
  rw [extractStridedSlice_apply _ _ slices_S512x2048_o0_1024_S512x1024 (ix2 r j) (ix2 r (hi j)) (fun a => match a with
    | ⟨0, _⟩ => (Nat.zero_add _).symm
    | ⟨1, _⟩ => rfl)]
  exact pay3_apply q k r (hi j)

/-- The maximum of the first half. -/
theorem pay6_apply (r : Fin 512) : k1_pay6 (F := Ideal) q k (ix2 r (0 : Fin 1)) = max1 (scoreB q k r) := by
  unfold k1_pay6 max1
  try dsimp only
  rw [maxA]
  unfold k1_pay4
  try dsimp only
  rw [splatA]
  refine maxC ?_ ?_
  · simp [Ideal.ofBits, Ideal.ieee]
  · rw [rowMax_apply]
    exact congrArg (fun f => (Finset.univ : Finset (Fin 1024)).fold max (⊥ : EReal) f) (funext fun j => pay5_apply q k r j)

/-- The exponentials of the first half. -/
theorem pay7_apply (r : Fin 512) (j : Fin 1024) :
    k1_pay7 (F := Ideal) q k (ix2 r j) = Ideal.exp (scoreB q k r (lo j) - max1 (scoreB q k r)) := by
  unfold k1_pay7
  try dsimp only
  rw [expA, subA, bcastRow_apply, pay5_apply, pay6_apply]

/-- The sum the first half starts from is zero. -/
theorem pay8_apply (r : Fin 512) : k1_pay8 (F := Ideal) q k (ix2 r (0 : Fin 1)) = (0 : EReal) := by
  unfold k1_pay8
  try dsimp only
  rw [mulA, splatA, Ideal.ofBits_zero_f32]
  exact mul_zero (M₀ := EReal) _

/-- The sum of exponentials of the first half. -/
theorem pay9_apply (r : Fin 512) : k1_pay9 (F := Ideal) q k (ix2 r (0 : Fin 1)) = den1 0 (scoreB q k r) := by
  unfold k1_pay9 den1
  try dsimp only
  rw [addA, pay8_apply, rowSum_apply]
  refine addC rfl ?_
  exact Finset.sum_congr rfl fun j _ => pay7_apply q k r j

/-- The weighted mean of the first half. -/
theorem pay10_apply (r : Fin 512) (d : Fin 64) :
    k1_pay10 (F := Ideal) q k v (ix2 r d) = acc1 0 (scoreB q k r) (valB v d) := by
  unfold k1_pay10 acc1
  try dsimp only
  rw [mulA, addA, mulA, bcastHead_apply, bcastHead_apply, pay8_apply, splatA, Ideal.ofBits_zero_f32, divA, splatA, ofBits_one,
    pay9_apply]
  refine mulC (addC ?_ rfl) rfl
  · refine (meanDot_apply _ _ r d).trans (Finset.sum_congr rfl fun j _ => ?_)
    rw [pay7_apply]
    refine congrArg (fun c : EReal => Ideal.exp (scoreB q k r (lo j) - max1 (scoreB q k r)) * c) ?_
    unfold k1_pay2 valB
    try dsimp only
    rw [extractStridedSlice_apply _ _ slices_S2048x64_o0_0_S1024x64 (ix2 j d) (ix2 (lo j) d) (fun a => match a with
      | ⟨0, _⟩ => (Nat.zero_add _).symm
      | ⟨1, _⟩ => (Nat.zero_add _).symm),
      shapeCast_apply v shapeCasts_S1x2048x64_S2048x64 (ix2 (lo j) d) (ix3 (0 : Fin 1) (lo j) d) (by
        rw [Shape.rowMajor_val_two, Shape.rowMajor_val_three]
        show (0 * 2048 + j.val) * 64 + d.val = j.val * 64 + d.val; omega)]

/-- The attention body at row `r`, column `d`: the weighted mean of the column of the values, taken in two halves. -/
theorem attn_apply (r : Fin 512) (d : Fin 64) :
    k1_pay1 (F := Ideal) (k1_pay2 v) (k1_pay6 q k) (k1_pay9 q k) (k1_pay10 q k v) (k1_pay11 q k) (ix3 (0 : Fin 1) r d)
      = twoHalves 0 (scoreB q k r) (valB v d) := by
  have hmax : (maximumf (k1_pay6 (F := Ideal) q k) (shapeCast S512x1 (multiReduction .maximumf [1] S512 (k1_pay11 (F := Ideal) q k) 0xFF800000#32
      reduces_S512x1024_S512 (.inl rfl) rfl) shapeCasts_S512_S512x1)) (ix2 r (0 : Fin 1)) = max2 (scoreB q k r) := by
    unfold max2
    rw [maxA, pay6_apply, rowMax_apply]
    refine maxC rfl ?_
    exact congrArg (fun f => (Finset.univ : Finset (Fin 1024)).fold max (⊥ : EReal) f) (funext fun j => pay11_apply q k r j)
  unfold k1_pay1
  try dsimp only
  rw [shapeCast_apply _ shapeCasts_S512x64_S1x512x64 (ix3 (0 : Fin 1) r d) (ix2 r d) (by
    rw [Shape.rowMajor_val_two, Shape.rowMajor_val_three]
    show r.val * 64 + d.val = (0 * 512 + r.val) * 64 + d.val; omega)]
  generalize hM : maximumf (k1_pay6 (F := Ideal) q k) (shapeCast S512x1 (multiReduction .maximumf [1] S512 (k1_pay11 (F := Ideal) q k) 0xFF800000#32
      reduces_S512x1024_S512 (.inl rfl) rfl) shapeCasts_S512_S512x1) = M at hmax ⊢
  have hexp : ∀ j : Fin 1024, (exp (subf (k1_pay11 (F := Ideal) q k) (broadcastTo S512x1024 M broadcasts_S512x1_S512x1024))) (ix2 r j)
      = Ideal.exp (scoreB q k r (hi j) - max2 (scoreB q k r)) := fun j => by
    rw [expA, subA, bcastRow_apply, pay11_apply, hmax]
  have hsc : (mulf (exp (select (cmpf .oeq (k1_pay6 (F := Ideal) q k) M) (broadcast S512x1 (Scalar.ofBits .f32 0x00000000#32))
      (subf (k1_pay6 (F := Ideal) q k) M))) (k1_pay9 (F := Ideal) q k)) (ix2 r (0 : Fin 1)) = scaled 0 (scoreB q k r) := by
    unfold scaled
    rw [mulA, expA, selectA, subA, splatA, pay9_apply, pay6_apply, hmax, Ideal.ofBits_zero_f32]
  generalize mulf (exp (select (cmpf .oeq (k1_pay6 (F := Ideal) q k) M) (broadcast S512x1 (Scalar.ofBits .f32 0x00000000#32))
      (subf (k1_pay6 (F := Ideal) q k) M))) (k1_pay9 (F := Ideal) q k) = C at hsc ⊢
  generalize exp (subf (k1_pay11 (F := Ideal) q k) (broadcastTo S512x1024 M broadcasts_S512x1_S512x1024)) = E at hexp ⊢
  unfold twoHalves
  rw [mulA, addA, mulA, bcastHead_apply, bcastHead_apply, hsc, pay10_apply, divA, splatA, ofBits_one, addA, hsc, rowSum_apply,
    Finset.sum_congr rfl fun j _ => hexp j]
  refine mulC (addC ?_ rfl) rfl
  · refine (meanDot_apply _ _ r d).trans (Finset.sum_congr rfl fun j _ => ?_)
    rw [hexp]
    refine congrArg (fun c : EReal => Ideal.exp (scoreB q k r (hi j) - max2 (scoreB q k r)) * c) ?_
    unfold k1_pay2 valB
    try dsimp only
    rw [extractStridedSlice_apply _ _ slices_S2048x64_o1024_0_S1024x64 (ix2 j d) (ix2 (hi j) d) (fun a => match a with
      | ⟨0, _⟩ => rfl
      | ⟨1, _⟩ => (Nat.zero_add _).symm),
      shapeCast_apply v shapeCasts_S1x2048x64_S2048x64 (ix2 (hi j) d) (ix3 (0 : Fin 1) (hi j) d) (by
        rw [Shape.rowMajor_val_two, Shape.rowMajor_val_three]
        show (0 * 2048 + (1024 + j.val)) * 64 + d.val = (1024 + j.val) * 64 + d.val; omega)]

end Cert.Proof.Context

end
-- ==== Proof.BlocksI.lean ====
/-
  The two regions of the first part of the program, block by block: what each of their result arrays holds after the
  region, at every index, from what the region's operands hold at its entry. The first region leaves the queries, keys and
  values of each head; the second the weighted mean of each head.
-/
module

public import proofs.«01_k».proof.Proof.AttnI
public import proofs.«01_k».proof.Proof.Gen.ContextIdeal.Frame
public import Idealize.ShloMosaic.Lib.Pipeline.FrameBody
public import Idealize.ShloMosaic.Lib.Pipeline.ValueKit
public import Idealize.ShloMosaic.Lib.VecWindow

@[expose] public section

noncomputable section

namespace Cert.Proof.Context

open Cert.ContextIdeal Cert.ContextIdeal.Gen

open Idealize.ShloMosaic hiding ix1 ix2 ix3 ix4
open Idealize.ShloMosaic.TcCoe
open Idealize.ShloMosaic.ValueIdx
open Idealize.ShloMosaic.Pipeline (Dat Cfg Window)
open Cert.Proof.Softmax

/-! ## What the arrays hold -/

/-- The column of the weights that belongs to head `h`, column `d`. -/
abbrev headCol (h : Fin 16) (d : Fin 64) : Fin 1024 := ⟨h.val * 64 + d.val, by omega⟩

/-- A projection laid out by heads: at head `h`, row `r`, column `d` the row of the input times the row of the weights
    that belongs to the head and column, plus the bias. -/
def projArr (x : S2048x1024.Idx → EReal) (w : S1024x1024.Idx → EReal) (b : S16x1x64.Idx → EReal) (i : S16x2048x64.Idx) : EReal :=
  (∑ k : Fin 1024, x (ix2 (i 1 : Fin 2048) k) * w (ix2 (headCol (i 0) (i 2)) k)) + b (ix3 (i 0 : Fin 16) (0 : Fin 1) (i 2 : Fin 64))

/-- The score of row `r` against row `j` in head `h`. -/
def scoreH (q k : S16x2048x64.Idx → EReal) (h : Fin 16) (r j : Fin 2048) : EReal :=
  (∑ d : Fin 64, q (ix3 h r d) * k (ix3 h j d)) * ((1 / 8 : ℝ) : EReal)

/-- The weighted means laid out by heads. -/
def attnArr (q k v : S16x2048x64.Idx → EReal) (i : S16x2048x64.Idx) : EReal :=
  twoHalves 0 (scoreH q k (i 0) (i 1)) fun j => v (ix3 (i 0 : Fin 16) j (i 2 : Fin 64))

/-! ## The first region -/

variable (V : (c : Dev nD) → (b : Ref sig .tc) → Buf (Elt Ideal) ((c : Thread nD τ).loc b))

theorem at0_0 : ∀ t : Fin cfg0.N, win0_0.index t = ![t.val / 16, 0] := (by decide +kernel : ∀ t : Fin grid0.N, _)
theorem at0_1 : ∀ t : Fin cfg0.N, win0_1.index t = ![t.val % 16, 0] := (by decide +kernel : ∀ t : Fin grid0.N, _)
theorem at0_2 : ∀ t : Fin cfg0.N, win0_2.index t = ![t.val % 16, 0] := (by decide +kernel : ∀ t : Fin grid0.N, _)
theorem at0_3 : ∀ t : Fin cfg0.N, win0_3.index t = ![t.val % 16, 0] := (by decide +kernel : ∀ t : Fin grid0.N, _)
theorem at0_4 : ∀ t : Fin cfg0.N, win0_4.index t = ![t.val % 16, 0, 0] := (by decide +kernel : ∀ t : Fin grid0.N, _)
theorem at0_5 : ∀ t : Fin cfg0.N, win0_5.index t = ![t.val % 16, 0, 0] := (by decide +kernel : ∀ t : Fin grid0.N, _)
theorem at0_6 : ∀ t : Fin cfg0.N, win0_6.index t = ![t.val % 16, 0, 0] := (by decide +kernel : ∀ t : Fin grid0.N, _)
theorem at0_7 : ∀ t : Fin cfg0.N, win0_7.index t = ![t.val % 16, t.val / 16, 0] := (by decide +kernel : ∀ t : Fin grid0.N, _)
theorem at0_8 : ∀ t : Fin cfg0.N, win0_8.index t = ![t.val % 16, t.val / 16, 0] := (by decide +kernel : ∀ t : Fin grid0.N, _)
theorem at0_9 : ∀ t : Fin cfg0.N, win0_9.index t = ![t.val % 16, t.val / 16, 0] := (by decide +kernel : ∀ t : Fin grid0.N, _)

/-- Row `r` of the input's block at point `t` is row `t / 16 * 512 + r` of the input. -/
theorem blkX (c : Dev nD) (t : Fin cfg0.N) (r : Fin 512) (k : Fin 1024) (R : Fin 2048) (hR : R.val = t.val / 16 * 512 + r.val) :
    iblk0 V c 0 t (ix2 r k) = V c main_v0 (ix2 R k) := by
  refine congrArg (V c main_v0) (funext fun a => Fin.ext ?_)
  match a with
  | ⟨0, _⟩ => blk_simp [at0_0 t]; exact hR.symm
  | ⟨1, _⟩ => blk_simp [at0_0 t]

/-- Row `d` of the block of the query weights at point `t` is row `t % 16 * 64 + d` of the weights. -/
theorem blkW1 (c : Dev nD) (t : Fin cfg0.N) (d : Fin 64) (k : Fin 1024) (R : Fin 1024) (hR : R.val = t.val % 16 * 64 + d.val) :
    iblk0 V c 1 t (ix2 d k) = V c main_arg1 (ix2 R k) := by
  refine congrArg (V c main_arg1) (funext fun a => Fin.ext ?_)
  match a with
  | ⟨0, _⟩ => blk_simp [at0_1 t]; exact hR.symm
  | ⟨1, _⟩ => blk_simp [at0_1 t]

/-- Row `d` of the block of the key weights at point `t` is row `t % 16 * 64 + d` of the weights. -/
theorem blkW2 (c : Dev nD) (t : Fin cfg0.N) (d : Fin 64) (k : Fin 1024) (R : Fin 1024) (hR : R.val = t.val % 16 * 64 + d.val) :
    iblk0 V c 2 t (ix2 d k) = V c main_arg3 (ix2 R k) := by
  refine congrArg (V c main_arg3) (funext fun a => Fin.ext ?_)
  match a with
  | ⟨0, _⟩ => blk_simp [at0_2 t]; exact hR.symm
  | ⟨1, _⟩ => blk_simp [at0_2 t]

/-- Row `d` of the block of the value weights at point `t` is row `t % 16 * 64 + d` of the weights. -/
theorem blkW3 (c : Dev nD) (t : Fin cfg0.N) (d : Fin 64) (k : Fin 1024) (R : Fin 1024) (hR : R.val = t.val % 16 * 64 + d.val) :
    iblk0 V c 3 t (ix2 d k) = V c main_arg5 (ix2 R k) := by
  refine congrArg (V c main_arg5) (funext fun a => Fin.ext ?_)
  match a with
  | ⟨0, _⟩ => blk_simp [at0_3 t]; exact hR.symm
  | ⟨1, _⟩ => blk_simp [at0_3 t]

/-- The block of the query bias at point `t` is the bias of head `t % 16`. -/
theorem blkB4 (c : Dev nD) (t : Fin cfg0.N) (d : Fin 64) (h : Fin 16) (hh : h.val = t.val % 16) :
    iblk0 V c 4 t (ix3 (0 : Fin 1) (0 : Fin 1) d) = V c main_v1 (ix3 h (0 : Fin 1) d) := by
  refine congrArg (V c main_v1) (funext fun a => Fin.ext ?_)
  match a with
  | ⟨0, _⟩ => blk_simp [at0_4 t]; exact hh.symm
  | ⟨1, _⟩ => blk_simp [at0_4 t]
  | ⟨2, _⟩ => blk_simp [at0_4 t]

/-- The block of the key bias at point `t` is the bias of head `t % 16`. -/
theorem blkB5 (c : Dev nD) (t : Fin cfg0.N) (d : Fin 64) (h : Fin 16) (hh : h.val = t.val % 16) :
    iblk0 V c 5 t (ix3 (0 : Fin 1) (0 : Fin 1) d) = V c main_v2 (ix3 h (0 : Fin 1) d) := by
  refine congrArg (V c main_v2) (funext fun a => Fin.ext ?_)
  match a with
  | ⟨0, _⟩ => blk_simp [at0_5 t]; exact hh.symm
  | ⟨1, _⟩ => blk_simp [at0_5 t]
  | ⟨2, _⟩ => blk_simp [at0_5 t]

/-- The block of the value bias at point `t` is the bias of head `t % 16`. -/
theorem blkB6 (c : Dev nD) (t : Fin cfg0.N) (d : Fin 64) (h : Fin 16) (hh : h.val = t.val % 16) :
    iblk0 V c 6 t (ix3 (0 : Fin 1) (0 : Fin 1) d) = V c main_v3 (ix3 h (0 : Fin 1) d) := by
  refine congrArg (V c main_v3) (funext fun a => Fin.ext ?_)
  match a with
  | ⟨0, _⟩ => blk_simp [at0_6 t]; exact hh.symm
  | ⟨1, _⟩ => blk_simp [at0_6 t]
  | ⟨2, _⟩ => blk_simp [at0_6 t]

/-- An index of an output block of the first region is a row and a column. -/
theorem blkIdx (y : S1x512x64.Idx) : ∃ (r : Fin 512) (d : Fin 64), y = ix3 (0 : Fin 1) r d := by
  refine ⟨y 1, y 2, funext fun a => ?_⟩
  match a with
  | ⟨0, _⟩ => exact Fin.ext (by have : (y 0).val < 1 := (y 0).isLt; show (y 0).val = 0; omega)
  | ⟨1, _⟩ => rfl
  | ⟨2, _⟩ => rfl

/-- An index of an array by heads whose coordinates have the values of `h`, `r`, `d` is `ix3 h r d`. -/
theorem headIdx (i : S16x2048x64.Idx) (h : Fin 16) (r : Fin 2048) (d : Fin 64)
    (e0 : ((i 0 : Fin _) : ℕ) = h.val) (e1 : ((i 1 : Fin _) : ℕ) = r.val) (e2 : ((i 2 : Fin _) : ℕ) = d.val) : i = ix3 h r d := by
  funext a
  match a with
  | ⟨0, _⟩ => exact Fin.ext e0
  | ⟨1, _⟩ => exact Fin.ext e1
  | ⟨2, _⟩ => exact Fin.ext e2

/-- What a block of the projection holds, from what the blocks of its operands hold. -/
theorem projBlk (x : S2048x1024.Idx → EReal) (w : S1024x1024.Idx → EReal) (b : S16x1x64.Idx → EReal)
    (X : S512x1024.Idx → EReal) (W : S64x1024.Idx → EReal) (B : S1x1x64.Idx → EReal) (r : Fin 512) (d : Fin 64) (h : Fin 16) (R : Fin 2048)
    (hX : ∀ k : Fin 1024, X (ix2 r k) = x (ix2 R k)) (hW : ∀ k : Fin 1024, W (ix2 d k) = w (ix2 (headCol h d) k))
    (hB : B (ix3 (0 : Fin 1) (0 : Fin 1) d) = b (ix3 h (0 : Fin 1) d)) :
    k0_pay2 (F := Ideal) X W B (ix3 (0 : Fin 1) r d) = projArr x w b (ix3 h R d) := by
  refine (proj_apply X W B r d).trans ?_
  rw [hB]
  refine congrArg (· + b (ix3 h (0 : Fin 1) d)) (Finset.sum_congr rfl fun k _ => ?_)
  rw [hX k, hW k]

/-- The head and the row of an index of an output block of the first region, in range. -/
theorem pt0 (t : Fin cfg0.N) : t.val / 16 < 4 := by
  have : t.val < 64 := t.isLt
  omega

/-- After the first region the array of queries holds the projection of the input by the weights and the bias of the queries. -/
theorem arr_q (c : Dev nD) : (dat0 V c).arrAt 7 cfg0.N = projArr (V c main_v0) (V c main_arg1) (V c main_v1) := by
  refine (dat0 V c).arrAt_eq_of_covers 7 _ (by decide +kernel) fun t hf y => ?_
  blk_simp
  rw [after0_7]
  frame_out
  obtain ⟨r, d, rfl⟩ := blkIdx y
  have ht := pt0 t
  have e := headIdx (((View.whole main_v4_0).slice (win0_7.rect t)).emb (ix3 (0 : Fin 1) r d)) ⟨t.val % 16, by omega⟩
    ⟨t.val / 16 * 512 + r.val, by omega⟩ d (by blk_simp [at0_7 t]) (by blk_simp [at0_7 t]) (by blk_simp [at0_7 t])
  refine Eq.trans ?_ (congrArg (projArr (V c main_v0) (V c main_arg1) (V c main_v1)) e.symm)
  exact projBlk _ _ _ _ _ _ r d _ _ (fun k => blkX V c t r k _ rfl) (fun k => blkW1 V c t d k _ rfl) (blkB4 V c t d _ rfl)

/-- After the first region the array of keys holds the projection of the input by the weights and the bias of the keys. -/
theorem arr_k (c : Dev nD) : (dat0 V c).arrAt 8 cfg0.N = projArr (V c main_v0) (V c main_arg3) (V c main_v2) := by
  refine (dat0 V c).arrAt_eq_of_covers 8 _ (by decide +kernel) fun t hf y => ?_
  blk_simp
  rw [after0_8]
  frame_out
  rw [pay3_eq]
  obtain ⟨r, d, rfl⟩ := blkIdx y
  have ht := pt0 t
  have e := headIdx (((View.whole main_v4_1).slice (win0_8.rect t)).emb (ix3 (0 : Fin 1) r d)) ⟨t.val % 16, by omega⟩
    ⟨t.val / 16 * 512 + r.val, by omega⟩ d (by blk_simp [at0_8 t]) (by blk_simp [at0_8 t]) (by blk_simp [at0_8 t])
  refine Eq.trans ?_ (congrArg (projArr (V c main_v0) (V c main_arg3) (V c main_v2)) e.symm)
  exact projBlk _ _ _ _ _ _ r d _ _ (fun k => blkX V c t r k _ rfl) (fun k => blkW2 V c t d k _ rfl) (blkB5 V c t d _ rfl)

/-- After the first region the array of values holds the projection of the input by the weights and the bias of the values. -/
theorem arr_v (c : Dev nD) : (dat0 V c).arrAt 9 cfg0.N = projArr (V c main_v0) (V c main_arg5) (V c main_v3) := by
  refine (dat0 V c).arrAt_eq_of_covers 9 _ (by decide +kernel) fun t hf y => ?_
  blk_simp
  rw [after0_9]
  frame_out
  rw [pay4_eq]
  obtain ⟨r, d, rfl⟩ := blkIdx y
  have ht := pt0 t
  have e := headIdx (((View.whole main_v4_2).slice (win0_9.rect t)).emb (ix3 (0 : Fin 1) r d)) ⟨t.val % 16, by omega⟩
    ⟨t.val / 16 * 512 + r.val, by omega⟩ d (by blk_simp [at0_9 t]) (by blk_simp [at0_9 t]) (by blk_simp [at0_9 t])
  refine Eq.trans ?_ (congrArg (projArr (V c main_v0) (V c main_arg5) (V c main_v3)) e.symm)
  exact projBlk _ _ _ _ _ _ r d _ _ (fun k => blkX V c t r k _ rfl) (fun k => blkW3 V c t d k _ rfl) (blkB6 V c t d _ rfl)

/-! ## The second region -/

theorem at1_0 : ∀ t : Fin cfg1.N, win1_0.index t = ![t.val / 4, t.val % 4, 0] := (by decide +kernel : ∀ t : Fin grid1.N, _)
theorem at1_1 : ∀ t : Fin cfg1.N, win1_1.index t = ![t.val / 4, 0, 0] := (by decide +kernel : ∀ t : Fin grid1.N, _)
theorem at1_2 : ∀ t : Fin cfg1.N, win1_2.index t = ![t.val / 4, 0, 0] := (by decide +kernel : ∀ t : Fin grid1.N, _)
theorem at1_3 : ∀ t : Fin cfg1.N, win1_3.index t = ![t.val / 4, t.val % 4, 0] := (by decide +kernel : ∀ t : Fin grid1.N, _)

/-- Row `r` of the block of queries at point `t` is row `t % 4 * 512 + r` of head `t / 4`. -/
theorem blkQ (c : Dev nD) (t : Fin cfg1.N) (r : Fin 512) (d : Fin 64) (h : Fin 16) (R : Fin 2048) (hh : h.val = t.val / 4)
    (hR : R.val = t.val % 4 * 512 + r.val) :
    iblk1 V c 0 t (ix3 (0 : Fin 1) r d) = V c main_v4_0 (ix3 h R d) := by
  refine congrArg (V c main_v4_0) (funext fun a => Fin.ext ?_)
  match a with
  | ⟨0, _⟩ => blk_simp [at1_0 t]; exact hh.symm
  | ⟨1, _⟩ => blk_simp [at1_0 t]; exact hR.symm
  | ⟨2, _⟩ => blk_simp [at1_0 t]

/-- The block of keys at point `t` is head `t / 4` of the keys. -/
theorem blkK (c : Dev nD) (t : Fin cfg1.N) (j : Fin 2048) (d : Fin 64) (h : Fin 16) (hh : h.val = t.val / 4) :
    iblk1 V c 1 t (ix3 (0 : Fin 1) j d) = V c main_v4_1 (ix3 h j d) := by
  refine congrArg (V c main_v4_1) (funext fun a => Fin.ext ?_)
  match a with
  | ⟨0, _⟩ => blk_simp [at1_1 t]; exact hh.symm
  | ⟨1, _⟩ => blk_simp [at1_1 t]
  | ⟨2, _⟩ => blk_simp [at1_1 t]

/-- The block of values at point `t` is head `t / 4` of the values. -/
theorem blkV (c : Dev nD) (t : Fin cfg1.N) (j : Fin 2048) (d : Fin 64) (h : Fin 16) (hh : h.val = t.val / 4) :
    iblk1 V c 2 t (ix3 (0 : Fin 1) j d) = V c main_v4_2 (ix3 h j d) := by
  refine congrArg (V c main_v4_2) (funext fun a => Fin.ext ?_)
  match a with
  | ⟨0, _⟩ => blk_simp [at1_2 t]; exact hh.symm
  | ⟨1, _⟩ => blk_simp [at1_2 t]
  | ⟨2, _⟩ => blk_simp [at1_2 t]

/-- What a block of the weighted means holds, from what the blocks of its operands hold. -/
theorem attnBlk (q k v : S16x2048x64.Idx → EReal) (Q : S1x512x64.Idx → EReal) (K Vv : S1x2048x64.Idx → EReal) (r : Fin 512) (d : Fin 64)
    (h : Fin 16) (R : Fin 2048) (hQ : ∀ d : Fin 64, Q (ix3 (0 : Fin 1) r d) = q (ix3 h R d))
    (hK : ∀ (j : Fin 2048) (d : Fin 64), K (ix3 (0 : Fin 1) j d) = k (ix3 h j d))
    (hV : ∀ (j : Fin 2048) (d : Fin 64), Vv (ix3 (0 : Fin 1) j d) = v (ix3 h j d)) :
    k1_pay1 (F := Ideal) (k1_pay2 Vv) (k1_pay6 Q K) (k1_pay9 Q K) (k1_pay10 Q K Vv) (k1_pay11 Q K) (ix3 (0 : Fin 1) r d)
      = attnArr q k v (ix3 h R d) := by
  refine (attn_apply Q K Vv r d).trans ?_
  have hs : scoreB Q K r = scoreH q k h R := by
    funext j
    unfold scoreB scoreH
    refine congrArg (· * ((1 / 8 : ℝ) : EReal)) (Finset.sum_congr rfl fun e _ => ?_)
    rw [hQ e, hK j e]
  have hv : valB Vv d = fun j => v (ix3 h j d) := funext fun j => hV j d
  rw [hs, hv]
  rfl

/-- After the second region its array holds the weighted means of every head. -/
theorem arr_ctx (c : Dev nD) : (dat1 V c).arrAt 3 cfg1.N = attnArr (V c main_v4_0) (V c main_v4_1) (V c main_v4_2) := by
  refine (dat1 V c).arrAt_eq_of_covers 3 _ (by decide +kernel) fun t hf y => ?_
  blk_simp
  rw [after1_3]
  frame_out
  obtain ⟨r, d, rfl⟩ := blkIdx y
  have ht : t.val < 64 := t.isLt
  have e := headIdx (((View.whole main_v5).slice (win1_3.rect t)).emb (ix3 (0 : Fin 1) r d)) ⟨t.val / 4, by omega⟩
    ⟨t.val % 4 * 512 + r.val, by omega⟩ d (by blk_simp [at1_3 t]) (by blk_simp [at1_3 t]) (by blk_simp [at1_3 t])
  refine Eq.trans ?_ (congrArg (attnArr (V c main_v4_0) (V c main_v4_1) (V c main_v4_2)) e.symm)
  exact attnBlk _ _ _ _ _ _ r d _ _ (fun d => blkQ V c t r d _ _ rfl rfl) (fun j d => blkK V c t j d _ rfl) (fun j d => blkV V c t j d _ rfl)

end Cert.Proof.Context

end
-- ==== Proof.ContextI.lean ====
/-
  The first part of the program, run: from any memory with every counter at zero it ends, leaves its arguments as they
  were, and leaves in its result array the weighted means of the heads of the projected input, side by side.
-/
module

public import proofs.«01_k».proof.Proof.BlocksI

@[expose] public section

noncomputable section

namespace Cert.Proof.Context

open Cert.ContextIdeal Cert.ContextIdeal.Gen

open Idealize.ShloMosaic hiding ix1 ix2 ix3 ix4
open Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Softmax

/-! ## The result, of the arguments -/

/-- A projection of the input by heads: at head `h`, row `r`, column `d` the row of the input times the row of the
    weights that belongs to the head and column, plus the bias there. -/
def headProj (x : S1x2048x1024.Idx → EReal) (w : S1024x1024.Idx → EReal) (b : S1024.Idx → EReal) (i : S16x2048x64.Idx) : EReal :=
  (∑ k : Fin 1024, x (ix3 (0 : Fin 1) (i 1 : Fin 2048) k) * w (ix2 (headCol (i 0) (i 2)) k)) + b (ix1 (headCol (i 0) (i 2)))

/-- The weighted means laid out side by side: column `n` is column `n % 64` of head `n / 64`. -/
def sideBySide (a : S16x2048x64.Idx → EReal) (i : S1x2048x1024.Idx) : EReal :=
  a (ix3 (⟨(i 2).val / 64, by have : (i 2).val < 1024 := (i 2).isLt; omega⟩ : Fin 16) (i 1 : Fin 2048)
    (⟨(i 2).val % 64, by omega⟩ : Fin 64))

/-- The result of the first part of the program, of its arguments. -/
def context (x : S1x2048x1024.Idx → EReal) (wq : S1024x1024.Idx → EReal) (bq : S1024.Idx → EReal) (wk : S1024x1024.Idx → EReal)
    (bk : S1024.Idx → EReal) (wv : S1024x1024.Idx → EReal) (bv : S1024.Idx → EReal) : S1x2048x1024.Idx → EReal :=
  sideBySide (attnArr (headProj x wq bq) (headProj x wk bk) (headProj x wv bv))

/-! ## The host operations -/

/-- The input with its first axis dropped, at an index. -/
theorem rows_apply (x : S1x2048x1024.Idx → EReal) (h : S1x2048x1024.ShapeCasts S2048x1024) (r : Fin 2048) (k : Fin 1024) :
    shapeCast S2048x1024 x h (ix2 r k) = x (ix3 (0 : Fin 1) r k) :=
  shapeCast_apply x h (ix2 r k) (ix3 (0 : Fin 1) r k) (by
    rw [Shape.rowMajor_val_two, Shape.rowMajor_val_three]; simp)

/-- A bias split by heads, at an index. -/
theorem bias_apply (b : S1024.Idx → EReal) (g : S1024.ShapeCasts S16x1x64) (h : Fin 16) (d : Fin 64) :
    shapeCast S16x1x64 b g (ix3 h (0 : Fin 1) d) = b (ix1 (headCol h d)) :=
  shapeCast_apply b g (ix3 h (0 : Fin 1) d) (ix1 (headCol h d)) (by
    rw [Shape.rowMajor_val_three, Shape.rowMajor_val_one]; simp)

/-- A projection of the reshaped operands is the projection of the arguments. -/
theorem projArr_cast (x : S1x2048x1024.Idx → EReal) (w : S1024x1024.Idx → EReal) (b : S1024.Idx → EReal)
    (hx : S1x2048x1024.ShapeCasts S2048x1024) (hb : S1024.ShapeCasts S16x1x64) :
    projArr (shapeCast S2048x1024 x hx) w (shapeCast S16x1x64 b hb) = headProj x w b := by
  funext i
  unfold projArr headProj
  refine congrArg₂ (· + ·) (Finset.sum_congr rfl fun k _ => ?_) (bias_apply b hb (i 0) (i 2))
  exact congrArg (· * w (ix2 (headCol (i 0) (i 2)) k)) (rows_apply x hx (i 1) k)

/-- The transposed and reshaped means are the means side by side. -/
theorem sideBySide_eq (a : S16x2048x64.Idx → EReal) (h : S16x2048x64.Transposes [1, 0, 2] S2048x16x64)
    (h1 : S2048x16x64.ShapeCasts S2048x1024) (h2 : S2048x1024.ShapeCasts S1x2048x1024) :
    shapeCast S1x2048x1024 (shapeCast S2048x1024 (transpose S2048x16x64 [1, 0, 2] a h) h1) h2 = sideBySide a := by
  funext i
  have h0 : (i 0).val < 1 := (i 0).isLt
  have h1' : (i 1).val < 2048 := (i 1).isLt
  have h2' : (i 2).val < 1024 := (i 2).isLt
  have q : (i 2).val / 64 < 16 := by omega
  have r : (i 2).val % 64 < 64 := by omega
  refine (shapeCast_apply _ h2 i (ix2 (⟨(i 1).val, h1'⟩ : Fin 2048) (⟨(i 2).val, h2'⟩ : Fin 1024)) (by
    rw [Shape.rowMajor_val_two, Shape.rowMajor_val_three]
    show (i 1).val * 1024 + (i 2).val = ((i 0).val * 2048 + (i 1).val) * 1024 + (i 2).val
    omega)).trans ?_
  refine (shapeCast_apply _ h1 _ (ix3 (⟨(i 1).val, h1'⟩ : Fin 2048) (⟨(i 2).val / 64, q⟩ : Fin 16) (⟨(i 2).val % 64, r⟩ : Fin 64)) (by
    rw [Shape.rowMajor_val_two, Shape.rowMajor_val_three]
    show ((i 1).val * 16 + (i 2).val / 64) * 64 + (i 2).val % 64 = (i 1).val * 1024 + (i 2).val
    omega)).trans ?_
  refine (transpose_apply [1, 0, 2] a h _ (ix3 (⟨(i 2).val / 64, q⟩ : Fin 16) (⟨(i 1).val, h1'⟩ : Fin 2048) (⟨(i 2).val % 64, r⟩ : Fin 64))
    (fun b => match b with
      | ⟨0, _⟩ => rfl
      | ⟨1, _⟩ => rfl
      | ⟨2, _⟩ => rfl)).trans ?_
  rfl

variable (m : (ℓ : Loc nD τ sig) → Buf (Elt Ideal) ℓ) (ρ : Dev nD → PrngReg)

/-- What the first host operations leave: the input's rows, and each bias split by heads. -/
theorem entry_v0 (c : Dev nD) : V1 m ρ c main_v0
    = shapeCast S2048x1024 (m ((c : Thread nD τ).loc main_arg0)) shapeCasts_S1x2048x1024_S2048x1024 := by
  show StableHlo.after hostOps0 (W0 m ρ c) (Proc.devRef .tc main_v0) = _
  after_results_simp
  rfl
theorem entry_v1 (c : Dev nD) : V1 m ρ c main_v1
    = shapeCast S16x1x64 (m ((c : Thread nD τ).loc main_arg2)) shapeCasts_S1024_S16x1x64 := by
  show StableHlo.after hostOps0 (W0 m ρ c) (Proc.devRef .tc main_v1) = _
  after_results_simp
  rfl
theorem entry_v2 (c : Dev nD) : V1 m ρ c main_v2
    = shapeCast S16x1x64 (m ((c : Thread nD τ).loc main_arg4)) shapeCasts_S1024_S16x1x64 := by
  show StableHlo.after hostOps0 (W0 m ρ c) (Proc.devRef .tc main_v2) = _
  after_results_simp
  rfl
theorem entry_v3 (c : Dev nD) : V1 m ρ c main_v3
    = shapeCast S16x1x64 (m ((c : Thread nD τ).loc main_arg6)) shapeCasts_S1024_S16x1x64 := by
  show StableHlo.after hostOps0 (W0 m ρ c) (Proc.devRef .tc main_v3) = _
  after_results_simp
  rfl

/-- The queries, keys and values by heads, after the first region. -/
theorem queries (c : Dev nD) : V2 m ρ c main_v4_0 = headProj (m ((c : Thread nD τ).loc main_arg0))
    (m ((c : Thread nD τ).loc main_arg1)) (m ((c : Thread nD τ).loc main_arg2)) := by
  refine (W2_arr m ρ c 7).trans ((arr_q (V1 m ρ) c).trans ?_)
  rw [entry_v0, entry_v1, show V1 m ρ c main_arg1 = m ((c : Thread nD τ).loc main_arg1) from W1_args m ρ c main_arg1 (by decide)]
  exact projArr_cast _ _ _ _ _
theorem keys (c : Dev nD) : V2 m ρ c main_v4_1 = headProj (m ((c : Thread nD τ).loc main_arg0))
    (m ((c : Thread nD τ).loc main_arg3)) (m ((c : Thread nD τ).loc main_arg4)) := by
  refine (W2_arr m ρ c 8).trans ((arr_k (V1 m ρ) c).trans ?_)
  rw [entry_v0, entry_v2, show V1 m ρ c main_arg3 = m ((c : Thread nD τ).loc main_arg3) from W1_args m ρ c main_arg3 (by decide)]
  exact projArr_cast _ _ _ _ _
theorem vals (c : Dev nD) : V2 m ρ c main_v4_2 = headProj (m ((c : Thread nD τ).loc main_arg0))
    (m ((c : Thread nD τ).loc main_arg5)) (m ((c : Thread nD τ).loc main_arg6)) := by
  refine (W2_arr m ρ c 9).trans ((arr_v (V1 m ρ) c).trans ?_)
  rw [entry_v0, entry_v3, show V1 m ρ c main_arg5 = m ((c : Thread nD τ).loc main_arg5) from W1_args m ρ c main_arg5 (by decide)]
  exact projArr_cast _ _ _ _ _

/-- The contents of the result array at the end, of the arguments. -/
abbrev contextOf (c : Dev nD) : S1x2048x1024.Idx → EReal :=
  context (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- After the last host operations the result array holds the means side by side. -/
theorem result_v8 (c : Dev nD) : W4 m ρ c (Proc.devRef .tc main_v8) = contextOf m c := by
  have e : W4 m ρ c (Proc.devRef .tc main_v8) = shapeCast S1x2048x1024 (shapeCast S2048x1024
      (transpose S2048x16x64 [1, 0, 2] (W3 m ρ c (Proc.devRef .tc main_v5)) transposes_S16x2048x64_S2048x16x64_1_0_2)
      shapeCasts_S2048x16x64_S2048x1024) shapeCasts_S2048x1024_S1x2048x1024 := by
    show StableHlo.after hostOps2 (W3 m ρ c) (Proc.devRef .tc main_v8) = _
    after_results_simp
    rfl
  refine e.trans ((sideBySide_eq _ _ _ _).trans ?_)
  unfold contextOf context
  refine congrArg sideBySide ?_
  refine (W3_arr m ρ c 3).trans ((arr_ctx (V2 m ρ) c).trans ?_)
  rw [queries, keys, vals]

/-! ## The launch -/

local notation "𝕄" => MT nD τ sig Unit (Elt Ideal) ℕ (UR sig nD τ) ℕ

-- The arguments the launch lemma leaves implicit are found by unfolding plain definitions.
set_option backward.isDefEq.respectTransparency.types false in
/-- From any memory with every counter at zero the first part of the program ends, its result array holding the means
    side by side and its arguments as they were. -/
theorem run_context : θ_run defs (onTc (τ := τ) (main (F := Ideal))) ⟨m, fun _ => 0, ρ⟩ (fun r => ∀ c : Dev nD,
      r.2.mem ((c.tc : Thread nD τ).loc main_v8) = contextOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v8 (by decide))).trans (result_v8 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.Proof.Context

end
-- ==== Proof.WholeI.lean ====
/-
  The reference of the first part of the program at an index: every column of its result is the weighted mean, over a
  whole row of scores, of a column of the values of a head; where the input and the weights and biases of the queries and
  keys are real numbers, that is what the program leaves.
-/
module

public import proofs.«01_k».proof.Proof.ContextI
public import proofs.«01_k».proof.Proof.Gen.ContextReferenceIdeal.Read
public import proofs.«01_k».proof.Pre_finite_inputs
public import proofs.«01_k».proof.Proof.Gen.Pre_finite_inputs
public import Idealize.ShloMosaic.Lib.ReduceAll

@[expose] public section

noncomputable section

namespace Cert.Proof.Context

open Cert.ContextReferenceIdeal Cert.ContextReferenceIdeal.Gen Cert.ContextReferenceIdeal.Read

open Idealize.ShloMosaic hiding ix1 ix2 ix3 ix4
open Idealize.ShloMosaic.ValueIdx
open Cert.Proof.Softmax

/-! ## The projections -/

/-- The reference's queries, by heads. -/
theorem ref_q (x : S1x2048x1024.Idx → EReal) (w : S1024x1024.Idx → EReal) (b : S1024.Idx → EReal) (h : Fin 16) (r : Fin 2048) (d : Fin 64) :
    val_main_v6 (F := Ideal) x w b (ix4 (0 : Fin 1) h r d) = headProj x w b (ix3 h r d) := by
  rw [val_main_v6_apply, val_main_v5_apply, val_main_v4_apply]
  have e : idx_main_v5 (idx_main_v6 (ix4 (0 : Fin 1) h r d)) = ix3 (0 : Fin 1) r (headCol h d) := by
    funext a
    match a with
    | ⟨0, _⟩ => rfl
    | ⟨1, _⟩ => exact Fin.ext (by show (((0 * 2048 + r.val) * 16 + h.val) * 64 + d.val) / 1024 % 2048 = r.val; omega)
    | ⟨2, _⟩ => exact Fin.ext (by show (((0 * 2048 + r.val) * 16 + h.val) * 64 + d.val) % 1024 = h.val * 64 + d.val; omega)
  rw [e, val_main_v1_apply, val_main_v3_apply, val_main_v2_apply]
  refine addC (Finset.sum_congr rfl fun k _ => ?_) (congrArg b (funext fun a => ?_))
  · rw [val_main_v0_apply]
    refine congrArg₂ (· * ·) (congrArg x (funext fun a => ?_)) (congrArg w (funext fun a => ?_))
    · match a with
      | ⟨0, _⟩ => rfl
      | ⟨1, _⟩ => rfl
      | ⟨2, _⟩ => rfl
    · match a with
      | ⟨0, _⟩ => rfl
      | ⟨1, _⟩ => rfl
  · match a with
    | ⟨0, _⟩ => rfl

/-- The reference's keys, by heads. -/
theorem ref_k (x : S1x2048x1024.Idx → EReal) (w : S1024x1024.Idx → EReal) (b : S1024.Idx → EReal) (h : Fin 16) (r : Fin 2048) (d : Fin 64) :
    val_main_v13 (F := Ideal) x w b (ix4 (0 : Fin 1) h r d) = headProj x w b (ix3 h r d) := by
  rw [val_main_v13_apply, val_main_v12_apply, val_main_v11_apply]
  have e : idx_main_v12 (idx_main_v13 (ix4 (0 : Fin 1) h r d)) = ix3 (0 : Fin 1) r (headCol h d) := by
    funext a
    match a with
    | ⟨0, _⟩ => rfl
    | ⟨1, _⟩ => exact Fin.ext (by show (((0 * 2048 + r.val) * 16 + h.val) * 64 + d.val) / 1024 % 2048 = r.val; omega)
    | ⟨2, _⟩ => exact Fin.ext (by show (((0 * 2048 + r.val) * 16 + h.val) * 64 + d.val) % 1024 = h.val * 64 + d.val; omega)
  rw [e, val_main_v8_apply, val_main_v10_apply, val_main_v9_apply]
  refine addC (Finset.sum_congr rfl fun k _ => ?_) (congrArg b (funext fun a => ?_))
  · rw [val_main_v7_apply]
    refine congrArg₂ (· * ·) (congrArg x (funext fun a => ?_)) (congrArg w (funext fun a => ?_))
    · match a with
      | ⟨0, _⟩ => rfl
      | ⟨1, _⟩ => rfl
      | ⟨2, _⟩ => rfl
    · match a with
      | ⟨0, _⟩ => rfl
      | ⟨1, _⟩ => rfl
  · match a with
    | ⟨0, _⟩ => rfl

/-- The reference's values, by heads. -/
theorem ref_v (x : S1x2048x1024.Idx → EReal) (w : S1024x1024.Idx → EReal) (b : S1024.Idx → EReal) (h : Fin 16) (r : Fin 2048) (d : Fin 64) :
    val_main_v20 (F := Ideal) x w b (ix4 (0 : Fin 1) h r d) = headProj x w b (ix3 h r d) := by
  rw [val_main_v20_apply, val_main_v19_apply, val_main_v18_apply]
  have e : idx_main_v19 (idx_main_v20 (ix4 (0 : Fin 1) h r d)) = ix3 (0 : Fin 1) r (headCol h d) := by
    funext a
    match a with
    | ⟨0, _⟩ => rfl
    | ⟨1, _⟩ => exact Fin.ext (by show (((0 * 2048 + r.val) * 16 + h.val) * 64 + d.val) / 1024 % 2048 = r.val; omega)
    | ⟨2, _⟩ => exact Fin.ext (by show (((0 * 2048 + r.val) * 16 + h.val) * 64 + d.val) % 1024 = h.val * 64 + d.val; omega)
  rw [e, val_main_v15_apply, val_main_v17_apply, val_main_v16_apply]
  refine addC (Finset.sum_congr rfl fun k _ => ?_) (congrArg b (funext fun a => ?_))
  · rw [val_main_v14_apply]
    refine congrArg₂ (· * ·) (congrArg x (funext fun a => ?_)) (congrArg w (funext fun a => ?_))
    · match a with
      | ⟨0, _⟩ => rfl
      | ⟨1, _⟩ => rfl
      | ⟨2, _⟩ => rfl
    · match a with
      | ⟨0, _⟩ => rfl
      | ⟨1, _⟩ => rfl
  · match a with
    | ⟨0, _⟩ => rfl

/-! ## The scores and the weights -/

section
variable (x : S1x2048x1024.Idx → EReal) (wq : S1024x1024.Idx → EReal) (bq : S1024.Idx → EReal) (wk : S1024x1024.Idx → EReal)
  (bk : S1024.Idx → EReal)

/-- The scores of row `r` in head `h`. -/
abbrev scores (h : Fin 16) (r : Fin 2048) : Fin 2048 → EReal := scoreH (headProj x wq bq) (headProj x wk bk) h r

/-- The bits of 8 denote 8, those of minus infinity denote it. -/
theorem ofBits_eight : Ideal.ofBits .f32 0x41000000#32 = ((8 : ℝ) : EReal) := by
  simp [Ideal.ofBits, Ideal.ieee]
  rw [← EReal.coe_mul]
  norm_num
theorem ofBits_bot : Ideal.ofBits .f32 0xFF800000#32 = ⊥ := by
  simp [Ideal.ofBits, Ideal.ieee]

/-- The division of the reference, of equal operands. -/
theorem hostDivC {a b c d : EReal} (h : a = b) (h' : c = d) : FloatOps.hostDivf (F := Ideal) (φ := .f32) a c = Ideal.div b d := by
  rw [h, h']; rfl

/-- The reference's score of row `r` against row `j` in head `h`. -/
theorem ref_score (h : Fin 16) (r j : Fin 2048) :
    val_main_v27 (F := Ideal) x wq bq wk bk (ix4 (0 : Fin 1) h r j) = scores x wq bq wk bk h r j := by
  rw [val_main_v27_apply, val_main_v26_apply, val_main_cst_apply, val_main_v25_apply, val_main_v24_apply]
  refine (hostDivC rfl ofBits_eight).trans ?_
  rw [Ideal.div_coe (by norm_num : (8 : ℝ) ≠ 0)]
  unfold scores scoreH
  refine congrArg (· * ((1 / 8 : ℝ) : EReal)) (Finset.sum_congr rfl fun d _ => ?_)
  rw [val_main_v22_apply, val_main_v23_apply, val_main_v21_apply, ← ref_q, ← ref_k]
  refine congrArg₂ (· * ·) (congrArg _ (funext fun a => ?_)) (congrArg _ (funext fun a => ?_))
  · match a with
    | ⟨0, _⟩ => rfl
    | ⟨1, _⟩ => exact Fin.ext (by show ((h.val * 2048 + r.val) * 64 + d.val) / 131072 % 16 = h.val; omega)
    | ⟨2, _⟩ => exact Fin.ext (by show ((h.val * 2048 + r.val) * 64 + d.val) / 64 % 2048 = r.val; omega)
    | ⟨3, _⟩ => exact Fin.ext (by show ((h.val * 2048 + r.val) * 64 + d.val) % 64 = d.val; omega)
  · match a with
    | ⟨0, _⟩ => rfl
    | ⟨1, _⟩ => exact Fin.ext (by show ((h.val * 64 + d.val) * 2048 + j.val) / 131072 % 16 = h.val; omega)
    | ⟨2, _⟩ => exact Fin.ext (by show ((h.val * 64 + d.val) * 2048 + j.val) % 2048 = j.val; omega)
    | ⟨3, _⟩ => exact Fin.ext (by show ((h.val * 64 + d.val) * 2048 + j.val) / 2048 % 64 = d.val; omega)

/-- The reference's maximum of a row of scores. -/
theorem ref_max (h : Fin 16) (r : Fin 2048) :
    val_main_v30 (F := Ideal) x wq bq wk bk (ix3 (0 : Fin 1) h r) = rowMax (scores x wq bq wk bk h r) := by
  rw [val_main_v30_apply, val_main_v29_apply, val_main_cst_1_apply]
  have hr : val_main_v28 (F := Ideal) x wq bq wk bk (ix3 (0 : Fin 1) h r)
      = (Finset.univ : Finset (Fin 2048)).fold max ⊥ (scores x wq bq wk bk h r) := by
    unfold val_main_v28
    refine (Host.reduce_eq_fold_single (FloatOps.maximumf (F := Ideal) (φ := .f32)) _ _ reducesTo_S1x16x2048x2048_S1x16x2048_d3 (by decide) h_S_ _).trans ?_
    refine (congrArg (fun b : EReal => (Finset.univ : Finset (Fin 2048)).fold max b _) ofBits_bot).trans ?_
    refine congrArg (fun f => (Finset.univ : Finset (Fin 2048)).fold max (⊥ : EReal) f) (funext fun j => ?_)
    refine Eq.trans ?_ (ref_score x wq bq wk bk h r j)
    refine congrArg (val_main_v27 (F := Ideal) x wq bq wk bk) (funext fun a => ?_)
    match a with
    | ⟨0, _⟩ => rfl
    | ⟨1, _⟩ => rfl
    | ⟨2, _⟩ => rfl
    | ⟨3, _⟩ => rfl
  rw [hr]
  exact maxC ofBits_bot rfl

/-- The reference's exponential of a score less the maximum of its row. -/
theorem ref_exp (h : Fin 16) (r j : Fin 2048) :
    val_main_v34 (F := Ideal) x wq bq wk bk (ix4 (0 : Fin 1) h r j)
      = Ideal.exp (scores x wq bq wk bk h r j - rowMax (scores x wq bq wk bk h r)) := by
  rw [val_main_v34_apply, val_main_v33_apply, val_main_v32_apply, val_main_v31_apply, ref_score]
  have e : idx_main_v31 (idx_main_v32 (ix4 (0 : Fin 1) h r j)) = ix3 (0 : Fin 1) h r := by
    funext a
    match a with
    | ⟨0, _⟩ => rfl
    | ⟨1, _⟩ => rfl
    | ⟨2, _⟩ => rfl
  rw [e, ref_max]
  rfl

/-- The reference's weight of row `j` in the mean of row `r`. -/
theorem ref_weight (h : Fin 16) (r j : Fin 2048) :
    val_main_v39 (F := Ideal) x wq bq wk bk (ix3 h r j)
      = Ideal.div (Ideal.exp (scores x wq bq wk bk h r j - rowMax (scores x wq bq wk bk h r)))
          (0 + ∑ k, Ideal.exp (scores x wq bq wk bk h r k - rowMax (scores x wq bq wk bk h r))) := by
  rw [val_main_v39_apply]
  have e : idx_main_v39 (ix3 h r j) = ix4 (0 : Fin 1) h r j := by
    funext a
    match a with
    | ⟨0, _⟩ => rfl
    | ⟨1, _⟩ => exact Fin.ext (by show ((h.val * 2048 + r.val) * 2048 + j.val) / 4194304 % 16 = h.val; omega)
    | ⟨2, _⟩ => exact Fin.ext (by show ((h.val * 2048 + r.val) * 2048 + j.val) / 2048 % 2048 = r.val; omega)
    | ⟨3, _⟩ => exact Fin.ext (by show ((h.val * 2048 + r.val) * 2048 + j.val) % 2048 = j.val; omega)
  rw [e, val_main_v38_apply, ref_exp, val_main_v37_apply, val_main_v36_apply, val_main_v35_apply, val_main_cst_2_apply]
  refine hostDivC rfl ?_
  refine congrArg₂ (· + ·) Ideal.ofBits_zero_f32 (Finset.sum_congr rfl fun k _ => ?_)
  refine Eq.trans ?_ (ref_exp x wq bq wk bk h r k)
  refine congrArg (val_main_v34 (F := Ideal) x wq bq wk bk) (funext fun a => ?_)
  match a with
  | ⟨0, _⟩ => rfl
  | ⟨1, _⟩ => rfl
  | ⟨2, _⟩ => rfl
  | ⟨3, _⟩ => rfl

variable (wv : S1024x1024.Idx → EReal) (bv : S1024.Idx → EReal)

/-- The reference's weighted mean of row `r` in head `h`, column `d`. -/
theorem ref_mean (h : Fin 16) (r : Fin 2048) (d : Fin 64) :
    val_main_v41 (F := Ideal) x wq bq wk bk wv bv (ix3 h r d)
      = wholeRow (scores x wq bq wk bk h r) fun j => headProj x wv bv (ix3 h j d) := by
  rw [val_main_v41_apply]
  unfold wholeRow
  refine Finset.sum_congr rfl fun j _ => ?_
  refine congrArg₂ (· * ·) ?_ ?_
  · refine Eq.trans ?_ (ref_weight x wq bq wk bk h r j)
    refine congrArg (val_main_v39 (F := Ideal) x wq bq wk bk) (funext fun a => ?_)
    match a with
    | ⟨0, _⟩ => rfl
    | ⟨1, _⟩ => rfl
    | ⟨2, _⟩ => rfl
  · rw [val_main_v40_apply]
    refine Eq.trans ?_ (ref_v x wv bv h j d)
    refine congrArg (val_main_v20 (F := Ideal) x wv bv) (funext fun a => ?_)
    match a with
    | ⟨0, _⟩ => rfl
    | ⟨1, _⟩ => exact Fin.ext (by show ((h.val * 2048 + j.val) * 64 + d.val) / 131072 % 16 = h.val; omega)
    | ⟨2, _⟩ => exact Fin.ext (by show ((h.val * 2048 + j.val) * 64 + d.val) / 64 % 2048 = j.val; omega)
    | ⟨3, _⟩ => exact Fin.ext (by show ((h.val * 2048 + j.val) * 64 + d.val) % 64 = d.val; omega)

/-! ## The two values are equal -/

/-- A projection of real numbers is real. -/
theorem isReal_headProj (w : S1024x1024.Idx → EReal) (b : S1024.Idx → EReal) (hx : ∀ i, IsReal (x i)) (hw : ∀ i, IsReal (w i))
    (hb : ∀ i, IsReal (b i)) (i : Cert.ContextIdeal.S16x2048x64.Idx) : IsReal (headProj x w b i) :=
  (isReal_sum _ fun k => (hx _).mul (hw _)).add (hb _)

/-- Where the input and the weights and biases of the queries and keys are real, the scores are. -/
theorem isReal_scores (hx : ∀ i, IsReal (x i)) (hwq : ∀ i, IsReal (wq i)) (hbq : ∀ i, IsReal (bq i)) (hwk : ∀ i, IsReal (wk i))
    (hbk : ∀ i, IsReal (bk i)) (h : Fin 16) (r j : Fin 2048) : IsReal (scores x wq bq wk bk h r j) :=
  (isReal_sum _ fun d => (isReal_headProj x wq bq hx hwq hbq _).mul (isReal_headProj x wk bk hx hwk hbk _)).mul ⟨1 / 8, rfl⟩

/-- The reference's result is what the program leaves. -/
theorem context_eq (hx : ∀ i, IsReal (x i)) (hwq : ∀ i, IsReal (wq i)) (hbq : ∀ i, IsReal (bq i)) (hwk : ∀ i, IsReal (wk i))
    (hbk : ∀ i, IsReal (bk i)) :
    val_main_v44 (F := Ideal) x wq bq wk bk wv bv = context x wq bq wk bk wv bv := by
  funext i
  have h0 : (i 0).val < 1 := (i 0).isLt
  have h1 : (i 1).val < 2048 := (i 1).isLt
  have h2 : (i 2).val < 1024 := (i 2).isLt
  have q : (i 2).val / 64 < 16 := by omega
  have s : (i 2).val % 64 < 64 := by omega
  rw [val_main_v44_apply, val_main_v43_apply, val_main_v42_apply]
  have e : idx_main_v42 (idx_main_v43 (idx_main_v44 i))
      = ix3 (⟨(i 2).val / 64, q⟩ : Fin 16) (⟨(i 1).val, h1⟩ : Fin 2048) (⟨(i 2).val % 64, s⟩ : Fin 64) := by
    funext a
    match a with
    | ⟨0, _⟩ => exact Fin.ext (by show (((i 0).val * 2048 + (i 1).val) * 1024 + (i 2).val) / 64 % 16 = (i 2).val / 64; omega)
    | ⟨1, _⟩ => exact Fin.ext (by show (((i 0).val * 2048 + (i 1).val) * 1024 + (i 2).val) / 1024 % 2048 = (i 1).val; omega)
    | ⟨2, _⟩ => exact Fin.ext (by show (((i 0).val * 2048 + (i 1).val) * 1024 + (i 2).val) % 64 = (i 2).val % 64; omega)
  rw [e, ref_mean]
  exact (twoHalves_eq _ _ fun j => isReal_scores x wq bq wk bk hx hwq hbq hwk hbk _ _ j).symm

end

/-! ## The precondition -/

/-- A number whose comparison of absolute value against infinity passes is a real number. -/
theorem isReal_of_cmp (a : EReal)
    (h : FloatOps.cmpf (F := Ideal) (φ := .f32) .olt (FloatOps.hostAbsf (F := Ideal) (φ := .f32) a) (FloatOps.ofBits (F := Ideal) .f32 0x7F800000#32) = 1#1) :
    IsReal a := by
  have top : Ideal.ofBits .f32 0x7F800000#32 = ⊤ := by simp [Ideal.ofBits, Ideal.ieee]
  have one : ∀ b : Bool, BitVec.ofBool b = 1#1 → b = true := by decide
  have h' : BitVec.ofBool (decide (max a (-a) < Ideal.ofBits .f32 0x7F800000#32)) = 1#1 := h
  rw [top] at h'
  exact isReal_of_abs_lt a (of_decide_eq_true (one _ h'))

/-- Where the precondition's array is all ones, the input and the weights and biases of the queries and keys are real. -/
theorem reals_of_finite (x : S1x2048x1024.Idx → EReal) (wq : S1024x1024.Idx → EReal) (bq : S1024.Idx → EReal)
    (wk : S1024x1024.Idx → EReal) (bk : S1024.Idx → EReal) (wv : S1024x1024.Idx → EReal) (bv : S1024.Idx → EReal)
    (h : Cert.Pre_finite_inputs.fn (F := Ideal) x wq bq wk bk wv bv = fun _ => 1#1) :
    (∀ i, IsReal (x i)) ∧ (∀ i, IsReal (wq i)) ∧ (∀ i, IsReal (bq i)) ∧ (∀ i, IsReal (wk i)) ∧ (∀ i, IsReal (bk i)) := by
  haveI : Subsingleton Cert.Pre_finite_inputs.S_.Idx := ⟨fun a b => funext fun d => d.elim0⟩
  have both : ∀ p q : BitVec 1, IntOp.andi p q = 1#1 → p = 1#1 ∧ q = 1#1 := by decide
  have e := congrFun h (fun d => d.elim0)
  unfold Cert.Pre_finite_inputs.fn Cert.Pre_finite_inputs.fn_part1 at e
  obtain ⟨e, e4⟩ := both _ _ e
  obtain ⟨e, e3⟩ := both _ _ e
  obtain ⟨e, e2⟩ := both _ _ e
  obtain ⟨e0, e1⟩ := both _ _ e
  exact ⟨fun i => isReal_of_cmp _ (Host.reduce_andi_all _ _ _ _ _ e0 i), fun i => isReal_of_cmp _ (Host.reduce_andi_all _ _ _ _ _ e1 i),
    fun i => isReal_of_cmp _ (Host.reduce_andi_all _ _ _ _ _ e2 i), fun i => isReal_of_cmp _ (Host.reduce_andi_all _ _ _ _ _ e3 i),
    fun i => isReal_of_cmp _ (Host.reduce_andi_all _ _ _ _ _ e4 i)⟩

end Cert.Proof.Context

end
-- ==== Proof.RouterBodyI.lean ====
/-
  The idealized router: the region, first part: the blocks that the windows read, and what one run of the kernel's body leaves: at
  every point the scores of one block of neurons in the scratch array, and at the last block the choice of the sixteen
  greatest and their weights.
-/
module

public import proofs.«01_k».proof.Proof.Gen.RouterIdeal.Launch
public import proofs.«01_k».proof.Proof.Gen.RouterIdeal.Skeleton
public import proofs.«01_k».proof.Proof.Gen.RouterIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit.Basic

@[expose] public section

set_option maxRecDepth 16384

noncomputable section

/-- The last part of the body, which does not mention the named constant, as memory operations over what it computes. -/
theorem Cert.RouterIdeal.k1_part7_eq_skeleton {F : Idealize.ShloMosaic.FTy → Type} [Idealize.ShloMosaic.FloatOps F] :
    Cert.RouterIdeal.k1_part7 (F := F) = Cert.RouterIdeal.Gen.k1_part7_skel (F := F) := rfl

namespace Cert.RouterIdeal.Route

open Cert.RouterIdeal Cert.RouterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the last point computes of the whole scratch array -/

/-- The words that the last point computes of the scratch array: the sixteen positions, their scores, and the scores less
    the greatest of them, exponentiated. -/
def picked (s : Vec F S8x128x2048 .f32) : FVec F S128x16 .f32 × IVec S128x16 32 × FVec F S128x16 .f32 :=
  let io := k1_pay2
  let s2 := k1_pay12 s
  let a2 := k1_pay14 s
  let s5 := k1_pay28 io s2 a2
  let s7 := k1_pay38 io s5
  let c7 := k1_pay41 io s5
  let s10 := k1_pay54 io s7 c7
  let w10 := k1_pay56 io s7 c7
  let m13 := k1_pay70 io s10 w10
  let x13 := k1_pay71 io s10 w10
  let t0 := k1_pay5 s
  let i0 := k1_pay6 s
  let t1 := k1_pay10 s
  let i1 := k1_pay11 s
  let t2 := k1_pay16 (k1_pay13 s)
  let i2 := k1_pay17 io s2 a2
  let t3 := k1_pay21 io s2 a2
  let i3 := k1_pay22 io s2 a2
  let t4 := k1_pay26 io s2 a2
  let i4 := k1_pay27 io s2 a2
  let t5 := k1_pay31 s5
  let i5 := k1_pay32 io s5
  let t6 := k1_pay36 io s5
  let i6 := k1_pay37 io s5
  let t7 := k1_pay42 io s5
  let i7 := k1_pay43 (k1_pay40 io s5)
  let t8 := k1_pay47 io s7 c7
  let i8 := k1_pay48 io s7 c7
  let t9 := k1_pay52 io s7 c7
  let i9 := k1_pay53 io s7 c7
  let t10 := k1_pay58 (k1_pay55 io s7 c7)
  let i10 := k1_pay59 w10
  let t11 := k1_pay63 io s10 w10
  let i11 := k1_pay64 io s10 w10
  let t12 := k1_pay68 io s10 w10
  let i12 := k1_pay69 io s10 w10
  (k1_pay78 io t0 t1 t2 t3 t4 t5 t6 t7 t8 t9 t10 t11 t12 m13 x13,
   k1_pay79 io i0 i1 i2 i3 i4 i5 i6 i7 i8 i9 i10 i11 i12 m13 x13,
   k1_pay80 io t0 t1 t2 t3 t4 t5 t6 t7 t8 t9 t10 t11 t12 m13 x13)

/-- The positions of the sixteen greatest, of the scratch array. -/
def pickedIdx (s : Vec F S8x128x2048 .f32) : Vec F S128x16 .i32 := (picked s).2.1
/-- The weights of the sixteen greatest, of the scratch array. -/
def pickedWts (s : Vec F S8x128x2048 .f32) : Vec F S128x16 .f32 := k1_pay1 (picked s).1 (picked s).2.2

/-- The slice of the scratch array that a point stores. -/
abbrev slab (i : grid1.Coords) : Rect S8x128x2048 := Rect.unit (s := S8x128x2048) (k1_off1 i) S1x128x2048.size (k1_off1_inb i)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 7 (mod 8) — by arithmetic of the point. -/
theorem hcond1_0 : ∀ t : Fin cfg1.N, cond1_0 (grid1.coords t) ↔ t.val % 8 = 7 :=
  (fun t => by
    have ht : t.val < 128 := Nat.lt_of_lt_of_eq t.isLt N_1
    have e0 : (grid1.coords t 0).val = t.val / 8 % 16 := Pipeline.Grid.coords_val t 0 (by decide) rfl
    have e1 : (grid1.coords t 1).val = t.val / 1 % 8 := Pipeline.Grid.coords_val t 1 (by decide) rfl
    simp only [cond1_0, k1_cond1, e0, e1]
    word_cmp
   : ∀ t : Fin grid1.N, cond1_0 (grid1.coords t) ↔ t.val % 8 = 7)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- At the points of case A the printed configuration (`Cfg.idle`) calls output 5 idle: the case stores nothing into it. -/
theorem idleAt1_5_A : ∀ t : Fin cfg1.N, ¬cond1_0 (grid1.coords t) → cfg1.idle 5 (grid1.coords t) = true := by decide +kernel
/-- At the points of case A the pipeline does not write output 5's block back. -/
theorem noFlush1_5_A : ∀ t : Fin cfg1.N, ¬cond1_0 (grid1.coords t) → (cfg1.win 5).flush t = false := by decide +kernel
/-- At the points of case B the printed configuration (`Cfg.idle`) calls output 5 live: the case stores into it. -/
theorem liveAt1_5_B : ∀ t : Fin cfg1.N, cond1_0 (grid1.coords t) → cfg1.idle 5 (grid1.coords t) = false := by decide +kernel
/-- At the points of case A the printed configuration (`Cfg.idle`) calls output 6 idle: the case stores nothing into it. -/
theorem idleAt1_6_A : ∀ t : Fin cfg1.N, ¬cond1_0 (grid1.coords t) → cfg1.idle 6 (grid1.coords t) = true := by decide +kernel
/-- At the points of case A the pipeline does not write output 6's block back. -/
theorem noFlush1_6_A : ∀ t : Fin cfg1.N, ¬cond1_0 (grid1.coords t) → (cfg1.win 6).flush t = false := by decide +kernel
/-- At the points of case B the printed configuration (`Cfg.idle`) calls output 6 live: the case stores into it. -/
theorem liveAt1_6_B : ∀ t : Fin cfg1.N, cond1_0 (grid1.coords t) → cfg1.idle 6 (grid1.coords t) = false := by decide +kernel

/-- A view with one piece written over what it held reads as the piece laid over what it read. -/
theorem read_stored {sp : Space} {sh : Shape} {e : EltTy} (v : View sig .tc sp sh e) (f : v.ty.Contents (Elt F)) (r : Rect sh)
    (w : r.shape.Idx → Elt F e) : v.read (Elt F) (v.writes (Elt F) f [⟨r, w⟩]) = r.overlay (v.read (Elt F) f) w := by
  funext y
  by_cases hy : y ∈ r.set
  · rw [← Rect.map_emb_univ, Finset.mem_map] at hy
    obtain ⟨x, -, rfl⟩ := hy
    rw [View.read_writes_cons_emb, Rect.overlay_emb]
  · rw [View.read_writes_apply_of_forall_not_mem v f y _ (fun p hp => by rw [List.mem_singleton.mp hp]; exact hy),
      Rect.overlay_of_not_mem _ _ _ hy]

/-! ## The body's run -/

section Run

variable (c : Dev nD) (i : grid1.Coords) {arg2 : Memref sig .tc .vmem S128x1024 .f32} (harg2 : arg2.IsWhole) {arg3 : Memref sig .tc .vmem S128x1024 .f32} (harg3 : arg3.IsWhole) {arg4 : Memref sig .tc .vmem S2x2048 .f32} (harg4 : arg4.IsWhole) {arg5 : Memref sig .tc .vmem S1x2 .f32} (harg5 : arg5.IsWhole) {arg6 : Memref sig .tc .vmem S2048x1024 .f32} (harg6 : arg6.IsWhole) {arg7 : Memref sig .tc .vmem S128x16 .i32} (harg7 : arg7.IsWhole) {arg8 : Memref sig .tc .vmem S128x16 .f32} (harg8 : arg8.IsWhole) {arg9 : Memref sig .tc .vmem S8x128x2048 .f32} (harg9 : arg9.IsWhole)
  (x0 : Vec F S128x1024 .f32) (x1 : Vec F S128x1024 .f32) (x2 : Vec F S2x2048 .f32) (x3 : Vec F S1x2 .f32) (x4 : Vec F S2048x1024 .f32) (X : Vec F S8x128x2048 .f32)

set_option maxHeartbeats 400000 in
/-- Before the last block of neurons: the scratch array gets the block's scores and nothing else is stored. -/
theorem run_early (E : Set ℕ) (K : PUnit → sProp 𝕄) (hc0 : ¬cond1_0 i) (d5 : Vec F S128x16 .i32) (d6 : Vec F S128x16 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6
            ∗ owns (c : Thread nD τ) arg9 fullShare ((slab i).overlay X (k1_pay81 x0 x1 x2 x3 x4))) -∗ K ⟨⟩))
      ⊢ wp frame (wpE (defs₀ (F := F)) Variants.none c none) E (cc1__router_body i arg2 harg2 arg3 harg3 arg4 harg4 arg5 harg5 arg6 harg6 arg7 harg7 arg8 harg8 arg9 harg9) K := by
  simp only [cc1__router_body_eq_skeleton]; unfold cc1__router_body_skel
  unfold owns
  iintro ⟨⟨%f0, %hf0, H0⟩, ⟨%f1, %hf1, H1⟩, ⟨%f2, %hf2, H2⟩, ⟨%f3, %hf3, H3⟩, ⟨%f4, %hf4, H4⟩, H5, H6, ⟨%f7, %hf7, H7⟩, Hk⟩
  subst hf0 hf1 hf2 hf3 hf4 hf7
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]; · iexact H5
  isplitl [H6]; · iexact H6
  iexists _; isplitr
  swap; · iexact H7
  ipureintro
  sl_unfold_run_names
  simp (disch := decide) only [View.readAt_eq_ld, View.ld_unit_lit, read_stored]

set_option maxHeartbeats 400000 in
/-- At the last block of neurons: the scratch array gets the block's scores, and the outputs what is computed of it. -/
theorem run_last (E : Set ℕ) (K : PUnit → sProp 𝕄) (hc0 : cond1_0 i) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (pickedIdx ((slab i).overlay X (k1_pay81 x0 x1 x2 x3 x4)))
            ∗ owns (c : Thread nD τ) arg8 fullShare (pickedWts ((slab i).overlay X (k1_pay81 x0 x1 x2 x3 x4)))
            ∗ owns (c : Thread nD τ) arg9 fullShare ((slab i).overlay X (k1_pay81 x0 x1 x2 x3 x4))) -∗ K ⟨⟩))
      ⊢ wp frame (wpE (defs₀ (F := F)) Variants.none c none) E (cc1__router_body i arg2 harg2 arg3 harg3 arg4 harg4 arg5 harg5 arg6 harg6 arg7 harg7 arg8 harg8 arg9 harg9) K := by
  simp only [cc1__router_body_eq_skeleton]; unfold cc1__router_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf0 hf1 hf2 hf3 hf4 hf7
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_full _ _ _ _ _).trans ?_
    sl_unfold_run_names
    simp (disch := decide) only [View.readAt_eq_ld, View.ld_unit_lit, read_stored]
    simp only [slab, pickedIdx, picked]
  isplitl [H6]
  · iexists _; isplitr
    swap; · iexact H6
    ipureintro
    refine (View.read_writes_full _ _ _ _ _).trans ?_
    sl_unfold_run_names
    simp (disch := decide) only [View.readAt_eq_ld, View.ld_unit_lit, read_stored]
    simp only [slab, pickedWts, picked]
  iexists _; isplitr
  swap; · iexact H7
  ipureintro
  sl_unfold_run_names
  simp (disch := decide) only [View.readAt_eq_ld, View.ld_unit_lit, read_stored]

end Run

end Cert.RouterIdeal.Route

end
-- ==== Proof.RouterRegionI.lean ====
/-
  The idealized router: the two regions: the product of the two factors, block by block, and the scores and choices, point by point.
-/
module

public import proofs.«01_k».proof.Proof.RouterBodyI
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit.Basic

@[expose] public section

set_option maxRecDepth 16384

noncomputable section

namespace Cert.RouterIdeal.Route

open Cert.RouterIdeal Cert.RouterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x32 := Rect.unit (s := S2048x32) ![0, 0] S2048x32.size inb_S2048x32_S2048x32_0_0
abbrev r0_1 : Rect S32x1024 := Rect.unit (s := S32x1024) ![0, 0] S32x1024.size inb_S32x1024_S32x1024_0_0
abbrev r0_2 : Rect S2048x1024 := Rect.unit (s := S2048x1024) ![0, 0] S2048x1024.size inb_S2048x1024_S2048x1024_0_0

def out0_2 (x0 : Vec F S2048x32 .f32) (x1 : Vec F S32x1024 .f32) : Vec F S2048x1024 .f32 :=
  View.canon [⟨r0_2, k0_pay1 (View.ld x0 r0_0) (View.ld x1 r0_1)⟩]

theorem cover0_2 (p0 : Vec F S2048x1024 .f32) (y : S2048x1024.Idx) :
    ∃ pc ∈ ([⟨r0_2, p0⟩] : List (View.Piece (Elt F) S2048x1024 .f32)), y ∈ pc.1.set :=
  View.cover_of_tiled [⟨r0_2, p0⟩] S2048x1024.size (by rfl) y

set_option maxHeartbeats 1000000 in
theorem sound_kernel0 (c : Dev nD) (E : Set ℕ) (i : grid0.Coords) (arg1 : Memref sig .tc .vmem S2048x32 .f32) (harg1 : arg1.IsWhole) (arg2 : Memref sig .tc .vmem S32x1024 .f32) (harg2 : arg2.IsWhole) (arg3 : Memref sig .tc .vmem S2048x1024 .f32) (harg3 : arg3.IsWhole)
    (x0 : Vec F S2048x32 .f32) (x1 : Vec F S32x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__nf_body i arg1 harg1 arg2 harg2 arg3 harg3) K := by
  simp only [cc0__nf_body_eq_skeleton]; unfold cc0__nf_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## The second region -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x16 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x16 .f32 := win1_6.stage (cfg1.slots t 6)
abbrev hs1_6 (t : Fin cfg1.N) : (ms1_6 t).IsWhole := hstage1_6 ((cfg1.slots t 6).cast nbuf1_6)
/-! ### The scratch array from point to point -/

/-- The scores that point `t` stores, of the blocks it reads. -/
def scoreAt (c : Dev nD) (t : Fin cfg1.N) : Vec F S1x128x2048 .f32 :=
  k1_pay81 (iblk1 V c 0 t) (iblk1 V c 1 t) (iblk1 V c 2 t) (iblk1 V c 3 t) (iblk1 V c 4 t)

/-- Before point `n` the scratch array holds the scores of every earlier point of the same block of tokens. -/
def Filled (c : Dev nD) (n : ℕ) (X : Vec F S8x128x2048 .f32) : Prop :=
  ∀ t : Fin cfg1.N, t.val / 8 = n / 8 → t.val < n → ∀ y, X ((slab (grid1.coords t)).emb y) = scoreAt V c t y

/-- Which slice a point stores. -/
theorem slab_off (t : Fin cfg1.N) : k1_off1 (grid1.coords t) 0 = t.val % 8 ∧ k1_off1 (grid1.coords t) 1 = 0 ∧ k1_off1 (grid1.coords t) 2 = 0 := by
  revert t; decide +kernel

theorem slab_emb_zero (t : Fin cfg1.N) (y : S1x128x2048.Idx) : ((slab (grid1.coords t)).emb y 0).val = t.val % 8 := by
  have h0 : (y 0).val = 0 := by have h : (y 0).val < 1 := (y 0).isLt; omega
  rw [Rect.emb_apply]
  show k1_off1 (grid1.coords t) 0 + 1 * (y 0).val = _
  rw [(slab_off t).1, h0]; omega
theorem slab_emb_one (t : Fin cfg1.N) (y : S1x128x2048.Idx) : ((slab (grid1.coords t)).emb y 1).val = (y 1).val := by
  rw [Rect.emb_apply]
  show k1_off1 (grid1.coords t) 1 + 1 * (y 1).val = _
  rw [(slab_off t).2.1]; omega
theorem slab_emb_two (t : Fin cfg1.N) (y : S1x128x2048.Idx) : ((slab (grid1.coords t)).emb y 2).val = (y 2).val := by
  rw [Rect.emb_apply]
  show k1_off1 (grid1.coords t) 2 + 1 * (y 2).val = _
  rw [(slab_off t).2.2]; omega

theorem filled_start (c : Dev nD) (n : ℕ) (hn : n % 8 = 0) (X : Vec F S8x128x2048 .f32) : Filled V c n X :=
  fun t h h' => absurd h' (by omega)

/-- A point's store leaves the other slices alone. -/
theorem overlay_other (t t' : Fin cfg1.N) (h : t'.val % 8 ≠ t.val % 8) (X : Vec F S8x128x2048 .f32) (w : Vec F S1x128x2048 .f32)
    (y : S1x128x2048.Idx) :
    (slab (grid1.coords t)).overlay X w ((slab (grid1.coords t')).emb y) = X ((slab (grid1.coords t')).emb y) := by
  rw [Rect.overlay_of_not_mem]
  intro hm
  rw [← Rect.map_emb_univ, Finset.mem_map] at hm
  obtain ⟨z, -, hz⟩ := hm
  have h3 := slab_emb_zero t z
  have h4 := slab_emb_zero t' y
  rw [hz] at h3
  omega

/-- One point's store keeps the scores of the earlier ones and adds its own. -/
theorem filled_step (c : Dev nD) (t : Fin cfg1.N) (X : Vec F S8x128x2048 .f32) (h : Filled V c t.val X) :
    Filled V c (t.val + 1) ((slab (grid1.coords t)).overlay X (scoreAt V c t)) := by
  intro t' h1 h2 y
  by_cases e : t' = t
  · subst e; rw [Rect.overlay_emb]
  · have hne : t'.val ≠ t.val := fun h => e (Fin.ext h)
    rw [overlay_other t t' (by omega)]
    exact h t' (by omega) (by omega) y

/-- The point that stores slice `k` of the scratch array, of the block of tokens that point `t` works on. -/
def slicePoint (t : Fin cfg1.N) (k : Fin 8) : Fin cfg1.N :=
  ⟨t.val / 8 * 8 + k.val, by have h1 : t.val < 128 := Nat.lt_of_lt_of_eq t.isLt N_1
                             have h2 := k.isLt
                             exact Nat.lt_of_lt_of_eq (by omega) N_1.symm⟩

/-- The whole scratch array at the last point of a block of tokens. -/
def full (c : Dev nD) (t : Fin cfg1.N) : Vec F S8x128x2048 .f32 := fun y =>
  scoreAt V c (slicePoint t (y 0)) (fun a => match a with | 0 => (0 : Fin 1) | 1 => (y 1 : Fin 128) | 2 => (y 2 : Fin 2048))

theorem full_eq (c : Dev nD) (t : Fin cfg1.N) (ht : t.val % 8 = 7) (X : Vec F S8x128x2048 .f32) (h : Filled V c t.val X) :
    (slab (grid1.coords t)).overlay X (scoreAt V c t) = full V c t := by
  funext y
  have hk : (y 0).val < 8 := (y 0).isLt
  let z : S1x128x2048.Idx := fun a => match a with | 0 => (0 : Fin 1) | 1 => (y 1 : Fin 128) | 2 => (y 2 : Fin 2048)
  have hz : (slab (grid1.coords (slicePoint t (y 0)))).emb z = y := by
    funext a
    match a with
    | 0 => exact Fin.ext (by rw [slab_emb_zero]; show (t.val / 8 * 8 + (y 0).val) % 8 = (y 0).val; omega)
    | 1 => exact Fin.ext (slab_emb_one _ _)
    | 2 => exact Fin.ext (slab_emb_two _ _)
  show _ = scoreAt V c (slicePoint t (y 0)) z
  by_cases e : slicePoint t (y 0) = t
  · conv_lhs => rw [← hz, e]
    rw [Rect.overlay_emb, e]
  · have hv : (slicePoint t (y 0)).val = t.val / 8 * 8 + (y 0).val := rfl
    have hne : (slicePoint t (y 0)).val ≠ t.val := fun h => e (Fin.ext h)
    rw [← h (slicePoint t (y 0)) (by omega) (by omega) z]
    conv_lhs => rw [← hz]
    rw [overlay_other t _ (by omega)]

/-- The kernel's scratch array. -/
abbrev scr : Memref sig .tc .vmem S8x128x2048 .f32 := Memref.whole cc1_scratch0

/-- What a point keeps beside the windows' buffers: the buffers of the other call, the scratch array with the scores of the
    earlier points in it, and the generator register. -/
def Keeps (c : Dev nD) (n : ℕ) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f))
    ∗ (∃ X, ⌜Filled V c n X⌝ ∗ owns (c : Thread nD τ) scr fullShare X)
    ∗ ∃ r, prngReg c r)

/-- Before the first point nothing is asked of the scratch array. -/
theorem keeps_start (c : Dev nD) :
    iprop((Pipeline.scopedRest (Ix := Unit) (Name := ℕ) (U := UR sig nD τ) (Lvl := ℕ) spec1 c : sProp 𝕄) ∗ ∃ r, prngReg c r)
      ⊢ Keeps V c 0 := by
  rw [scopedRest1_eq]
  unfold Keeps
  iintro ⟨⟨Ha, Hb, Hc, Hd, He, ⟨%f, Hf⟩⟩, Hp⟩
  isplitl [Ha Hb Hc Hd He]
  · isplitl [Ha]; · iexact Ha
    isplitl [Hb]; · iexact Hb
    isplitl [Hc]; · iexact Hc
    isplitl [Hd]; · iexact Hd
    iexact He
  isplitl [Hf]
  · iexists f; isplitr; · ipureintro; exact filled_start V c 0 rfl f
    rw [owns_whole]; iexact Hf
  iexact Hp

/-- After the last point nothing is remembered of it. -/
theorem keeps_end (c : Dev nD) (n : ℕ) :
    Keeps V c n
      ⊢ iprop((Pipeline.scopedRest (Ix := Unit) (Name := ℕ) (U := UR sig nD τ) (Lvl := ℕ) spec1 c : sProp 𝕄) ∗ ∃ r, prngReg c r) := by
  rw [scopedRest1_eq]
  unfold Keeps
  iintro ⟨⟨Ha, Hb, Hc, Hd, He⟩, ⟨%X, -, HX⟩, Hp⟩
  isplitr [Hp]
  · isplitl [Ha]; · iexact Ha
    isplitl [Hb]; · iexact Hb
    isplitl [Hc]; · iexact Hc
    isplitl [Hd]; · iexact Hd
    isplitl [He]; · iexact He
    iexists X
    rw [owns_whole]; exact .rfl
  iexact Hp

/-! ### The proof data -/

/-- The arrays as the region finds them; after a point, each input's buffer at its block and the outputs at the choice of
    the sixteen greatest of the whole scratch array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => pickedIdx (full V c t)
    | ⟨6, _⟩ => pickedWts (full V c t)
  Φ t := Keeps V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = pickedIdx (full V c t) := by dsimp only [dat1]
theorem after1_6 (c : Dev nD) (t : Fin cfg1.N) : (dat1 V c).after 6 t = pickedWts (full V c t) := by dsimp only [dat1]
theorem keeps_at (c : Dev nD) (t : Fin cfg1.N) : (dat1 V c).Φ t.castSucc = Keeps V c t.val :=
  (show (dat1 V c).Φ t.castSucc = Keeps V c (Fin.castSucc t).val from by dsimp only [dat1]).trans
    (Dat.Φ_castSucc (fun n _ => Keeps V c n) t)
theorem keeps_succ (c : Dev nD) (t : Fin cfg1.N) : (dat1 V c).Φ t.succ = Keeps V c (t.val + 1) := by
  dsimp only [dat1]; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl, keeps_at, keeps_succ]
  by_cases h0 : t.val % 8 = 7
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5_B t ((hcond1_0 t).mpr h0)], after1_5]
    rw [show (dat1 V c).leavesExact 6 t = owns (c : Thread nD τ) (ms1_6 t) fullShare ((dat1 V c).after 6 t) from by
      unfold Dat.leavesExact; rw [liveAt1_6_B t ((hcond1_0 t).mpr h0)], after1_6]
    unfold Keeps
    iintro ⟨⟨Hrest, ⟨%X, %hX, HX⟩, Hp⟩, Ho, ⟨%d0, H0⟩, ⟨%d1, H1⟩, ⟨%d2, H2⟩, ⟨%d3, H3⟩, ⟨%d4, H4⟩, ⟨%d5, H5⟩, ⟨%d6, H6⟩⟩
    rw [← full_eq V c t h0 X hX]
    iapply (run_last c (grid1.coords t) _ _ _ _ _ _ _ _ (iblk1 V c 0 t) (iblk1 V c 1 t) (iblk1 V c 2 t) (iblk1 V c 3 t) (iblk1 V c 4 t) X Set.univ _ ((hcond1_0 t).mpr h0))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HX]; · iexact HX
    iintro ⟨H0, H1, H2, H3, H4, H5, H6, HX⟩
    isplitl [Hrest HX Hp]
    · isplitl [Hrest]; · iexact Hrest
      isplitl [HX]
      · iexists _; isplitr
        swap; · iexact HX
        ipureintro; exact filled_step V c t X hX
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    have h1 : ¬cond1_0 (grid1.coords t) := fun h => h0 ((hcond1_0 t).mp h)
    rw [Dat.leavesExact_idle (dat1 V c) 5 t (idleAt1_5_A t h1) (noFlush1_5_A t h1)]
    rw [Dat.leavesExact_idle (dat1 V c) 6 t (idleAt1_6_A t h1) (noFlush1_6_A t h1)]
    unfold Keeps
    iintro ⟨⟨Hrest, ⟨%X, %hX, HX⟩, Hp⟩, Ho, ⟨%d0, H0⟩, ⟨%d1, H1⟩, ⟨%d2, H2⟩, ⟨%d3, H3⟩, ⟨%d4, H4⟩, ⟨%d5, H5⟩, ⟨%d6, H6⟩⟩
    iapply (run_early c (grid1.coords t) _ _ _ _ _ _ _ _ (iblk1 V c 0 t) (iblk1 V c 1 t) (iblk1 V c 2 t) (iblk1 V c 3 t) (iblk1 V c 4 t) X Set.univ _ h1 _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HX]; · iexact HX
    iintro ⟨H0, H1, H2, H3, H4, H5, H6, HX⟩
    isplitl [Hrest HX Hp]
    · isplitl [Hrest]; · iexact Hrest
      isplitl [HX]
      · iexists _; isplitr
        swap; · iexact HX
        ipureintro; exact filled_step V c t X hX
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.RouterIdeal.Route

end
-- ==== Proof.RouterRunI.lean ====
/-
  The idealized router: the run: from the launch through the two calls and the reshapes around them to the return.
-/
module

public import proofs.«01_k».proof.Proof.RouterRegionI
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit.Basic

@[expose] public section

set_option maxRecDepth 16384

noncomputable section

namespace Cert.RouterIdeal.Route

open Cert.RouterIdeal Cert.RouterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5]

theorem hostOps1_fresh : (hostOps1 : List (HloOp τ sig (Elt F))).Forall fun op => op.fresh = ∅ := by
  simp only [List.Forall]; repeat' constructor
abbrev hostOps1_W : List (Ref sig .tc) := [main_v1, main_v2, main_v3]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v5, main_v6]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

abbrev W2 : Dev nD → Valuation τ sig (Elt F) := fun c => StableHlo.after hostOps1 (W1 m ρ c)
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Keeps (V2 m ρ) c 0 from rfl]
    iintro ⟨Hp, -, Hr⟩
    iapply (keeps_start (V2 m ρ) c)
    isplitl [Hr]; · iexact Hr
    iexact Hp
  hout c := by
    rw [Pipeline.ownSems0_none, show (pdats m ρ 1 c).Φ (Fin.last _) = Keeps (V2 m ρ) c cfg1.N from rfl]
    iintro H
    ihave H2 := (keeps_end (V2 m ρ) c cfg1.N) $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- The run ends with the arguments as they were, the two results as the last boundary has them, and every counter at zero. -/
theorem frame_out : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ (∀ c : Dev nD, r.2.mem ((c.tc : Thread nD τ).loc main_v5) = W4 m ρ c (Proc.devRef .tc main_v5)
          ∧ r.2.mem ((c.tc : Thread nD τ).loc main_v6) = W4 m ρ c (Proc.devRef .tc main_v6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩),
      (fun c => ⟨h c _ (mem_uc main_v5 (by decide)), h c _ (mem_uc main_v6 (by decide))⟩), funext fun g => hz g (.inr (no_unscoped g.2))⟩)

/-- The run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨h.1, h.2.2⟩) (frame_out m ρ)

end Cert.RouterIdeal.Route

end
-- ==== Proof.RouterScoresI.lean ====
/-
  The scores of a token against the neurons. A neuron's features are a row of one factor times the other factor; the token's
  two vectors, joined, choose two weights by a softmax; the score is the weighted sum of the products of each vector with the
  features. What the body stores is that formula of the blocks it reads, and real numbers give real scores.
-/
module

public import proofs.«01_k».proof.Proof.SoftmaxI
public import proofs.«01_k».proof.Proof.Gen.RouterIdeal.Skeleton
public import Idealize.ShloMosaic.Lib.KernelVsHost
public import Idealize.ShloMosaic.Lib.ValueIdx
public import Idealize.ShloMosaic.Lib.Pipeline.Value

@[expose] public section

set_option maxRecDepth 16384

noncomputable section

namespace Cert.Proof.Route

open Cert.RouterIdeal Cert.RouterIdeal.Gen

open Idealize.ShloMosaic
open Idealize.ShloMosaic.ValueIdx
open Cert.Proof.Softmax

/-! ## The formula -/

/-- The product of two vectors. -/
def inner {n : ℕ} (a b : Fin n → EReal) : EReal := ∑ k, a k * b k

/-- Two vectors, one after the other. -/
def joined (a b : Fin 1024 → EReal) (k : Fin 2048) : EReal :=
  if h : k.val < 1024 then a ⟨k.val, h⟩ else b ⟨k.val - 1024, by omega⟩

/-- The preference for each of the two vectors. -/
def prefs (a b : Fin 1024 → EReal) (w : Fin 2 → Fin 2048 → EReal) (bias : Fin 2 → EReal) (p : Fin 2) : EReal :=
  inner (joined a b) (w p) + bias p

/-- The greatest of a family. -/
def top {n : ℕ} (v : Fin n → EReal) : EReal := (Finset.univ : Finset (Fin n)).fold max ⊥ v

/-- The softmax of a family, its greatest subtracted. -/
def soft {n : ℕ} (v : Fin n → EReal) (p : Fin n) : EReal := Ideal.div (Ideal.exp (v p - top v)) (∑ q, Ideal.exp (v q - top v))

/-- The score of a token, of its two vectors, against a neuron's features. -/
def score (a b : Fin 1024 → EReal) (w : Fin 2 → Fin 2048 → EReal) (bias : Fin 2 → EReal) (f : Fin 1024 → EReal) : EReal :=
  soft (prefs a b w bias) 0 * inner a f + soft (prefs a b w bias) 1 * inner b f

/-! ## Real numbers -/

theorem isReal_inner {n : ℕ} (a b : Fin n → EReal) (ha : ∀ k, IsReal (a k)) (hb : ∀ k, IsReal (b k)) : IsReal (inner a b) :=
  isReal_sum _ fun k => (ha k).mul (hb k)

theorem isReal_joined (a b : Fin 1024 → EReal) (ha : ∀ k, IsReal (a k)) (hb : ∀ k, IsReal (b k)) (k : Fin 2048) :
    IsReal (joined a b k) := by
  unfold joined
  split
  · exact ha _
  · exact hb _

theorem isReal_soft {n : ℕ} (v : Fin (n + 1) → EReal) (h : ∀ i, IsReal (v i)) (p : Fin (n + 1)) : IsReal (soft v p) := by
  obtain ⟨M, hM⟩ := isReal_fold_max v h
  choose g hg using h
  have he : ∀ q, Ideal.exp (v q - top v) = (Real.exp (g q - M) : EReal) := fun q => by
    rw [hg q, show top v = (M : EReal) from hM, exp_sub_coe]
  have hpos : (0 : ℝ) < ∑ q, Real.exp (g q - M) := Finset.sum_pos (fun q _ => Real.exp_pos _) Finset.univ_nonempty
  unfold soft
  rw [he p, Finset.sum_congr rfl fun q _ => he q, ← coe_sum, Ideal.div_coe (ne_of_gt hpos)]
  exact IsReal.mul ⟨_, rfl⟩ ⟨_, rfl⟩

theorem isReal_score (a b : Fin 1024 → EReal) (w : Fin 2 → Fin 2048 → EReal) (bias : Fin 2 → EReal) (f : Fin 1024 → EReal)
    (ha : ∀ k, IsReal (a k)) (hb : ∀ k, IsReal (b k)) (hw : ∀ p k, IsReal (w p k)) (hbias : ∀ p, IsReal (bias p))
    (hf : ∀ k, IsReal (f k)) : IsReal (score a b w bias f) := by
  have hp : ∀ p, IsReal (prefs a b w bias p) := fun p => (isReal_inner _ _ (isReal_joined a b ha hb) (hw p)).add (hbias p)
  exact ((isReal_soft _ hp 0).mul (isReal_inner a f ha hf)).add ((isReal_soft _ hp 1).mul (isReal_inner b f hb hf))

/-! ## The products -/

/-- The dimension numbers of the product of the two factors. -/
abbrev dF : DotDims S2048x32 S32x1024 S2048x1024 := dot_S2048x32_S32x1024_S2048x1024_1_0_0_1_n_n

/-- The dimension numbers of the product of the joined vectors and the weights. -/
abbrev dW : DotDims S128x2048 S2x2048 S128x2 := dot_S128x2048_S2x2048_S128x2_1_1_0_0_n_n

/-- The dimension numbers of the product of a vector and the features. -/
abbrev dN : DotDims S128x1024 S2048x1024 S128x2048 := dot_S128x1024_S2048x1024_S128x2048_1_1_0_0_n_n

theorem dF_lhs0 (i : S2048x1024.Idx) (q : dF.contr.Idx) : (dF.lhsIdx i q 0).val = (i 0).val := by
  unfold DotDims.lhsIdx
  rw [dif_neg (show ¬(0 : Fin S2048x32.rank) ∈ dF.lhsBatch by decide),
    dif_pos (show (0 : Fin S2048x32.rank) ∈ dF.lhsNonContracting by decide)]
  rfl
theorem dF_rhs1 (i : S2048x1024.Idx) (q : dF.contr.Idx) : (dF.rhsIdx i q 1).val = (i 1).val := by
  unfold DotDims.rhsIdx
  rw [dif_neg (show ¬(1 : Fin S32x1024.rank) ∈ dF.rhsBatch by decide),
    dif_pos (show (1 : Fin S32x1024.rank) ∈ dF.rhsNonContracting by decide)]
  rfl
theorem dW_lhs0 (i : S128x2.Idx) (q : dW.contr.Idx) : (dW.lhsIdx i q 0).val = (i 0).val := by
  unfold DotDims.lhsIdx
  rw [dif_neg (show ¬(0 : Fin S128x2048.rank) ∈ dW.lhsBatch by decide),
    dif_pos (show (0 : Fin S128x2048.rank) ∈ dW.lhsNonContracting by decide)]
  rfl
theorem dW_rhs0 (i : S128x2.Idx) (q : dW.contr.Idx) : (dW.rhsIdx i q 0).val = (i 1).val := by
  unfold DotDims.rhsIdx
  rw [dif_neg (show ¬(0 : Fin S2x2048.rank) ∈ dW.rhsBatch by decide),
    dif_pos (show (0 : Fin S2x2048.rank) ∈ dW.rhsNonContracting by decide)]
  rfl
theorem dN_lhs0 (i : S128x2048.Idx) (q : dN.contr.Idx) : (dN.lhsIdx i q 0).val = (i 0).val := by
  unfold DotDims.lhsIdx
  rw [dif_neg (show ¬(0 : Fin S128x1024.rank) ∈ dN.lhsBatch by decide),
    dif_pos (show (0 : Fin S128x1024.rank) ∈ dN.lhsNonContracting by decide)]
  rfl
theorem dN_rhs0 (i : S128x2048.Idx) (q : dN.contr.Idx) : (dN.rhsIdx i q 0).val = (i 1).val := by
  unfold DotDims.rhsIdx
  rw [dif_neg (show ¬(0 : Fin S2048x1024.rank) ∈ dN.rhsBatch by decide),
    dif_pos (show (0 : Fin S2048x1024.rank) ∈ dN.rhsNonContracting by decide)]
  rfl

/-- The product of the factors: a sum over their 32 common components. -/
theorem features_apply (x : Vec Ideal S2048x32 .f32) (w : Vec Ideal S32x1024 .f32) (r : Fin 2048) (d : Fin 1024) :
    k0_pay1 (F := Ideal) x w (ix2 r d) = inner (fun k : Fin 32 => x (ix2 r k)) fun k => w (ix2 k d) := by
  unfold k0_pay1 inner
  simp only [matmul]
  rw [Ideal.matmul_constant_zero_apply, ← Equiv.sum_comp (contrEquiv1 dF 32 rfl rfl).symm]
  refine Finset.sum_congr rfl fun k _ => ?_
  have hk := contrEquiv1_symm_val dF 32 rfl rfl k
  have el : dF.lhsIdx (ix2 r d) ((contrEquiv1 dF 32 rfl rfl).symm k) = ix2 r k := funext fun a => Fin.ext (by
    match a with
    | ⟨0, _⟩ => exact dF_lhs0 _ _
    | ⟨1, _⟩ => exact (dF.lhsIdx_val_of_single rfl _ _).trans hk)
  have er : dF.rhsIdx (ix2 r d) ((contrEquiv1 dF 32 rfl rfl).symm k) = ix2 k d := funext fun a => Fin.ext (by
    match a with
    | ⟨0, _⟩ => exact (dF.rhsIdx_val_of_single rfl _ _).trans hk
    | ⟨1, _⟩ => exact dF_rhs1 _ _)
  rw [el, er]

/-- The product of joined vectors and weights: a sum over 2048 components. -/
theorem weightDot_apply (x : FVec Ideal S128x2048 .f32) (w : FVec Ideal S2x2048 .f32) (r : Fin 128) (p : Fin 2) :
    matmul dW none x w (constant S128x2 .f32 0x00000000#32) (ix2 r p)
      = inner (fun k : Fin 2048 => x (ix2 r k)) fun k => w (ix2 p k) := by
  unfold inner
  simp only [matmul]
  rw [Ideal.matmul_constant_zero_apply, ← Equiv.sum_comp (contrEquiv1 dW 2048 rfl rfl).symm]
  refine Finset.sum_congr rfl fun k _ => ?_
  have hk := contrEquiv1_symm_val dW 2048 rfl rfl k
  have el : dW.lhsIdx (ix2 r p) ((contrEquiv1 dW 2048 rfl rfl).symm k) = ix2 r k := funext fun a => Fin.ext (by
    match a with
    | ⟨0, _⟩ => exact dW_lhs0 _ _
    | ⟨1, _⟩ => exact (dW.lhsIdx_val_of_single rfl _ _).trans hk)
  have er : dW.rhsIdx (ix2 r p) ((contrEquiv1 dW 2048 rfl rfl).symm k) = ix2 p k := funext fun a => Fin.ext (by
    match a with
    | ⟨0, _⟩ => exact dW_rhs0 _ _
    | ⟨1, _⟩ => exact (dW.rhsIdx_val_of_single rfl _ _).trans hk)
  rw [el, er]

/-- The product of a vector and the features: a sum over 1024 components. -/
theorem featDot_apply (x : FVec Ideal S128x1024 .f32) (w : FVec Ideal S2048x1024 .f32) (r : Fin 128) (l : Fin 2048) :
    matmul dN none x w (constant S128x2048 .f32 0x00000000#32) (ix2 r l)
      = inner (fun k : Fin 1024 => x (ix2 r k)) fun k => w (ix2 l k) := by
  unfold inner
  simp only [matmul]
  rw [Ideal.matmul_constant_zero_apply, ← Equiv.sum_comp (contrEquiv1 dN 1024 rfl rfl).symm]
  refine Finset.sum_congr rfl fun k _ => ?_
  have hk := contrEquiv1_symm_val dN 1024 rfl rfl k
  have el : dN.lhsIdx (ix2 r l) ((contrEquiv1 dN 1024 rfl rfl).symm k) = ix2 r k := funext fun a => Fin.ext (by
    match a with
    | ⟨0, _⟩ => exact dN_lhs0 _ _
    | ⟨1, _⟩ => exact (dN.lhsIdx_val_of_single rfl _ _).trans hk)
  have er : dN.rhsIdx (ix2 r l) ((contrEquiv1 dN 1024 rfl rfl).symm k) = ix2 l k := funext fun a => Fin.ext (by
    match a with
    | ⟨0, _⟩ => exact dN_rhs0 _ _
    | ⟨1, _⟩ => exact (dN.rhsIdx_val_of_single rfl _ _).trans hk)
  rw [el, er]

/-! ## The body's formula -/

/-- Two blocks of rows joined, at an index. -/
theorem join_apply (x c : FVec Ideal S128x1024 .f32) (r : Fin 128) (k : Fin 2048) :
    concatenate S128x2048 1 [⟨S128x1024, x⟩, ⟨S128x1024, c⟩] concatenates_S128x1024_S128x1024_S128x2048_d1 (ix2 r k)
      = joined (fun k => x (ix2 r k)) (fun k => c (ix2 r k)) k := by
  unfold joined
  split
  · rename_i h
    exact concatenate_pair_apply_left 1 x c _ (ix2 r k) rfl (ix2 r ⟨k.val, h⟩) fun a => match a with
      | ⟨0, _⟩ => rfl
      | ⟨1, _⟩ => rfl
  · rename_i h
    refine concatenate_pair_apply_right 1 x c _ (ix2 r k) rfl rfl (ix2 r ⟨k.val - 1024, by omega⟩) (fun a ha => ?_) ?_
    · match a with
      | ⟨0, _⟩ => rfl
      | ⟨1, _⟩ => exact absurd rfl ha
    · show k.val - 1024 + 1024 = k.val
      omega

/-- The greatest of a row of two, repeated along the row. -/
theorem topRow_apply (v : FVec Ideal S128x2 .f32) (r : Fin 128) (p : Fin 2) :
    broadcastTo S128x2 (shapeCast S128x1 (multiReduction .maximumf [1] S128 v 0xFF800000#32 reduces_S128x2_S128 (.inl rfl) rfl)
        shapeCasts_S128_S128x1) broadcasts_S128x1_S128x2 (ix2 r p)
      = top fun q => v (ix2 r q) := by
  rw [broadcastTo_apply _ _ (ix2 r p) (ix2 r (0 : Fin 1)) fun a => match a with
      | ⟨0, _⟩ => rfl
      | ⟨1, _⟩ => rfl,
    shapeCast_apply _ shapeCasts_S128_S128x1 (ix2 r (0 : Fin 1)) (ix1 r) (by
      rw [Shape.rowMajor_val_one, Shape.rowMajor_val_two]; show r.val = r.val * 1 + 0; omega)]
  refine (Ideal.multiReduction_maximumf_single v _ reduces_S128x2_S128 (.inl rfl) rfl (ix1 r)).trans ?_
  have h0 : (FloatOps.ofBits (F := Ideal) .f32 0xFF800000#32 : EReal) = ⊥ := by
    show Ideal.ofBits .f32 0xFF800000#32 = ⊥
    simp [Ideal.ofBits, Ideal.ieee]
  refine (congrArg (fun b : EReal => (Finset.univ : Finset (Fin 2)).fold max b _) h0).trans ?_
  refine congrArg (fun f => (Finset.univ : Finset (Fin 2)).fold max (⊥ : EReal) f) (funext fun j => ?_)
  refine congrArg v (funext fun a => ?_)
  match a with
  | ⟨0, _⟩ => rfl
  | ⟨1, _⟩ => rfl

/-- The sum of a row of two, repeated along the row. -/
theorem sumRow_apply (v : FVec Ideal S128x2 .f32) (r : Fin 128) (p : Fin 2) :
    broadcastTo S128x2 (shapeCast S128x1 (multiReduction .add [1] S128 v 0x00000000#32 reduces_S128x2_S128 (.inl rfl) rfl)
        shapeCasts_S128_S128x1) broadcasts_S128x1_S128x2 (ix2 r p)
      = ∑ q : Fin 2, (v (ix2 r q) : EReal) := by
  rw [broadcastTo_apply _ _ (ix2 r p) (ix2 r (0 : Fin 1)) fun a => match a with
      | ⟨0, _⟩ => rfl
      | ⟨1, _⟩ => rfl,
    shapeCast_apply _ shapeCasts_S128_S128x1 (ix2 r (0 : Fin 1)) (ix1 r) (by
      rw [Shape.rowMajor_val_one, Shape.rowMajor_val_two]; show r.val = r.val * 1 + 0; omega)]
  refine (Ideal.multiReduction_add_single v _ reduces_S128x2_S128 (.inl rfl) rfl (ix1 r)).trans ?_
  refine Finset.sum_congr rfl fun j _ => congrArg v (funext fun a => ?_)
  match a with
  | ⟨0, _⟩ => rfl
  | ⟨1, _⟩ => rfl

/-- A block of one slice holds what the matrix does. -/
theorem sliced_apply (v : FVec Ideal S128x2048 .f32) (r : Fin 128) (l : Fin 2048) :
    shapeCast S1x128x2048 v shapeCasts_S128x2048_S1x128x2048 (ix3 (0 : Fin 1) r l) = v (ix2 r l) :=
  shapeCast_apply _ _ _ _ (by
    rw [Shape.rowMajor_val_two, Shape.rowMajor_val_three]
    show r.val * 2048 + l.val = (0 * 128 + r.val) * 2048 + l.val; omega)

/-- A column of two repeated along 2048 columns. -/
theorem col0_apply (v : FVec Ideal S128x2 .f32) (r : Fin 128) (l : Fin 2048) :
    broadcastTo S128x2048 (extractStridedSlice S128x1 ![0, 0] v slices_S128x2_o0_0_S128x1) broadcasts_S128x1_S128x2048 (ix2 r l)
      = v (ix2 r (0 : Fin 2)) := by
  rw [broadcastTo_apply _ _ (ix2 r l) (ix2 r (0 : Fin 1)) fun a => match a with
      | ⟨0, _⟩ => rfl
      | ⟨1, _⟩ => rfl]
  exact extractStridedSlice_apply ![0, 0] _ slices_S128x2_o0_0_S128x1 (ix2 r (0 : Fin 1)) (ix2 r (0 : Fin 2)) fun a => match a with
    | ⟨0, _⟩ => by show r.val = 0 + r.val; omega
    | ⟨1, _⟩ => rfl
theorem col1_apply (v : FVec Ideal S128x2 .f32) (r : Fin 128) (l : Fin 2048) :
    broadcastTo S128x2048 (extractStridedSlice S128x1 ![0, 1] v slices_S128x2_o0_1_S128x1) broadcasts_S128x1_S128x2048 (ix2 r l)
      = v (ix2 r (1 : Fin 2)) := by
  rw [broadcastTo_apply _ _ (ix2 r l) (ix2 r (0 : Fin 1)) fun a => match a with
      | ⟨0, _⟩ => rfl
      | ⟨1, _⟩ => rfl]
  exact extractStridedSlice_apply ![0, 1] _ slices_S128x2_o0_1_S128x1 (ix2 r (0 : Fin 1)) (ix2 r (1 : Fin 2)) fun a => match a with
    | ⟨0, _⟩ => by show r.val = 0 + r.val; omega
    | ⟨1, _⟩ => rfl

/-- The bias of two, repeated along the rows. -/
theorem bias_apply (v : FVec Ideal S1x2 .f32) (r : Fin 128) (p : Fin 2) :
    broadcastTo S128x2 v broadcasts_S1x2_S128x2 (ix2 r p) = v (ix2 (0 : Fin 1) p) :=
  broadcastTo_apply _ _ _ _ fun a => match a with
    | ⟨0, _⟩ => rfl
    | ⟨1, _⟩ => rfl

/-- A reshape to the same shape changes nothing. -/
theorem same {s : Shape} (v : FVec Ideal s .f32) (h : s.ShapeCasts s) : shapeCast s v h = v :=
  funext fun i => shapeCast_apply v h i i rfl

/-- The softmax of a row of two, as the body computes it. -/
theorem soft_apply (u v : FVec Ideal S128x2 .f32) (r : Fin 128) (p : Fin 2) (T : FVec Ideal S128x2 .f32) (Z : FVec Ideal S128x2 .f32)
    (hT : ∀ q, T (ix2 r q) = top fun q => v (ix2 r q)) (hu : u = exp (subf v T)) (hZ : Z (ix2 r p) = ∑ q : Fin 2, (u (ix2 r q) : EReal)) :
    divf u Z (ix2 r p) = soft (fun q => v (ix2 r q)) p := by
  have hd : ∀ x y z w : EReal, x = y → z = w → Ideal.div x z = Ideal.div y w := fun x y z w h h' => by rw [h, h']
  have hx : ∀ q, u (ix2 r q) = Ideal.exp (v (ix2 r q) - top fun q => v (ix2 r q)) := fun q => by
    rw [hu, ← hT q]; rfl
  unfold soft
  refine hd _ _ _ _ (hx p) (hZ.trans ?_)
  exact Finset.sum_congr rfl fun q _ => hx q

/-- The preferences, as the body computes them. -/
def prefsOf (x c : FVec Ideal S128x1024 .f32) (w : FVec Ideal S2x2048 .f32) (bias : FVec Ideal S1x2 .f32) : FVec Ideal S128x2 .f32 :=
  addf (matmul dW none (concatenate S128x2048 1 [⟨S128x1024, x⟩, ⟨S128x1024, c⟩] concatenates_S128x1024_S128x1024_S128x2048_d1) w
    (constant S128x2 .f32 0x00000000#32)) (broadcastTo S128x2 bias broadcasts_S1x2_S128x2)

theorem prefs_apply (x c : FVec Ideal S128x1024 .f32) (w : FVec Ideal S2x2048 .f32) (bias : FVec Ideal S1x2 .f32) (r : Fin 128) (q : Fin 2) :
    prefsOf x c w bias (ix2 r q)
      = prefs (fun k => x (ix2 r k)) (fun k => c (ix2 r k)) (fun p k => w (ix2 p k)) (fun p => bias (ix2 (0 : Fin 1) p)) q := by
  have ha : ∀ a b c d : EReal, a = b → c = d → a + c = b + d := fun a b c d h h' => by rw [h, h']
  unfold prefs
  refine ha _ _ _ _ ((weightDot_apply _ w r q).trans ?_) (bias_apply bias r q)
  exact congrArg (fun g => inner g fun k => w (ix2 q k)) (funext fun k => join_apply x c r k)

/-- The softmax of rows of two, as the body computes it. -/
def softOf (v : FVec Ideal S128x2 .f32) : FVec Ideal S128x2 .f32 :=
  divf (exp (subf v (broadcastTo S128x2 (shapeCast S128x1 (multiReduction .maximumf [1] S128 v 0xFF800000#32 reduces_S128x2_S128 (.inl rfl) rfl)
      shapeCasts_S128_S128x1) broadcasts_S128x1_S128x2)))
    (broadcastTo S128x2 (shapeCast S128x1 (multiReduction .add [1] S128 (exp (subf v (broadcastTo S128x2 (shapeCast S128x1
      (multiReduction .maximumf [1] S128 v 0xFF800000#32 reduces_S128x2_S128 (.inl rfl) rfl) shapeCasts_S128_S128x1) broadcasts_S128x1_S128x2)))
      0x00000000#32 reduces_S128x2_S128 (.inl rfl) rfl) shapeCasts_S128_S128x1) broadcasts_S128x1_S128x2)

theorem softOf_apply (v : FVec Ideal S128x2 .f32) (r : Fin 128) (p : Fin 2) : softOf v (ix2 r p) = soft (fun q => v (ix2 r q)) p :=
  soft_apply _ _ r p _ _ (fun q => topRow_apply _ r q) rfl (sumRow_apply _ r p)

/-- The weighted sum of the products with the features, as the body computes it. -/
def mixed (g : FVec Ideal S128x2 .f32) (x c : FVec Ideal S128x1024 .f32) (f : FVec Ideal S2048x1024 .f32) : FVec Ideal S128x2048 .f32 :=
  addf (mulf (broadcastTo S128x2048 (extractStridedSlice S128x1 ![0, 0] g slices_S128x2_o0_0_S128x1) broadcasts_S128x1_S128x2048)
      (matmul dN none x f (constant S128x2048 .f32 0x00000000#32)))
    (mulf (broadcastTo S128x2048 (extractStridedSlice S128x1 ![0, 1] g slices_S128x2_o0_1_S128x1) broadcasts_S128x1_S128x2048)
      (matmul dN none c f (constant S128x2048 .f32 0x00000000#32)))

theorem mixed_apply (g : FVec Ideal S128x2 .f32) (x c : FVec Ideal S128x1024 .f32) (f : FVec Ideal S2048x1024 .f32) (r : Fin 128) (l : Fin 2048) :
    mixed g x c f (ix2 r l)
      = (g (ix2 r (0 : Fin 2)) : EReal) * inner (fun k => x (ix2 r k)) (fun k => f (ix2 l k))
        + (g (ix2 r (1 : Fin 2)) : EReal) * inner (fun k => c (ix2 r k)) (fun k => f (ix2 l k)) := by
  have ha : ∀ a b c d : EReal, a = b → c = d → a + c = b + d := fun a b c d h h' => by rw [h, h']
  have hm : ∀ a b c d : EReal, a = b → c = d → a * c = b * d := fun a b c d h h' => by rw [h, h']
  exact ha _ _ _ _ (hm _ _ _ _ (col0_apply g r l) (featDot_apply x f r l)) (hm _ _ _ _ (col1_apply g r l) (featDot_apply c f r l))

/-- What the body stores, by its parts. -/
theorem pay_eq (x c : Vec Ideal S128x1024 .f32) (w : Vec Ideal S2x2048 .f32) (bias : Vec Ideal S1x2 .f32) (f : Vec Ideal S2048x1024 .f32) :
    k1_pay81 (F := Ideal) x c w bias f
      = shapeCast S1x128x2048 (mixed (softOf (prefsOf (shapeCast S128x1024 x shapeCasts_S128x1024_S128x1024)
          (shapeCast S128x1024 c shapeCasts_S128x1024_S128x1024) w (shapeCast S1x2 bias shapeCasts_S1x2_S1x2)))
          (shapeCast S128x1024 x shapeCasts_S128x1024_S128x1024) (shapeCast S128x1024 c shapeCasts_S128x1024_S128x1024)
          (shapeCast S2048x1024 f shapeCasts_S2048x1024_S2048x1024)) shapeCasts_S128x2048_S1x128x2048 := rfl

/-- What the body stores at a row and a column of its slice. -/
theorem score_apply (x c : Vec Ideal S128x1024 .f32) (w : Vec Ideal S2x2048 .f32) (bias : Vec Ideal S1x2 .f32)
    (f : Vec Ideal S2048x1024 .f32) (r : Fin 128) (l : Fin 2048) :
    k1_pay81 (F := Ideal) x c w bias f (ix3 (0 : Fin 1) r l)
      = score (fun k => x (ix2 r k)) (fun k => c (ix2 r k)) (fun p k => w (ix2 p k)) (fun p => bias (ix2 (0 : Fin 1) p))
          fun k => f (ix2 l k) := by
  rw [pay_eq, sliced_apply, same x, same c, same bias, same f, mixed_apply, softOf_apply, softOf_apply]
  simp only [prefs_apply]
  rfl

end Cert.Proof.Route

end
-- ==== Proof.RouterStagesI.lean ====
/-
  The selection of the sixteen greatest scores as sixteen equal rounds: each takes the maximum of every row of the scratch
  array, the least position that holds it, and sets that position to the named constant. The printed operations of all
  rounds are those of the first, of the array the round before left.
-/
module

public import proofs.«01_k».proof.Proof.RouterBodyI
public import Idealize.ShloMosaic.Lib.ValueIdx

@[expose] public section

noncomputable section

namespace Cert.RouterIdeal.Route

open Cert.RouterIdeal Cert.RouterIdeal.Gen
open Idealize.ShloMosaic

variable {F : FTy → Type} [FloatOps F] [Named F]

/-- The scratch array after some rounds. -/
def stage (s : Vec F S8x128x2048 .f32) : ℕ → Vec F S8x128x2048 .f32
  | 0 => s
  | i + 1 => k1_pay7 (stage s i)

/-- The maxima taken in a round, as a column. -/
def column (s : Vec F S8x128x2048 .f32) (i : ℕ) : FVec F S128x1 .f32 := k1_pay5 (stage s i)

/-- The positions taken in a round, as a column. -/
def place (s : Vec F S8x128x2048 .f32) (i : ℕ) : IVec S128x1 32 := k1_pay6 (stage s i)

/-- The maxima of the rows, each over its row. -/
def spread (s : Vec F S8x128x2048 .f32) : FVec F S8x128x2048 .f32 :=
  broadcastTo S8x128x2048 (shapeCast S1x128x1 (k1_pay3 s) shapeCasts_S128_S1x128x1) broadcasts_S1x128x1_S8x128x2048

/-- The positions that hold the maximum of their row, and the number of positions elsewhere. -/
def candidates (s : Vec F S8x128x2048 .f32) : IVec S8x128x2048 32 :=
  select (cmpf .oeq s (spread s)) k1_pay2 (broadcast S8x128x2048 16384#32)

theorem stage_stage (s : Vec F S8x128x2048 .f32) (i j : ℕ) : stage (stage s i) j = stage s (i + j) := by
  induction j with
  | zero => rfl
  | succ j ih => exact congrArg k1_pay7 ih

theorem column_stage (s : Vec F S8x128x2048 .f32) (i j : ℕ) : column (stage s i) j = column s (i + j) :=
  congrArg k1_pay5 (stage_stage s i j)

theorem place_stage (s : Vec F S8x128x2048 .f32) (i j : ℕ) : place (stage s i) j = place s (i + j) :=
  congrArg k1_pay6 (stage_stage s i j)

/-! ## The rounds of each part of the body -/

section
variable (s : Vec F S8x128x2048 .f32)

theorem part1 : k1_pay9 s = k1_pay4 (stage s 1) ∧ k1_pay12 s = stage s 2 ∧ k1_pay13 s = k1_pay3 (stage s 2)
    ∧ k1_pay14 s = spread (stage s 2) ∧ k1_pay10 s = column s 1 ∧ k1_pay11 s = place s 1 :=
  ⟨rfl, rfl, rfl, rfl, rfl, rfl⟩

theorem part2 : k1_pay17 k1_pay2 s (spread s) = place s 0 ∧ k1_pay21 k1_pay2 s (spread s) = column s 1
    ∧ k1_pay22 k1_pay2 s (spread s) = place s 1 ∧ k1_pay26 k1_pay2 s (spread s) = column s 2
    ∧ k1_pay27 k1_pay2 s (spread s) = place s 2 ∧ k1_pay28 k1_pay2 s (spread s) = stage s 3 :=
  ⟨rfl, rfl, rfl, rfl, rfl, rfl⟩

theorem part3 : k1_pay31 s = column s 0 ∧ k1_pay32 k1_pay2 s = place s 0 ∧ k1_pay36 k1_pay2 s = column s 1
    ∧ k1_pay37 k1_pay2 s = place s 1 ∧ k1_pay38 k1_pay2 s = stage s 2 ∧ k1_pay42 k1_pay2 s = column s 2
    ∧ k1_pay43 (k1_pay40 k1_pay2 s) = place s 2
    ∧ k1_pay41 k1_pay2 s = shapeCast S1x128x1 (k1_pay4 (stage s 2)) shapeCasts_S128_S1x128x1 :=
  ⟨rfl, rfl, rfl, rfl, rfl, rfl, rfl, rfl⟩

/-- The least positions, as the next part of the body reads them. -/
abbrev low : IVec S1x128x1 32 := shapeCast S1x128x1 (k1_pay4 s) shapeCasts_S128_S1x128x1

theorem part4 : k1_pay47 k1_pay2 s (low s) = column s 1 ∧ k1_pay48 k1_pay2 s (low s) = place s 1
    ∧ k1_pay52 k1_pay2 s (low s) = column s 2 ∧ k1_pay53 k1_pay2 s (low s) = place s 2
    ∧ k1_pay54 k1_pay2 s (low s) = stage s 3 ∧ k1_pay58 (k1_pay55 k1_pay2 s (low s)) = column s 3
    ∧ k1_pay56 k1_pay2 s (low s) = candidates (stage s 3) :=
  ⟨rfl, rfl, rfl, rfl, rfl, rfl, rfl⟩

theorem part5 : k1_pay59 (candidates s) = place s 0
    ∧ k1_pay63 k1_pay2 s (candidates s) = column s 1 ∧ k1_pay64 k1_pay2 s (candidates s) = place s 1
    ∧ k1_pay68 k1_pay2 s (candidates s) = column s 2 ∧ k1_pay69 k1_pay2 s (candidates s) = place s 2
    ∧ k1_pay70 k1_pay2 s (candidates s) = stage s 3 ∧ k1_pay71 k1_pay2 s (candidates s) = k1_pay3 (stage s 3) :=
  ⟨rfl, rfl, rfl, rfl, rfl, rfl, rfl⟩

theorem part6 : k1_pay72 k1_pay2 s (k1_pay3 s) = k1_pay4 s ∧ k1_pay74 k1_pay2 s (k1_pay3 s) = k1_pay3 (stage s 1)
    ∧ k1_pay75 k1_pay2 s (k1_pay3 s) = k1_pay4 (stage s 1) ∧ k1_pay76 k1_pay2 s (k1_pay3 s) = stage s 2
    ∧ k1_pay77 k1_pay2 s (k1_pay3 s) = k1_pay3 (stage s 2) :=
  ⟨rfl, rfl, rfl, rfl, rfl⟩

end

/-! ## The sixteen columns -/

/-- The sixteen columns side by side. -/
def columns (s : Vec F S8x128x2048 .f32) : FVec F S128x16 .f32 :=
  concatenate S128x16 1 (List.ofFn fun n : Fin 16 => (⟨S128x1, column s n⟩ : (s : Shape) × (s.Idx → F .f32)))
    concatenates_S128x1_S128x1_S128x1_S128x1_S128x1_S128x1_S128x1_S128x1_S128x1_S128x1_S128x1_S128x1_S128x1_S128x1_S128x1_S128x1_S128x16_d1

/-- The sixteen columns of positions side by side. -/
def places (s : Vec F S8x128x2048 .f32) : IVec S128x16 32 :=
  concatenate S128x16 1 (List.ofFn fun n : Fin 16 => (⟨S128x1, place s n⟩ : (s : Shape) × (s.Idx → BitVec 32)))
    concatenates_S128x1_S128x1_S128x1_S128x1_S128x1_S128x1_S128x1_S128x1_S128x1_S128x1_S128x1_S128x1_S128x1_S128x1_S128x1_S128x1_S128x16_d1

/-- The first column, over the sixteen. -/
def leading (x : FVec F S128x16 .f32) : FVec F S128x16 .f32 :=
  broadcastTo S128x16 (extractStridedSlice S128x1 ![0, 0] x slices_S128x16_o0_0_S128x1) broadcasts_S128x1_S128x16

/-- What the last block's branch computes: the maxima and the positions of the sixteen rounds, and the first maximum over
    the sixteen. -/
theorem picked_eq (s : Vec F S8x128x2048 .f32) : picked s = (columns s, places s, leading (columns s)) := by
  obtain ⟨-, p12, p13, p14, p10, p11⟩ := part1 s
  obtain ⟨i2, t3, i3, t4, i4, s5⟩ := part2 (stage s 2)
  obtain ⟨t5, i5, t6, i6, s7, t7, i7, c7⟩ := part3 (stage s 5)
  obtain ⟨t8, i8, t9, i9, s10, t10, w10⟩ := part4 (stage s 7)
  obtain ⟨i10, t11, i11, t12, i12, s13, x13⟩ := part5 (stage s 10)
  obtain ⟨i13, t14, i14, s15, t15⟩ := part6 (stage s 13)
  simp only [stage_stage, column_stage, place_stage, Nat.reduceAdd] at *
  unfold picked
  dsimp only
  rw [p12, p13, p14, p10, p11, i2, t3, i3, t4, i4, s5, t5, i5, t6, i6, s7, t7, i7, c7, t8, i8, t9, i9, s10, t10, w10,
    i10, t11, i11, t12, i12, s13, x13]
  have h78 : ∀ t0 t1 t2 t3 t4 t5 t6 t7 t8 t9 t10 t11 t12 : FVec F S128x1 .f32,
      k1_pay78 k1_pay2 t0 t1 t2 t3 t4 t5 t6 t7 t8 t9 t10 t11 t12 (stage s 13) (k1_pay3 (stage s 13))
        = concatenate S128x16 1 [⟨S128x1, t0⟩, ⟨S128x1, t1⟩, ⟨S128x1, t2⟩, ⟨S128x1, t3⟩, ⟨S128x1, t4⟩, ⟨S128x1, t5⟩,
            ⟨S128x1, t6⟩, ⟨S128x1, t7⟩, ⟨S128x1, t8⟩, ⟨S128x1, t9⟩, ⟨S128x1, t10⟩, ⟨S128x1, t11⟩, ⟨S128x1, t12⟩,
            ⟨S128x1, column s 13⟩, ⟨S128x1, column s 14⟩, ⟨S128x1, column s 15⟩]
            concatenates_S128x1_S128x1_S128x1_S128x1_S128x1_S128x1_S128x1_S128x1_S128x1_S128x1_S128x1_S128x1_S128x1_S128x1_S128x1_S128x1_S128x16_d1 := by
    intros
    unfold k1_pay78
    dsimp only
    rw [t14, t15]
    rfl
  have h79 : ∀ t0 t1 t2 t3 t4 t5 t6 t7 t8 t9 t10 t11 t12 : IVec S128x1 32,
      k1_pay79 k1_pay2 t0 t1 t2 t3 t4 t5 t6 t7 t8 t9 t10 t11 t12 (stage s 13) (k1_pay3 (stage s 13))
        = concatenate S128x16 1 [⟨S128x1, t0⟩, ⟨S128x1, t1⟩, ⟨S128x1, t2⟩, ⟨S128x1, t3⟩, ⟨S128x1, t4⟩, ⟨S128x1, t5⟩,
            ⟨S128x1, t6⟩, ⟨S128x1, t7⟩, ⟨S128x1, t8⟩, ⟨S128x1, t9⟩, ⟨S128x1, t10⟩, ⟨S128x1, t11⟩, ⟨S128x1, t12⟩,
            ⟨S128x1, place s 13⟩, ⟨S128x1, place s 14⟩, ⟨S128x1, place s 15⟩]
            concatenates_S128x1_S128x1_S128x1_S128x1_S128x1_S128x1_S128x1_S128x1_S128x1_S128x1_S128x1_S128x1_S128x1_S128x1_S128x1_S128x1_S128x16_d1 := by
    intros
    unfold k1_pay79
    dsimp only
    rw [i13, i14, s15, t15]
    rfl
  unfold k1_pay80
  dsimp only
  rw [h78, h79]
  rfl

end Cert.RouterIdeal.Route

end
-- ==== Proof.RouterTopI.lean ====
/-
  The greatest entries of a row, one at a time: in each round the greatest entry that is left is taken, the first of them
  where several are equal, and its place is set to minus infinity. Where no entry is minus infinity to begin with, the first
  rounds take the first places of the row's stable sort, greatest first.
-/
module

public import Idealize.ShloMosaic.Lib.SortPrefix
public import Idealize.ShloMosaic.PureOps.Ideal

@[expose] public section

noncomputable section

namespace Cert.Proof.Top

open Idealize.ShloMosaic

/-- Two comparators that agree wherever the later element is asked about first sort a list alike: a stable sort asks nothing
    else. -/
theorem stableSort_later {ι : Type} (R Q : ι → ι → Bool) (l : List ι) (h : l.Pairwise fun a b => R b a = Q b a) :
    stableSort R l = stableSort Q l := by
  induction l with
  | nil => rfl
  | cons a l ih =>
    rw [List.pairwise_cons] at h
    unfold stableSort
    rw [ih h.2]
    exact insertBefore_congr R Q a _ fun b hb => h.1 b ((perm_stableSort Q l).mem_iff.mp hb)

/-- The same of the sort of the positions of a row. -/
theorem sortedFrom_later {n : ℕ} (R Q : Fin n → Fin n → Bool) (h : ∀ a b, a < b → R b a = Q b a) : sortedFrom R = sortedFrom Q := by
  have e : sortPositions n R = sortPositions n Q :=
    stableSort_later R Q _ ((List.pairwise_lt_finRange n).imp fun {a b} hab => h a b hab)
  funext k
  unfold sortedFrom
  rw [List.get_of_eq e]
  rfl

/-- Rounds over a row: `st i` is the row before round `i`, and `p i` the place that round `i` takes. -/
structure Rounds {n : ℕ} (x : Fin n → EReal) (st : ℕ → Fin n → EReal) (p : ℕ → Fin n) : Prop where
  start : st 0 = x
  step : ∀ i q, st (i + 1) q = if q = p i then ⊥ else st i q
  greatest : ∀ i q, st i q ≤ st i (p i)
  first : ∀ i q, st i q = st i (p i) → p i ≤ q

/-- The greater entry first. -/
def greater {n : ℕ} (x : Fin n → EReal) (a b : Fin n) : Bool := decide (x b < x a)

/-- The greater entry first, and of equal ones the earlier. -/
def greaterThenFirst {n : ℕ} (x : Fin n → EReal) (a b : Fin n) : Bool :=
  decide (x b < x a) || (decide (x a = x b) && decide (a < b))

section
variable {n : ℕ} {x : Fin n → EReal} {st : ℕ → Fin n → EReal} {p : ℕ → Fin n} (R : Rounds x st p)
include R

/-- A place that has not been taken holds its own entry. -/
theorem Rounds.left {i : ℕ} {q : Fin n} (h : ∀ j < i, p j ≠ q) : st i q = x q := by
  induction i with
  | zero => rw [R.start]
  | succ i ih => rw [R.step, if_neg (fun e => h i (Nat.lt_succ_self i) e.symm), ih fun j hj => h j (Nat.lt_succ_of_lt hj)]

/-- A place that has been taken holds minus infinity. -/
theorem Rounds.taken {i j : ℕ} (h : j < i) : st i (p j) = ⊥ := by
  induction i with
  | zero => exact absurd h (Nat.not_lt_zero j)
  | succ i ih =>
    rw [R.step]
    by_cases e : p j = p i
    · rw [if_pos e]
    · rw [if_neg e]
      exact ih (lt_of_le_of_ne (Nat.le_of_lt_succ h) fun ej => e (by rw [ej]))

/-- A round takes a place that no round before it took. -/
theorem Rounds.fresh (hx : ∀ q, x q ≠ ⊥) {i j : ℕ} (hi : i < n) (hj : j < i) : p j ≠ p i := by
  classical
  intro e
  obtain ⟨q, hq⟩ : ∃ q, q ∉ (Finset.range i).image p := by
    by_contra h
    push Not at h
    have h1 : (Finset.univ : Finset (Fin n)).card ≤ ((Finset.range i).image p).card := Finset.card_le_card fun q _ => h q
    have h2 := (h1.trans Finset.card_image_le)
    rw [Finset.card_fin, Finset.card_range] at h2
    omega
  have hl : st i q = x q := R.left fun j hj e' => hq (Finset.mem_image.mpr ⟨j, Finset.mem_range.mpr hj, e'⟩)
  have hg := R.greatest i q
  rw [hl, ← e, R.taken hj] at hg
  exact hx q (le_bot_iff.mp hg)

/-- What a round takes is the entry of its place. -/
theorem Rounds.entry (hx : ∀ q, x q ≠ ⊥) {i : ℕ} (hi : i < n) : st i (p i) = x (p i) :=
  R.left fun _ hj => R.fresh hx hi hj

/-- Nothing that is left comes before what a round takes. -/
theorem Rounds.not_before (hx : ∀ q, x q ≠ ⊥) {i : ℕ} (hi : i < n) {q : Fin n} (h : ∀ j < i, p j ≠ q) :
    greaterThenFirst x q (p i) = false := by
  have hg := R.greatest i q
  have hf := R.first i q
  rw [R.left h, R.entry hx hi] at hg hf
  unfold greaterThenFirst
  rw [Bool.or_eq_false_iff, Bool.and_eq_false_iff]
  refine ⟨decide_eq_false (not_lt.mpr hg), ?_⟩
  by_cases e : x q = x (p i)
  · exact Or.inr (decide_eq_false (not_lt.mpr (hf e)))
  · exact Or.inl (decide_eq_false e)

/-- The first `k` rounds take the first `k` places of the stable sort. -/
theorem Rounds.sorted (hx : ∀ q, x q ≠ ⊥) {k : ℕ} (hk : k ≤ n) (i : Fin k) : sortedFrom (greater x) (i.castLE hk) = p i.val := by
  have hB : StrictTotalBefore (greaterThenFirst x) :=
    StrictTotalBefore.of_key_then_position (fun a b : EReal => decide (b < a)) x (fun a => decide_eq_false (lt_irrefl a))
      (fun a b c h1 h2 => decide_eq_true (lt_trans (of_decide_eq_true h2) (of_decide_eq_true h1)))
      (fun a b => by
        rcases lt_trichotomy a b with h | h | h
        · exact Or.inr (Or.inr (decide_eq_true h))
        · exact Or.inr (Or.inl h)
        · exact Or.inl (decide_eq_true h))
  rw [sortedFrom_later (greater x) (greaterThenFirst x) fun a b hab => by
    unfold greater greaterThenFirst
    rw [decide_eq_false (not_lt.mpr hab.le), Bool.and_false, Bool.or_false]]
  refine hB.sortedFrom_eq_of_prefix hk (fun i : Fin k => p i.val) ?_ ?_ ?_ i
  · intro a b e
    rcases lt_trichotomy a b with h | h | h
    · exact absurd e (R.fresh hx (lt_of_lt_of_le b.isLt hk) h)
    · exact h
    · exact absurd e.symm (R.fresh hx (lt_of_lt_of_le a.isLt hk) h)
  · intro i j hij
    exact R.not_before hx (lt_of_lt_of_le i.isLt hk) fun l hl => R.fresh hx (lt_of_lt_of_le j.isLt hk) (lt_trans hl hij)
  · intro i q hq
    exact R.not_before hx (lt_of_lt_of_le i.isLt hk) fun l hl => hq ⟨l, lt_trans hl i.isLt⟩

end

end Cert.Proof.Top

end
-- ==== Proof.RouterRowsI.lean ====
/-
  One round of the selection, read row by row over the extended reals: the maximum of a row, the least position that holds
  it, and the row with minus infinity at that position. The sixteen rounds are the first sixteen places of the row's stable
  sort, greatest first.
-/
module

public import proofs.«01_k».proof.Proof.RouterStagesI
public import proofs.«01_k».proof.Proof.RouterTopI
public import Idealize.ShloMosaic.Lib.ValueIdx
public import Idealize.ShloMosaic.Lib.SortNet.Extract
public import Idealize.ShloMosaic.Lib.Pipeline.Value
public import Idealize.ShloMosaic.Lib.KernelVsHost
public import Idealize.ShloMosaic.PureOps.IdealRules

@[expose] public section

set_option maxRecDepth 16384

noncomputable section

namespace Cert.Proof.Route

open Cert.RouterIdeal Cert.RouterIdeal.Gen Cert.RouterIdeal.Route

open Idealize.ShloMosaic
open Idealize.ShloMosaic.ValueIdx
open Cert.Proof.Top

/-! ## Folds -/

/-- A fold of the maximum from minus infinity is at least every value, and one of them. -/
theorem fold_max {n : ℕ} [NeZero n] (f : Fin n → EReal) :
    (∀ k, f k ≤ (Finset.univ : Finset (Fin n)).fold max ⊥ f) ∧ ∃ k, f k = (Finset.univ : Finset (Fin n)).fold max ⊥ f := by
  refine ⟨fun k => Finset.le_sup (f := f) (Finset.mem_univ k), ?_⟩
  obtain ⟨k, -, hk⟩ := Finset.exists_mem_eq_sup (Finset.univ : Finset (Fin n)) ⟨0, Finset.mem_univ 0⟩ f
  exact ⟨k, hk.symm⟩

/-- A fold of the signed minimum from the greatest word is at most every word, and one of them. -/
theorem fold_min {n : ℕ} [NeZero n] (g : Fin n → BitVec 32) :
    (∀ k, ((Finset.univ : Finset (Fin n)).fold IntOp.minsi 2147483647#32 g).toInt ≤ (g k).toInt)
      ∧ ∃ k, g k = (Finset.univ : Finset (Fin n)).fold IntOp.minsi 2147483647#32 g := by
  have key : ∀ s : Finset (Fin n), (∀ k ∈ s, (s.fold IntOp.minsi 2147483647#32 g).toInt ≤ (g k).toInt)
      ∧ (s.fold IntOp.minsi 2147483647#32 g = 2147483647#32 ∨ ∃ k, g k = s.fold IntOp.minsi 2147483647#32 g) := by
    classical
    intro s
    induction s using Finset.induction_on with
    | empty => exact ⟨fun k hk => absurd hk (Finset.notMem_empty k), Or.inl (Finset.fold_empty)⟩
    | insert a s ha ih =>
      rw [Finset.fold_insert ha]
      have hm := SortNet.toInt_minsi (g a) (s.fold IntOp.minsi 2147483647#32 g)
      refine ⟨fun k hk => ?_, ?_⟩
      · rw [hm]
        rcases Finset.mem_insert.mp hk with rfl | hk
        · exact min_le_left _ _
        · exact le_trans (min_le_right _ _) (ih.1 k hk)
      · rcases min_choice (g a).toInt (s.fold IntOp.minsi 2147483647#32 g).toInt with h | h
        · exact Or.inr ⟨a, (BitVec.eq_of_toInt_eq (hm.trans h)).symm⟩
        · rw [BitVec.eq_of_toInt_eq (hm.trans h)]
          exact ih.2
  obtain ⟨h1, h2⟩ := key Finset.univ
  refine ⟨fun k => h1 k (Finset.mem_univ k), ?_⟩
  rcases h2 with h | h
  · refine ⟨0, BitVec.eq_of_toInt_eq (le_antisymm ?_ (h1 0 (Finset.mem_univ 0)))⟩
    rw [h]
    have := BitVec.toInt_lt (x := g 0)
    show (g 0).toInt ≤ (2147483647 : Int)
    omega
  · exact h

/-! ## A round at a row -/

/-- The index of a position of a row. -/
def pos (r : Fin 128) (n : Fin 16384) : S8x128x2048.Idx :=
  ix3 (⟨n.val / 2048, by omega⟩ : Fin 8) r (⟨n.val % 2048, by omega⟩ : Fin 2048)

/-- The position at a slice and a column. -/
def number (k : Fin 8) (l : Fin 2048) : Fin 16384 := ⟨k.val * 2048 + l.val, by omega⟩

theorem pos_number (r : Fin 128) (k : Fin 8) (l : Fin 2048) : pos r (number k l) = ix3 k r l := by
  funext a
  match a with
  | ⟨0, _⟩ => exact Fin.ext (by show (k.val * 2048 + l.val) / 2048 = k.val; omega)
  | ⟨1, _⟩ => rfl
  | ⟨2, _⟩ => exact Fin.ext (by show (k.val * 2048 + l.val) % 2048 = l.val; omega)

theorem pos_ix3 (r : Fin 128) (n : Fin 16384) : ∃ k l, number k l = n :=
  ⟨⟨n.val / 2048, by omega⟩, ⟨n.val % 2048, by omega⟩, Fin.ext (by show n.val / 2048 * 2048 + n.val % 2048 = n.val; omega)⟩

/-- A row of the scratch array. -/
def row (s : Vec Ideal S8x128x2048 .f32) (r : Fin 128) (n : Fin 16384) : EReal := s (pos r n)

variable (s : Vec Ideal S8x128x2048 .f32) (r : Fin 128)

/-- The maximum of a row. -/
def most : EReal := k1_pay3 (F := Ideal) s (ix1 r)
/-- The word of the least position that holds the maximum of a row. -/
def least : BitVec 32 := k1_pay4 (F := Ideal) s (ix1 r)

theorem bot_bits : (FloatOps.ofBits (F := Ideal) .f32 0xFF800000#32 : EReal) = ⊥ := by
  show Ideal.ofBits .f32 0xFF800000#32 = ⊥
  simp [Ideal.ofBits, Ideal.ieee]

/-- Where a position of a row sits in the scratch array. -/
theorem lift_slice (k : Fin 8) (l : Fin 2048) : reduces_S8x128x2048_S8x128.lift (ix2 k r) l = ix3 k r l := by
  funext a
  match a with
  | ⟨0, _⟩ => rfl
  | ⟨1, _⟩ => rfl
  | ⟨2, _⟩ => rfl

/-- Where a slice of a row sits. -/
theorem lift_row (k : Fin 8) : reduces_S8x128_S128.lift (ix1 r) k = ix2 k r := by
  funext a
  match a with
  | ⟨0, _⟩ => rfl
  | ⟨1, _⟩ => rfl

theorem most_slice (k : Fin 8) :
    multiReduction (F := Ideal) .maximumf [2] S8x128 s 0xFF800000#32 reduces_S8x128x2048_S8x128 (.inl rfl) rfl (ix2 k r)
      = (Finset.univ : Finset (Fin 2048)).fold max (⊥ : EReal) fun l => s (ix3 k r l) := by
  refine (Ideal.multiReduction_maximumf_single s _ reduces_S8x128x2048_S8x128 (.inl rfl) rfl (ix2 k r)).trans ?_
  refine (congrArg (fun b : EReal => Finset.fold max b _ _) bot_bits).trans ?_
  exact Finset.fold_congr fun l _ => congrArg s (lift_slice r k l)

theorem most_slices (x : FVec Ideal S8x128 .f32) :
    multiReduction (F := Ideal) .maximumf [0] S128 x 0xFF800000#32 reduces_S8x128_S128 (.inl rfl) rfl (ix1 r)
      = (Finset.univ : Finset (Fin 8)).fold max (⊥ : EReal) fun k => x (ix2 k r) := by
  refine (Ideal.multiReduction_maximumf_single x _ reduces_S8x128_S128 (.inl rfl) rfl (ix1 r)).trans ?_
  refine (congrArg (fun b : EReal => Finset.fold max b _ _) bot_bits).trans ?_
  exact Finset.fold_congr fun k _ => congrArg x (lift_row r k)

theorem most_eq : most s r
    = (Finset.univ : Finset (Fin 8)).fold max ⊥ fun k => (Finset.univ : Finset (Fin 2048)).fold max (⊥ : EReal) fun l => s (ix3 k r l) :=
  (most_slices r _).trans (Finset.fold_congr fun k _ => most_slice s r k)

theorem most_greatest (q : Fin 16384) : row s r q ≤ most s r := by
  obtain ⟨k, l, rfl⟩ := pos_ix3 r q
  rw [most_eq, row, pos_number]
  exact le_trans ((fold_max fun l => s (ix3 k r l)).1 l) ((fold_max fun k : Fin 8 =>
    (Finset.univ : Finset (Fin 2048)).fold max (⊥ : EReal) fun l => s (ix3 k r l)).1 k)

theorem most_mem : ∃ q, row s r q = most s r := by
  rw [most_eq]
  obtain ⟨k, hk⟩ := (fold_max fun k : Fin 8 => (Finset.univ : Finset (Fin 2048)).fold max (⊥ : EReal) fun l => s (ix3 k r l)).2
  obtain ⟨l, hl⟩ := (fold_max fun l => s (ix3 k r l)).2
  exact ⟨number k l, by rw [row, pos_number, hl, hk]⟩

/-- The maximum of a row, over the row. -/
theorem spread_apply (k : Fin 8) (l : Fin 2048) : spread s (ix3 k r l) = most s r := by
  unfold spread most
  rw [broadcastTo_apply _ _ (ix3 k r l) (ix3 (0 : Fin 1) r (0 : Fin 1)) fun a => match a with
      | ⟨0, _⟩ => rfl
      | ⟨1, _⟩ => rfl
      | ⟨2, _⟩ => rfl,
    shapeCast_apply _ shapeCasts_S128_S1x128x1 (ix3 (0 : Fin 1) r (0 : Fin 1)) (ix1 r) (by
      rw [Shape.rowMajor_val_one, Shape.rowMajor_val_three]
      show r.val = (0 * 128 + r.val) * 1 + 0; omega)]

/-- The numbering of the positions. -/
theorem numbering_apply (k : Fin 8) (l : Fin 2048) : k1_pay2 (ix3 k r l) = BitVec.ofNat 32 (number k l).val := by
  unfold k1_pay2
  dsimp only
  show IntOp.addi (IntOp.muli (iota .tc S8x128x2048 32 [0] iota_S8x128x2048_d0_w32 (ix3 k r l)) 2048#32)
    (iota .tc S8x128x2048 32 [2] iota_S8x128x2048_d2_w32 (ix3 k r l)) = _
  rw [iota_single_apply, iota_single_apply]
  show BitVec.ofNat 32 k.val * 2048#32 + BitVec.ofNat 32 l.val = BitVec.ofNat 32 (k.val * 2048 + l.val)
  rw [BitVec.ofNat_add, BitVec.ofNat_mul]

open Classical in
theorem candidates_apply (k : Fin 8) (l : Fin 2048) : candidates s (ix3 k r l)
    = if row s r (number k l) = most s r then BitVec.ofNat 32 (number k l).val else 16384#32 := by
  unfold candidates
  rw [select_apply, cmpf_apply, numbering_apply, broadcast_apply, spread_apply, row, pos_number]
  show Scalar.select (BitVec.ofBool (decide (s (ix3 k r l) = most s r))) _ _ = _
  by_cases h : s (ix3 k r l) = most s r
  · rw [if_pos h, decide_eq_true h]; rfl
  · rw [if_neg h, decide_eq_false h]; rfl

theorem least_slice (x : IVec S8x128x2048 32) (k : Fin 8) :
    multiReductionI .minsi [2] S8x128 x 2147483647#32 reduces_S8x128x2048_S8x128 rfl (ix2 k r)
      = (Finset.univ : Finset (Fin 2048)).fold IntOp.minsi 2147483647#32 fun l => x (ix3 k r l) := by
  refine (multiReductionI_eq_fold .minsi x _ reduces_S8x128x2048_S8x128 rfl (ix2 k r)).trans ?_
  refine (reduces_S8x128x2048_S8x128.fold_filter_drop_single IntOp.minsi _ x (ix2 k r)).trans ?_
  exact Finset.fold_congr fun l _ => congrArg x (lift_slice r k l)

theorem least_slices (x : IVec S8x128 32) :
    multiReductionI .minsi [0] S128 x 2147483647#32 reduces_S8x128_S128 rfl (ix1 r)
      = (Finset.univ : Finset (Fin 8)).fold IntOp.minsi 2147483647#32 fun k => x (ix2 k r) := by
  refine (multiReductionI_eq_fold .minsi x _ reduces_S8x128_S128 rfl (ix1 r)).trans ?_
  refine (reduces_S8x128_S128.fold_filter_drop_single IntOp.minsi _ x (ix1 r)).trans ?_
  exact Finset.fold_congr fun k _ => congrArg x (lift_row r k)

theorem least_eq : least s r
    = (Finset.univ : Finset (Fin 8)).fold IntOp.minsi 2147483647#32 fun k =>
        (Finset.univ : Finset (Fin 2048)).fold IntOp.minsi 2147483647#32 fun l => candidates s (ix3 k r l) :=
  (least_slices r (multiReductionI .minsi [2] S8x128 (candidates s) 2147483647#32 reduces_S8x128x2048_S8x128 rfl)).trans
    (Finset.fold_congr fun k _ => least_slice r (candidates s) k)

/-- The least position that holds the maximum of a row. -/
def spot : Fin 16384 := ⟨(least s r).toNat % 16384, Nat.mod_lt _ (by norm_num)⟩

theorem toInt_small {n : ℕ} (h : n ≤ 16384) : (BitVec.ofNat 32 n).toInt = (n : Int) := by
  rw [BitVec.toInt_eq_toNat_of_lt (by rw [BitVec.toNat_ofNat]; omega), BitVec.toNat_ofNat, Nat.mod_eq_of_lt (by omega)]

theorem least_spec : ∃ q, least s r = BitVec.ofNat 32 q.val ∧ row s r q = most s r ∧ ∀ p, row s r p = most s r → q ≤ p := by
  classical
  have low : ∀ p, row s r p = most s r → (least s r).toInt ≤ (p.val : Int) := by
    intro p hp
    obtain ⟨k, l, rfl⟩ := pos_ix3 r p
    rw [least_eq]
    refine le_trans ((fold_min fun k : Fin 8 =>
      (Finset.univ : Finset (Fin 2048)).fold IntOp.minsi 2147483647#32 fun l => candidates s (ix3 k r l)).1 k) (le_trans ((fold_min fun l => candidates s (ix3 k r l)).1 l) ?_)
    rw [candidates_apply, if_pos hp, toInt_small (by omega)]
  have mem : ∃ k l, candidates s (ix3 k r l) = least s r := by
    rw [least_eq]
    obtain ⟨k, hk⟩ := (fold_min fun k : Fin 8 =>
      (Finset.univ : Finset (Fin 2048)).fold IntOp.minsi 2147483647#32 fun l => candidates s (ix3 k r l)).2
    obtain ⟨l, hl⟩ := (fold_min fun l => candidates s (ix3 k r l)).2
    exact ⟨k, l, hl.trans hk⟩
  obtain ⟨k, l, h⟩ := mem
  rw [candidates_apply] at h
  obtain ⟨q, hq⟩ := most_mem s r
  by_cases hm : row s r (number k l) = most s r
  · rw [if_pos hm] at h
    refine ⟨number k l, h.symm, hm, fun p hp => ?_⟩
    have := low p hp
    rw [← h, toInt_small (by omega)] at this
    exact Fin.le_def.mpr (by exact_mod_cast this)
  · rw [if_neg hm] at h
    have := low q hq
    rw [← h, toInt_small (n := 16384) (le_refl _)] at this
    have := q.isLt
    omega

theorem spot_of {q : Fin 16384} (h : least s r = BitVec.ofNat 32 q.val) : spot s r = q := by
  refine Fin.ext ?_
  show (least s r).toNat % 16384 = q.val
  rw [h, BitVec.toNat_ofNat]
  omega

theorem least_spot : least s r = BitVec.ofNat 32 (spot s r).val := by
  obtain ⟨q, h, -, -⟩ := least_spec s r
  rw [spot_of s r h, h]

theorem row_spot : row s r (spot s r) = most s r := by
  obtain ⟨q, h, h', -⟩ := least_spec s r
  rw [spot_of s r h, h']

theorem spot_first (p : Fin 16384) (hp : row s r p = most s r) : spot s r ≤ p := by
  obtain ⟨q, h, -, h'⟩ := least_spec s r
  rw [spot_of s r h]
  exact h' p hp

/-- After a round a row has minus infinity at the position taken, and is unchanged elsewhere. -/
theorem row_next (q : Fin 16384) : row (k1_pay7 (F := Ideal) s) r q = if q = spot s r then ⊥ else row s r q := by
  obtain ⟨k, l, rfl⟩ := pos_ix3 r q
  have hn : (Named.named κ "neg" 0xFF61B1E6#32 : Ideal .f32) = (⊥ : EReal) :=
    IdealRules.named_const.ideal_named_scalar _ _ _ _ rfl
  rw [row, row, pos_number]
  unfold k1_pay7
  rw [select_apply]
  show Scalar.select (IntOp.cmpi .eq (k1_pay2 (ix3 k r l)) _) (Named.named κ "neg" 0xFF61B1E6#32 : Ideal .f32) (s (ix3 k r l)) = _
  rw [numbering_apply, broadcastTo_apply _ _ (ix3 k r l) (ix3 (0 : Fin 1) r (0 : Fin 1)) fun a => match a with
      | ⟨0, _⟩ => rfl
      | ⟨1, _⟩ => rfl
      | ⟨2, _⟩ => rfl,
    shapeCast_apply _ shapeCasts_S128_S1x128x1 (ix3 (0 : Fin 1) r (0 : Fin 1)) (ix1 r) (by
      rw [Shape.rowMajor_val_one, Shape.rowMajor_val_three]
      show r.val = (0 * 128 + r.val) * 1 + 0; omega)]
  show Scalar.select (BitVec.ofBool (BitVec.ofNat 32 (number k l).val == least s r)) _ _ = _
  rw [least_spot, hn]
  by_cases h : number k l = spot s r
  · rw [if_pos h, h, beq_self_eq_true]; rfl
  · rw [if_neg h]
    have hb : (BitVec.ofNat 32 (number k l).val == BitVec.ofNat 32 (spot s r).val) = false := by
      rw [beq_eq_false_iff_ne]
      intro e
      refine h (Fin.ext ?_)
      have e' := congrArg BitVec.toNat e
      rw [BitVec.toNat_ofNat, BitVec.toNat_ofNat] at e'
      have := (number k l).isLt
      have := (spot s r).isLt
      omega
    rw [hb]; rfl

/-! ## The rounds -/

/-- The rounds of the selection, at a row. -/
theorem rounds : Rounds (row s r) (fun i => row (stage s i) r) (fun i => spot (stage s i) r) where
  start := rfl
  step i q := row_next (stage s i) r q
  greatest i q := by rw [row_spot]; exact most_greatest _ r q
  first i q h := spot_first _ r q (by rw [h, row_spot])

end Cert.Proof.Route

end
-- ==== Proof.RouterPickI.lean ====
/-
  What the last block of a token block leaves, at an index: the positions of the sixteen greatest scores of a row, greatest
  first, and the exponentials of those scores less the greatest, each over their sum. And the reference's greatest sixteen of
  a row, at an index.
-/
module

public import proofs.«01_k».proof.Proof.RouterRowsI

@[expose] public section

set_option maxRecDepth 16384

noncomputable section

namespace Cert.Proof.Route

open Cert.RouterIdeal Cert.RouterIdeal.Gen Cert.RouterIdeal.Route

open Idealize.ShloMosaic
open Idealize.ShloMosaic.ValueIdx
open Cert.Proof.Top

/-- The place of a row's entry of a given rank, greatest first. -/
def ranked (x : Fin 16384 → EReal) (j : Fin 16) : Fin 16384 := sortedFrom (greater x) (j.castLE (by norm_num))

section
variable (s : Vec Ideal S8x128x2048 .f32) (r : Fin 128) (hs : ∀ n, row s r n ≠ ⊥)
include hs

theorem spot_ranked (j : Fin 16) : spot (stage s j) r = ranked (row s r) j :=
  ((rounds s r).sorted hs (by norm_num) j).symm

theorem most_ranked (j : Fin 16) : most (stage s j) r = row s r (ranked (row s r) j) := by
  rw [← row_spot, ← spot_ranked s r hs]
  exact (rounds s r).entry hs (lt_trans j.isLt (by norm_num))

theorem ranked_zero (q : Fin 16384) : row s r q ≤ row s r (ranked (row s r) 0) := by
  rw [← most_ranked s r hs]
  exact most_greatest s r q

theorem columns_apply (j : Fin 16) : columns (F := Ideal) s (ix2 r j) = row s r (ranked (row s r) j) := by
  rw [← most_ranked s r hs]
  unfold columns
  refine (concatenate_ofFn_unit_apply (t := S128x16) (s₁ := S128x1) 1 (fun n : Fin 16 => column s n) _ rfl rfl (ix2 r j) j rfl
    (ix2 r (0 : Fin 1)) (fun b hb => ?_)).trans ?_
  · match b with
    | ⟨0, _⟩ => rfl
    | ⟨1, _⟩ => exact absurd rfl hb
  · unfold column k1_pay5 most
    exact shapeCast_apply _ shapeCasts_S128_S128x1 (ix2 r (0 : Fin 1)) (ix1 r) (by
      rw [Shape.rowMajor_val_one, Shape.rowMajor_val_two]; show r.val = r.val * 1 + 0; omega)

theorem places_apply (j : Fin 16) : places (F := Ideal) s (ix2 r j) = BitVec.ofNat 32 (ranked (row s r) j).val := by
  rw [← spot_ranked s r hs, ← least_spot]
  unfold places
  refine (concatenate_ofFn_unit_apply (t := S128x16) (s₁ := S128x1) 1 (fun n : Fin 16 => place s n) _ rfl rfl (ix2 r j) j rfl
    (ix2 r (0 : Fin 1)) (fun b hb => ?_)).trans ?_
  · match b with
    | ⟨0, _⟩ => rfl
    | ⟨1, _⟩ => exact absurd rfl hb
  · unfold place k1_pay6 least
    exact shapeCast_apply _ shapeCasts_S128_S128x1 (ix2 r (0 : Fin 1)) (ix1 r) (by
      rw [Shape.rowMajor_val_one, Shape.rowMajor_val_two]; show r.val = r.val * 1 + 0; omega)

theorem leading_apply (j : Fin 16) : leading (columns (F := Ideal) s) (ix2 r j) = row s r (ranked (row s r) 0) := by
  rw [← columns_apply s r hs]
  unfold leading
  rw [broadcastTo_apply _ _ (ix2 r j) (ix2 r (0 : Fin 1)) fun a => match a with
      | ⟨0, _⟩ => rfl
      | ⟨1, _⟩ => rfl]
  exact extractStridedSlice_apply ![0, 0] _ slices_S128x16_o0_0_S128x1 (ix2 r (0 : Fin 1)) (ix2 r (0 : Fin 16)) fun a => match a with
    | ⟨0, _⟩ => by show r.val = 0 + r.val; omega
    | ⟨1, _⟩ => rfl

/-- The positions of the sixteen greatest. -/
theorem pickedIdx_apply (j : Fin 16) : pickedIdx (F := Ideal) s (ix2 r j) = BitVec.ofNat 32 (ranked (row s r) j).val := by
  unfold pickedIdx
  rw [picked_eq]
  exact places_apply s r hs j
end

/-- The weight of an entry under the softmax of sixteen, the first subtracted. -/
def weight (v : Fin 16 → EReal) (j : Fin 16) : EReal := Ideal.div (Ideal.exp (v j - v 0)) (∑ i : Fin 16, Ideal.exp (v i - v 0))

/-- The quotients of the exponentials of differences by their row sum. -/
theorem weights_apply (a b : FVec Ideal S128x16 .f32) (r : Fin 128) (j : Fin 16) :
    k1_pay1 (F := Ideal) a b (ix2 r j)
      = Ideal.div (Ideal.exp (a (ix2 r j) - b (ix2 r j))) (∑ i : Fin 16, Ideal.exp (a (ix2 r i) - b (ix2 r i))) := by
  have hd : ∀ x y z w : EReal, x = y → z = w → Ideal.div x z = Ideal.div y w := fun x y z w h h' => by rw [h, h']
  unfold k1_pay1
  refine hd _ _ _ _ rfl ?_
  rw [broadcastTo_apply _ _ (ix2 r j) (ix2 r (0 : Fin 1)) fun a => match a with
      | ⟨0, _⟩ => rfl
      | ⟨1, _⟩ => rfl,
    shapeCast_apply _ shapeCasts_S128_S128x1 (ix2 r (0 : Fin 1)) (ix1 r) (by
      rw [Shape.rowMajor_val_one, Shape.rowMajor_val_two]; show r.val = r.val * 1 + 0; omega)]
  refine (Ideal.multiReduction_add_single _ _ reduces_S128x16_S128 (.inl rfl) rfl (ix1 r)).trans ?_
  refine Finset.sum_congr rfl fun i _ => congrArg (exp (subf a b)) (funext fun d => ?_)
  match d with
  | ⟨0, _⟩ => rfl
  | ⟨1, _⟩ => rfl

/-- The weights of the sixteen greatest. -/
theorem pickedWts_apply (s : Vec Ideal S8x128x2048 .f32) (r : Fin 128) (hs : ∀ n, row s r n ≠ ⊥) (j : Fin 16) :
    pickedWts (F := Ideal) s (ix2 r j) = weight (fun i => row s r (ranked (row s r) i)) j := by
  unfold pickedWts
  rw [picked_eq, weights_apply]
  unfold weight
  simp only [columns_apply s r hs, leading_apply s r hs]

/-! ## The reference's greatest sixteen -/

section
variable (y : (⟨3, ![1, 2048, 16384]⟩ : Shape).Idx → EReal) (R : Fin 2048) (j : Fin 16)

theorem along_row (j : Fin 16384) (k : Fin 16384) :
    Shape.Idx.along (s := ⟨3, ![1, 2048, 16384]⟩) (ix3 (0 : Fin 1) R j) 2 k = ix3 (0 : Fin 1) R k := by
  funext a
  match a with
  | ⟨0, _⟩ => rfl
  | ⟨1, _⟩ => rfl
  | ⟨2, _⟩ => rfl

/-- The comparator of the host's sort, on a row, is that of its entries. -/
theorem sorted_total (J : Fin 16384) : sortedFrom (fun k k' : Fin 16384 => (FloatOps.cmpfTotal (F := Ideal) (φ := .f32) .gt
    (y (Shape.Idx.along (s := ⟨3, ![1, 2048, 16384]⟩) (ix3 (0 : Fin 1) R J) 2 k))
    (y (Shape.Idx.along (s := ⟨3, ![1, 2048, 16384]⟩) (ix3 (0 : Fin 1) R J) 2 k')) == 1#1))
      = sortedFrom (greater fun n => y (ix3 (0 : Fin 1) R n)) := by
  refine congrArg sortedFrom (funext fun a => funext fun b => ?_)
  rw [along_row, along_row]
  show (BitVec.ofBool (decide (y (ix3 (0 : Fin 1) R b) < y (ix3 (0 : Fin 1) R a))) == 1#1) = decide _
  by_cases h : y (ix3 (0 : Fin 1) R b) < y (ix3 (0 : Fin 1) R a)
  · rw [decide_eq_true h]; rfl
  · rw [decide_eq_false h]; rfl

/-- The host's sort of the rows with a second array carried along, at an index. -/
theorem sort_row (z : (⟨3, ![1, 2048, 16384]⟩ : Shape).Idx → BitVec 32) (J : Fin 16384) :
    (Host.sort2 ⟨3, ![1, 2048, 16384]⟩ 2 (fun l r => FloatOps.cmpfTotal (F := Ideal) (φ := .f32) .gt l.1 r.1) y z).1 (ix3 (0 : Fin 1) R J)
        = y (ix3 (0 : Fin 1) R (sortedFrom (greater fun n => y (ix3 (0 : Fin 1) R n)) J))
      ∧ (Host.sort2 ⟨3, ![1, 2048, 16384]⟩ 2 (fun l r => FloatOps.cmpfTotal (F := Ideal) (φ := .f32) .gt l.1 r.1) y z).2 (ix3 (0 : Fin 1) R J)
        = z (ix3 (0 : Fin 1) R (sortedFrom (greater fun n => y (ix3 (0 : Fin 1) R n)) J)) := by
  have e := (congrArg (Shape.Idx.along (s := ⟨3, ![1, 2048, 16384]⟩) (ix3 (0 : Fin 1) R J) 2) (congrFun (sorted_total y R J) J)).trans
    (along_row R J _)
  unfold Host.sort2
  rw [dif_pos (show 2 < 3 by decide)]
  exact ⟨congrArg y e, congrArg z e⟩

/-- The entries taken from a row. -/
theorem topK_values (h) :
    (Host.topK (s := ⟨3, ![1, 2048, 16384]⟩) ⟨3, ![1, 2048, 16]⟩ 2 (FloatOps.cmpfTotal (F := Ideal) (φ := .f32) .gt) y h).1
        (ix3 (0 : Fin 1) R j)
      = y (ix3 (0 : Fin 1) R (ranked (fun n => y (ix3 (0 : Fin 1) R n)) j)) := by
  unfold Host.topK
  dsimp only
  refine (extractStridedSlice_apply (fun _ => 0) _ h (ix3 (0 : Fin 1) R j) (ix3 (0 : Fin 1) R (j.castLE (by norm_num))) fun a => match a with
    | ⟨0, _⟩ => rfl
    | ⟨1, _⟩ => by show R.val = 0 + R.val; omega
    | ⟨2, _⟩ => by show j.val = 0 + j.val; omega).trans ?_
  exact (sort_row y R _ _).1

/-- The places they are taken from. -/
theorem topK_indices (h) :
    (Host.topK (s := ⟨3, ![1, 2048, 16384]⟩) ⟨3, ![1, 2048, 16]⟩ 2 (FloatOps.cmpfTotal (F := Ideal) (φ := .f32) .gt) y h).2
        (ix3 (0 : Fin 1) R j)
      = BitVec.ofNat 32 (ranked (fun n => y (ix3 (0 : Fin 1) R n)) j).val := by
  unfold Host.topK
  dsimp only
  refine (extractStridedSlice_apply (fun _ => 0) _ h (ix3 (0 : Fin 1) R j) (ix3 (0 : Fin 1) R (j.castLE (by norm_num))) fun a => match a with
    | ⟨0, _⟩ => rfl
    | ⟨1, _⟩ => by show R.val = 0 + R.val; omega
    | ⟨2, _⟩ => by show j.val = 0 + j.val; omega).trans ?_
  refine (sort_row y R _ _).2.trans ?_
  rw [dif_pos (show 2 < 3 by decide)]
  rfl
end

end Cert.Proof.Route

end
-- ==== Proof.RouterRefI.lean ====
/-
  The reference of the routing at an index: its scores are the formula of the scores, its positions those of the sixteen
  greatest of a row, its weights their softmax.
-/
module

public import proofs.«01_k».proof.Proof.RouterScoresI
public import proofs.«01_k».proof.Proof.RouterPickI
public import proofs.«01_k».proof.Proof.Gen.RouterReferenceIdeal.Read

@[expose] public section

set_option maxRecDepth 16384

noncomputable section

namespace Cert.Proof.Route

open Cert.RouterReferenceIdeal Cert.RouterReferenceIdeal.Gen Cert.RouterReferenceIdeal.Read

open Idealize.ShloMosaic
open Idealize.ShloMosaic.ValueIdx
open Cert.Proof.Softmax

/-- The features of a neuron: a row of one factor times the other factor. -/
def features (A : S16384x32.Idx → EReal) (B : S32x1024.Idx → EReal) (n : Fin 16384) (k : Fin 1024) : EReal :=
  inner (fun j : Fin 32 => A (ix2 n j)) fun j => B (ix2 j k)

section
variable (x c : S1x2048x1024.Idx → EReal) (A : S16384x32.Idx → EReal) (B : S32x1024.Idx → EReal) (w : S2x2048.Idx → EReal)
  (b : S2.Idx → EReal)

/-- The preferences of a token. -/
abbrev prefRow (R : Fin 2048) : Fin 2 → EReal :=
  prefs (fun k => x (ix3 (0 : Fin 1) R k)) (fun k => c (ix3 (0 : Fin 1) R k)) (fun p k => w (ix2 p k)) (fun p => b (ix1 p))

/-- The scores of a token against every neuron. -/
def scoreRow (R : Fin 2048) (n : Fin 16384) : EReal :=
  score (fun k => x (ix3 (0 : Fin 1) R k)) (fun k => c (ix3 (0 : Fin 1) R k)) (fun p k => w (ix2 p k)) (fun p => b (ix1 p))
    (features A B n)

theorem addR {p q r s : EReal} (h : p = q) (h' : r = s) : p + r = q + s := by rw [h, h']
theorem mulR {p q r s : EReal} (h : p = q) (h' : r = s) : p * r = q * s := by rw [h, h']
theorem hostDivR {p q r s : EReal} (h : p = q) (h' : r = s) : FloatOps.hostDivf (F := Ideal) (φ := .f32) p r = Ideal.div q s := by
  rw [h, h']; rfl

theorem bits_bot : Ideal.ofBits .f32 0xFF800000#32 = ⊥ := by simp [Ideal.ofBits, Ideal.ieee]

/-- The joined vectors of the reference. -/
theorem ref_join (R k : Fin 2048) :
    val_main_v5 (F := Ideal) x c (ix3 (0 : Fin 1) R k)
      = joined (fun k => x (ix3 (0 : Fin 1) R k)) (fun k => c (ix3 (0 : Fin 1) R k)) k := by
  unfold val_main_v5 joined
  split
  · rename_i h
    exact concatenate_pair_apply_left 2 x c _ (ix3 (0 : Fin 1) R k) rfl (ix3 (0 : Fin 1) R ⟨k.val, h⟩) fun a => match a with
      | ⟨0, _⟩ => rfl
      | ⟨1, _⟩ => rfl
      | ⟨2, _⟩ => rfl
  · rename_i h
    refine concatenate_pair_apply_right 2 x c _ (ix3 (0 : Fin 1) R k) rfl rfl (ix3 (0 : Fin 1) R ⟨k.val - 1024, by omega⟩) (fun a ha => ?_) ?_
    · match a with
      | ⟨0, _⟩ => rfl
      | ⟨1, _⟩ => rfl
      | ⟨2, _⟩ => exact absurd rfl ha
    · show k.val - 1024 + 1024 = k.val
      omega

/-- The preferences of the reference. -/
theorem ref_prefs (R : Fin 2048) (p : Fin 2) : val_main_v10 (F := Ideal) x c w b (ix3 (0 : Fin 1) R p) = prefRow x c w b R p := by
  rw [val_main_v10_apply, val_main_v7_apply, val_main_v9_apply, val_main_v8_apply]
  unfold prefRow prefs inner
  refine addR (Finset.sum_congr rfl fun k _ => mulR ?_ ?_) (congrArg b (funext fun a => ?_))
  · refine Eq.trans ?_ (ref_join x c R k)
    refine congrArg (val_main_v5 (F := Ideal) x c) (funext fun a => ?_)
    match a with
    | ⟨0, _⟩ => rfl
    | ⟨1, _⟩ => rfl
    | ⟨2, _⟩ => rfl
  · rw [val_main_v6_apply]
    refine congrArg w (funext fun a => ?_)
    match a with
    | ⟨0, _⟩ => rfl
    | ⟨1, _⟩ => rfl
  · match a with
    | ⟨0, _⟩ => rfl

/-- The greater preference of the reference. -/
theorem ref_top (R : Fin 2048) : val_main_v13 (F := Ideal) x c w b (ix2 (0 : Fin 1) R) = top (prefRow x c w b R) := by
  rw [val_main_v13_apply, val_main_v12_apply, val_main_cst_0_apply]
  have hr : val_main_v11 (F := Ideal) x c w b (ix2 (0 : Fin 1) R) = top (prefRow x c w b R) := by
    unfold val_main_v11 top
    refine (Host.reduce_eq_fold_single (FloatOps.maximumf (F := Ideal) (φ := .f32)) _ _ reducesTo_S1x2048x2_S1x2048_d2 (by decide) h_S_ _).trans ?_
    refine (congrArg (fun b : EReal => (Finset.univ : Finset (Fin 2)).fold max b _) bits_bot).trans ?_
    refine congrArg (fun f => (Finset.univ : Finset (Fin 2)).fold max (⊥ : EReal) f) (funext fun j => ?_)
    refine Eq.trans ?_ (ref_prefs x c w b R j)
    refine congrArg (val_main_v10 (F := Ideal) x c w b) (funext fun a => ?_)
    match a with
    | ⟨0, _⟩ => rfl
    | ⟨1, _⟩ => rfl
    | ⟨2, _⟩ => rfl
  rw [hr]
  exact (congrArg (max · (top (prefRow x c w b R))) bits_bot).trans (max_eq_right bot_le)

/-- The exponentials of the reference's preferences. -/
theorem ref_expo (R : Fin 2048) (p : Fin 2) :
    val_main_v17 (F := Ideal) x c w b (ix3 (0 : Fin 1) R p) = Ideal.exp (prefRow x c w b R p - top (prefRow x c w b R)) := by
  rw [val_main_v17_apply, val_main_v16_apply, val_main_v15_apply, val_main_v14_apply, ref_prefs]
  have e : idx_main_v14 (idx_main_v15 (ix3 (0 : Fin 1) R p)) = ix2 (0 : Fin 1) R := by
    funext a
    match a with
    | ⟨0, _⟩ => rfl
    | ⟨1, _⟩ => rfl
  rw [e, ref_top]
  rfl

/-- The softmax of the reference's preferences. -/
theorem ref_soft (R : Fin 2048) (p : Fin 2) :
    val_main_v21 (F := Ideal) x c w b (ix3 (0 : Fin 1) R p) = soft (prefRow x c w b R) p := by
  rw [val_main_v21_apply, val_main_v20_apply, val_main_v19_apply, val_main_v18_apply, val_main_cst_1_apply, ref_expo]
  unfold soft
  refine hostDivR rfl ?_
  refine (addR Ideal.ofBits_zero_f32 (Finset.sum_congr rfl fun k _ => ?_)).trans (zero_add _)
  refine Eq.trans ?_ (ref_expo x c w b R k)
  refine congrArg (val_main_v17 (F := Ideal) x c w b) (funext fun a => ?_)
  match a with
  | ⟨0, _⟩ => rfl
  | ⟨1, _⟩ => rfl
  | ⟨2, _⟩ => rfl

/-- The features of the reference. -/
theorem ref_features (n : Fin 16384) (k : Fin 1024) : val_main_v0 (F := Ideal) A B (ix2 n k) = features A B n k := by
  rw [val_main_v0_apply]
  unfold features inner
  refine Finset.sum_congr rfl fun j _ => mulR (congrArg A (funext fun a => ?_)) (congrArg B (funext fun a => ?_))
  · match a with
    | ⟨0, _⟩ => rfl
    | ⟨1, _⟩ => rfl
  · match a with
    | ⟨0, _⟩ => rfl
    | ⟨1, _⟩ => rfl

/-- The products of a vector with the features. -/
theorem ref_dot (R : Fin 2048) (n : Fin 16384) :
    val_main_v2 (F := Ideal) x A B (ix3 (0 : Fin 1) R n) = inner (fun k => x (ix3 (0 : Fin 1) R k)) (features A B n) := by
  rw [val_main_v2_apply]
  unfold inner
  refine Finset.sum_congr rfl fun k _ => mulR (congrArg x (funext fun a => ?_)) ?_
  · match a with
    | ⟨0, _⟩ => rfl
    | ⟨1, _⟩ => rfl
    | ⟨2, _⟩ => rfl
  · rw [val_main_v1_apply]
    refine Eq.trans ?_ (ref_features A B n k)
    refine congrArg (val_main_v0 (F := Ideal) A B) (funext fun a => ?_)
    match a with
    | ⟨0, _⟩ => rfl
    | ⟨1, _⟩ => rfl

/-- The reference's scores. -/
theorem ref_score (R : Fin 2048) (n : Fin 16384) :
    val_main_v28 (F := Ideal) x c A B w b (ix3 (0 : Fin 1) R n) = scoreRow x c A B w b R n := by
  rw [val_main_v28_apply, val_main_v24_apply, val_main_v27_apply, val_main_v23_apply, val_main_v22_apply, val_main_v26_apply,
    val_main_v25_apply]
  unfold scoreRow score
  refine addR (mulR (Eq.trans ?_ (ref_soft x c w b R 0)) (ref_dot x A B R n))
    (mulR (Eq.trans ?_ (ref_soft x c w b R 1)) (ref_dot c A B R n))
  · refine congrArg (val_main_v21 (F := Ideal) x c w b) (funext fun a => ?_)
    match a with
    | ⟨0, _⟩ => rfl
    | ⟨1, _⟩ => rfl
    | ⟨2, _⟩ => rfl
  · refine congrArg (val_main_v21 (F := Ideal) x c w b) (funext fun a => ?_)
    match a with
    | ⟨0, _⟩ => rfl
    | ⟨1, _⟩ => rfl
    | ⟨2, _⟩ => rfl

/-- The reference's positions. -/
theorem ref_indices (R : Fin 2048) (j : Fin 16) :
    val_main_indices (F := Ideal) x c A B w b (ix3 (0 : Fin 1) R j) = BitVec.ofNat 32 (ranked (scoreRow x c A B w b R) j).val := by
  unfold val_main_indices
  refine (topK_indices _ R j _).trans ?_
  rw [show (fun n => val_main_v28 (F := Ideal) x c A B w b (ix3 (0 : Fin 1) R n)) = scoreRow x c A B w b R from
    funext fun n => ref_score x c A B w b R n]

/-- The greatest scores of the reference. -/
theorem ref_values (R : Fin 2048) (j : Fin 16) :
    val_main_values (F := Ideal) x c A B w b (ix3 (0 : Fin 1) R j) = scoreRow x c A B w b R (ranked (scoreRow x c A B w b R) j) := by
  unfold val_main_values
  refine (topK_values _ R j _).trans ?_
  rw [show (fun n => val_main_v28 (F := Ideal) x c A B w b (ix3 (0 : Fin 1) R n)) = scoreRow x c A B w b R from
    funext fun n => ref_score x c A B w b R n, ref_score]

/-- The greatest of a family whose first entry is greatest. -/
theorem top_first {n : ℕ} (v : Fin (n + 1) → EReal) (h : ∀ i, v i ≤ v 0) : top v = v 0 :=
  le_antisymm ((Finset.fold_max_le (c := v 0)).2 ⟨bot_le, fun i _ => h i⟩)
    ((Finset.le_fold_max (c := v 0)).2 (.inr ⟨0, Finset.mem_univ _, le_rfl⟩))

/-- The greatest scores of a token, greatest first. -/
abbrev bestRow (R : Fin 2048) (j : Fin 16) : EReal := scoreRow x c A B w b R (ranked (scoreRow x c A B w b R) j)

variable (R : Fin 2048) (h : ∀ j, bestRow x c A B w b R j ≤ bestRow x c A B w b R 0)
include h

/-- The greatest score of a token in the reference. -/
theorem ref_best : val_main_v31 (F := Ideal) x c A B w b (ix2 (0 : Fin 1) R) = bestRow x c A B w b R 0 := by
  rw [val_main_v31_apply, val_main_v30_apply, val_main_cst_3_apply]
  have hr : val_main_v29 (F := Ideal) x c A B w b (ix2 (0 : Fin 1) R) = bestRow x c A B w b R 0 := by
    refine Eq.trans ?_ (top_first (bestRow x c A B w b R) h)
    unfold val_main_v29 top
    refine (Host.reduce_eq_fold_single (FloatOps.maximumf (F := Ideal) (φ := .f32)) _ _ reducesTo_S1x2048x16_S1x2048_d2 (by decide) h_S_ _).trans ?_
    refine (congrArg (fun b : EReal => (Finset.univ : Finset (Fin 16)).fold max b _) bits_bot).trans ?_
    refine congrArg (fun f => (Finset.univ : Finset (Fin 16)).fold max (⊥ : EReal) f) (funext fun j => ?_)
    refine Eq.trans ?_ (ref_values x c A B w b R j)
    refine congrArg (val_main_values (F := Ideal) x c A B w b) (funext fun a => ?_)
    match a with
    | ⟨0, _⟩ => rfl
    | ⟨1, _⟩ => rfl
    | ⟨2, _⟩ => rfl
  rw [hr]
  exact (congrArg (max · (bestRow x c A B w b R 0)) bits_bot).trans (max_eq_right bot_le)

/-- The exponentials of the greatest scores in the reference. -/
theorem ref_bestExp (j : Fin 16) :
    val_main_v35 (F := Ideal) x c A B w b (ix3 (0 : Fin 1) R j) = Ideal.exp (bestRow x c A B w b R j - bestRow x c A B w b R 0) := by
  rw [val_main_v35_apply, val_main_v34_apply, val_main_v33_apply, val_main_v32_apply, ref_values]
  have e : idx_main_v32 (idx_main_v33 (ix3 (0 : Fin 1) R j)) = ix2 (0 : Fin 1) R := by
    funext a
    match a with
    | ⟨0, _⟩ => rfl
    | ⟨1, _⟩ => rfl
  rw [e, ref_best x c A B w b R h]
  rfl

/-- The weights of the reference. -/
theorem ref_weights (j : Fin 16) : val_main_v39 (F := Ideal) x c A B w b (ix3 (0 : Fin 1) R j) = weight (bestRow x c A B w b R) j := by
  rw [val_main_v39_apply, val_main_v38_apply, val_main_v37_apply, val_main_v36_apply, val_main_cst_4_apply,
    ref_bestExp x c A B w b R h]
  unfold weight
  refine hostDivR rfl ?_
  refine (addR Ideal.ofBits_zero_f32 (Finset.sum_congr rfl fun k _ => ?_)).trans (zero_add _)
  refine Eq.trans ?_ (ref_bestExp x c A B w b R h k)
  refine congrArg (val_main_v35 (F := Ideal) x c A B w b) (funext fun a => ?_)
  match a with
  | ⟨0, _⟩ => rfl
  | ⟨1, _⟩ => rfl
  | ⟨2, _⟩ => rfl

end

end Cert.Proof.Route

end
-- ==== Proof.RouterBlocksI.lean ====
/-
  The two regions of the routing, block by block: what each of their result arrays holds after the region, at every index,
  from what the region's operands hold at its entry. The first region leaves the features of the neurons; the second the
  positions of each token's sixteen greatest scores, and their weights.
-/
module

public import proofs.«01_k».proof.Proof.RouterRunI
public import proofs.«01_k».proof.Proof.RouterRefI
public import Idealize.ShloMosaic.Lib.Pipeline.FrameBody
public import Idealize.ShloMosaic.Lib.Pipeline.ValueKit
public import Idealize.ShloMosaic.Lib.VecWindow

@[expose] public section

set_option maxRecDepth 16384

noncomputable section

namespace Cert.Proof.Route

open Cert.RouterIdeal Cert.RouterIdeal.Gen Cert.RouterIdeal.Route

open Idealize.ShloMosaic hiding ix1 ix2 ix3 ix4
open Idealize.ShloMosaic.TcCoe
open Idealize.ShloMosaic.ValueIdx
open Idealize.ShloMosaic.Pipeline (Dat Cfg Window)
open Cert.Proof.Softmax

variable (V : (c : Dev nD) → (b : Ref sig .tc) → Buf (Elt Ideal) ((c : Thread nD τ).loc b))

/-! ## The features -/

/-- The features of every neuron, as an array. -/
def featArr (A : S16384x32.Idx → EReal) (B : S32x1024.Idx → EReal) (i : S16384x1024.Idx) : EReal :=
  features A B (i 0 : Fin 16384) (i 1 : Fin 1024)

theorem at0_0 : ∀ t : Fin cfg0.N, win0_0.index t = ![t.val, 0] := (by decide +kernel : ∀ t : Fin grid0.N, _)
theorem at0_1 : ∀ t : Fin cfg0.N, win0_1.index t = ![0, 0] := (by decide +kernel : ∀ t : Fin grid0.N, _)
theorem at0_2 : ∀ t : Fin cfg0.N, win0_2.index t = ![t.val, 0] := (by decide +kernel : ∀ t : Fin grid0.N, _)

/-- Row `r` of the first factor's block at point `t` is row `t * 2048 + r` of the factor. -/
theorem blkA (c : Dev nD) (t : Fin cfg0.N) (r : Fin 2048) (k : Fin 32) (R : Fin 16384) (hR : R.val = t.val * 2048 + r.val) :
    iblk0 V c 0 t (ix2 r k) = V c main_arg2 (ix2 R k) := by
  refine congrArg (V c main_arg2) (funext fun a => Fin.ext ?_)
  match a with
  | ⟨0, _⟩ => blk_simp [at0_0 t]; exact hR.symm
  | ⟨1, _⟩ => blk_simp [at0_0 t]

/-- The second factor's block at every point is the factor. -/
theorem blkB (c : Dev nD) (t : Fin cfg0.N) (k : Fin 32) (d : Fin 1024) :
    iblk0 V c 1 t (ix2 k d) = V c main_arg3 (ix2 k d) := by
  refine congrArg (V c main_arg3) (funext fun a => Fin.ext ?_)
  match a with
  | ⟨0, _⟩ => blk_simp [at0_1 t]
  | ⟨1, _⟩ => blk_simp [at0_1 t]

/-- An index of a block of two axes is a row and a column. -/
theorem pairIdx {m n : ℕ} (y : Shape.Idx ⟨2, ![m, n]⟩) : ∃ (r : Fin m) (d : Fin n), y = ix2 r d := by
  refine ⟨y 0, y 1, funext fun a => ?_⟩
  match a with
  | ⟨0, _⟩ => rfl
  | ⟨1, _⟩ => rfl

/-- An index of two axes whose coordinates have the values of `r`, `d` is `ix2 r d`. -/
theorem pairEq {m n : ℕ} (i : Shape.Idx ⟨2, ![m, n]⟩) (r : Fin m) (d : Fin n)
    (e0 : ((i 0 : Fin _) : ℕ) = r.val) (e1 : ((i 1 : Fin _) : ℕ) = d.val) : i = ix2 r d := by
  funext a
  match a with
  | ⟨0, _⟩ => exact Fin.ext e0
  | ⟨1, _⟩ => exact Fin.ext e1

/-- What a block of the features holds, from what the blocks of its operands hold. -/
theorem featBlk (A : S16384x32.Idx → EReal) (B : S32x1024.Idx → EReal) (X : S2048x32.Idx → EReal) (Y : S32x1024.Idx → EReal)
    (r : Fin 2048) (d : Fin 1024) (R : Fin 16384) (hX : ∀ k : Fin 32, X (ix2 r k) = A (ix2 R k))
    (hY : ∀ k : Fin 32, Y (ix2 k d) = B (ix2 k d)) :
    k0_pay1 (F := Ideal) X Y (ix2 r d) = featArr A B (ix2 R d) := by
  refine (features_apply X Y r d).trans ?_
  show inner (fun k : Fin 32 => X (ix2 r k)) (fun k => Y (ix2 k d)) = inner (fun k : Fin 32 => A (ix2 R k)) fun k => B (ix2 k d)
  rw [funext hX, funext hY]

theorem pt0 (t : Fin cfg0.N) : t.val < 8 := t.isLt

/-- After the first region its result array holds the features of every neuron. -/
theorem arr_features (c : Dev nD) : (dat0 V c).arrAt 2 cfg0.N = featArr (V c main_arg2) (V c main_arg3) := by
  refine (dat0 V c).arrAt_eq_of_covers 2 _ (by decide +kernel) fun t hf y => ?_
  blk_simp
  rw [after0_2]
  frame_out
  obtain ⟨r, d, rfl⟩ := pairIdx y
  have ht := pt0 t
  have e := pairEq (((View.whole main_v0).slice (win0_2.rect t)).emb (ix2 r d)) (⟨t.val * 2048 + r.val, by omega⟩ : Fin 16384) d
    (by blk_simp [at0_2 t]) (by blk_simp [at0_2 t])
  refine Eq.trans ?_ (congrArg (featArr (V c main_arg2) (V c main_arg3)) e.symm)
  exact featBlk _ _ _ _ r d _ (fun k => blkA V c t r k _ rfl) (fun k => blkB V c t k d)

/-! ## The scores -/

theorem at1_0 : ∀ t : Fin cfg1.N, win1_0.index t = ![t.val / 8, 0] := (by decide +kernel : ∀ t : Fin grid1.N, _)
theorem at1_1 : ∀ t : Fin cfg1.N, win1_1.index t = ![t.val / 8, 0] := (by decide +kernel : ∀ t : Fin grid1.N, _)
theorem at1_2 : ∀ t : Fin cfg1.N, win1_2.index t = ![0, 0] := (by decide +kernel : ∀ t : Fin grid1.N, _)
theorem at1_3 : ∀ t : Fin cfg1.N, win1_3.index t = ![0, 0] := (by decide +kernel : ∀ t : Fin grid1.N, _)
theorem at1_4 : ∀ t : Fin cfg1.N, win1_4.index t = ![t.val % 8, 0] := (by decide +kernel : ∀ t : Fin grid1.N, _)
theorem at1_5 : ∀ t : Fin cfg1.N, win1_5.index t = ![t.val / 8, 0] := (by decide +kernel : ∀ t : Fin grid1.N, _)
theorem at1_6 : ∀ t : Fin cfg1.N, win1_6.index t = ![t.val / 8, 0] := (by decide +kernel : ∀ t : Fin grid1.N, _)

/-- Row `r` of the input's block at point `t` is row `t / 8 * 128 + r` of the input. -/
theorem blkX (c : Dev nD) (t : Fin cfg1.N) (r : Fin 128) (k : Fin 1024) (R : Fin 2048) (hR : R.val = t.val / 8 * 128 + r.val) :
    iblk1 V c 0 t (ix2 r k) = V c main_v1 (ix2 R k) := by
  refine congrArg (V c main_v1) (funext fun a => Fin.ext ?_)
  match a with
  | ⟨0, _⟩ => blk_simp [at1_0 t]; exact hR.symm
  | ⟨1, _⟩ => blk_simp [at1_0 t]

/-- Row `r` of the context's block at point `t` is row `t / 8 * 128 + r` of the context. -/
theorem blkC (c : Dev nD) (t : Fin cfg1.N) (r : Fin 128) (k : Fin 1024) (R : Fin 2048) (hR : R.val = t.val / 8 * 128 + r.val) :
    iblk1 V c 1 t (ix2 r k) = V c main_v2 (ix2 R k) := by
  refine congrArg (V c main_v2) (funext fun a => Fin.ext ?_)
  match a with
  | ⟨0, _⟩ => blk_simp [at1_1 t]; exact hR.symm
  | ⟨1, _⟩ => blk_simp [at1_1 t]

/-- The block of the preference weights at every point is the weights. -/
theorem blkW (c : Dev nD) (t : Fin cfg1.N) (p : Fin 2) (k : Fin 2048) : iblk1 V c 2 t (ix2 p k) = V c main_arg4 (ix2 p k) := by
  refine congrArg (V c main_arg4) (funext fun a => Fin.ext ?_)
  match a with
  | ⟨0, _⟩ => blk_simp [at1_2 t]
  | ⟨1, _⟩ => blk_simp [at1_2 t]

/-- The block of the preference bias at every point is the bias. -/
theorem blkBias (c : Dev nD) (t : Fin cfg1.N) (p : Fin 2) :
    iblk1 V c 3 t (ix2 (0 : Fin 1) p) = V c main_v3 (ix2 (0 : Fin 1) p) := by
  refine congrArg (V c main_v3) (funext fun a => Fin.ext ?_)
  match a with
  | ⟨0, _⟩ => blk_simp [at1_3 t]
  | ⟨1, _⟩ => blk_simp [at1_3 t]

/-- Row `l` of the features' block at point `t` is row `t % 8 * 2048 + l` of the features. -/
theorem blkF (c : Dev nD) (t : Fin cfg1.N) (l : Fin 2048) (k : Fin 1024) (n : Fin 16384) (hn : n.val = t.val % 8 * 2048 + l.val) :
    iblk1 V c 4 t (ix2 l k) = V c main_v0 (ix2 n k) := by
  refine congrArg (V c main_v0) (funext fun a => Fin.ext ?_)
  match a with
  | ⟨0, _⟩ => blk_simp [at1_4 t]; exact hn.symm
  | ⟨1, _⟩ => blk_simp [at1_4 t]

/-- The scores of a token against every neuron, from the arrays the second region reads. -/
def scoreOf (x c : S2048x1024.Idx → EReal) (w : S2x2048.Idx → EReal) (b : S1x2.Idx → EReal) (f : S16384x1024.Idx → EReal)
    (R : Fin 2048) (n : Fin 16384) : EReal :=
  score (fun k => x (ix2 R k)) (fun k => c (ix2 R k)) (fun p k => w (ix2 p k)) (fun p => b (ix2 (0 : Fin 1) p)) fun k => f (ix2 n k)

/-- What a block of the scores holds, from what the blocks of its operands hold. -/
theorem scoreBlk (x c : S2048x1024.Idx → EReal) (w : S2x2048.Idx → EReal) (b : S1x2.Idx → EReal) (f : S16384x1024.Idx → EReal)
    (X C : S128x1024.Idx → EReal) (W : S2x2048.Idx → EReal) (B : S1x2.Idx → EReal) (G : S2048x1024.Idx → EReal)
    (r : Fin 128) (l : Fin 2048) (R : Fin 2048) (n : Fin 16384) (hX : ∀ k : Fin 1024, X (ix2 r k) = x (ix2 R k))
    (hC : ∀ k : Fin 1024, C (ix2 r k) = c (ix2 R k)) (hW : ∀ (p : Fin 2) (k : Fin 2048), W (ix2 p k) = w (ix2 p k))
    (hB : ∀ p : Fin 2, B (ix2 (0 : Fin 1) p) = b (ix2 (0 : Fin 1) p)) (hG : ∀ k : Fin 1024, G (ix2 l k) = f (ix2 n k)) :
    k1_pay81 (F := Ideal) X C W B G (ix3 (0 : Fin 1) r l) = scoreOf x c w b f R n := by
  refine (score_apply X C W B G r l).trans ?_
  unfold scoreOf
  rw [funext hX, funext hC, funext fun p => funext (hW p), funext hB, funext hG]

theorem pt1 (t : Fin cfg1.N) : t.val < 128 := Nat.lt_of_lt_of_eq t.isLt N_1

/-- A row of the scores gathered by the end of a token block is a token's scores against every neuron. -/
theorem row_full (c : Dev nD) (t : Fin cfg1.N) (r : Fin 128) (R : Fin 2048) (hR : R.val = t.val / 8 * 128 + r.val) :
    row (full V c t) r = scoreOf (V c main_v1) (V c main_v2) (V c main_arg4) (V c main_v3) (V c main_v0) R := by
  funext n
  have hq : n.val / 2048 < 8 := by omega
  have hs : (slicePoint t ⟨n.val / 2048, hq⟩).val = t.val / 8 * 8 + n.val / 2048 := rfl
  have e : row (full V c t) r n = scoreAt V c (slicePoint t ⟨n.val / 2048, hq⟩)
      (ix3 (0 : Fin 1) r (⟨n.val % 2048, by omega⟩ : Fin 2048)) := by
    unfold row full pos
    refine congrArg (scoreAt V c (slicePoint t ⟨n.val / 2048, hq⟩)) (funext fun a => ?_)
    match a with
    | ⟨0, _⟩ => rfl
    | ⟨1, _⟩ => rfl
    | ⟨2, _⟩ => rfl
  rw [e]
  unfold scoreAt
  exact scoreBlk _ _ _ _ _ _ _ _ _ _ r _ R n (fun k => blkX V c _ r k R (by rw [hs]; omega))
    (fun k => blkC V c _ r k R (by rw [hs]; omega)) (fun p k => blkW V c _ p k) (fun p => blkBias V c _ p)
    (fun k => blkF V c _ _ k n (by rw [hs]; show n.val = (t.val / 8 * 8 + n.val / 2048) % 8 * 2048 + n.val % 2048; omega))

/-! ## The positions and the weights -/

/-- The positions of each token's sixteen greatest scores. -/
def placeArr (s : Fin 2048 → Fin 16384 → EReal) (i : S2048x16.Idx) : BitVec 32 :=
  BitVec.ofNat 32 (ranked (s (i 0 : Fin 2048)) (i 1 : Fin 16)).val

/-- The weights of each token's sixteen greatest scores. -/
def weightArr (s : Fin 2048 → Fin 16384 → EReal) (i : S2048x16.Idx) : EReal :=
  weight (fun j => s (i 0 : Fin 2048) (ranked (s (i 0 : Fin 2048)) j)) (i 1 : Fin 16)

/-- The scores of every token, from the contents of the arrays at the second region's entry. -/
abbrev scoresAt (c : Dev nD) : Fin 2048 → Fin 16384 → EReal :=
  scoreOf (V c main_v1) (V c main_v2) (V c main_arg4) (V c main_v3) (V c main_v0)

/-- After the second region its first result array holds the positions. -/
theorem arr_places (c : Dev nD) (hs : ∀ R n, scoresAt V c R n ≠ ⊥) : (dat1 V c).arrAt 5 cfg1.N = placeArr (scoresAt V c) := by
  refine (dat1 V c).arrAt_eq_of_covers 5 _ (by decide +kernel) fun t hf y => ?_
  blk_simp
  rw [after1_5]
  obtain ⟨r, d, rfl⟩ := pairIdx y
  have ht := pt1 t
  have e := pairEq (((View.whole main_v4_0).slice (win1_5.rect t)).emb (ix2 r d)) (⟨t.val / 8 * 128 + r.val, by omega⟩ : Fin 2048) d
    (by blk_simp [at1_5 t]) (by blk_simp [at1_5 t])
  have hr := row_full V c t r ⟨t.val / 8 * 128 + r.val, by omega⟩ rfl
  refine Eq.trans ?_ (congrArg (placeArr (scoresAt V c)) e.symm)
  refine (pickedIdx_apply (full V c t) r (fun n => by rw [hr]; exact hs _ n) d).trans ?_
  rw [hr]
  rfl

/-- After the second region its second result array holds the weights. -/
theorem arr_weights (c : Dev nD) (hs : ∀ R n, scoresAt V c R n ≠ ⊥) : (dat1 V c).arrAt 6 cfg1.N = weightArr (scoresAt V c) := by
  refine (dat1 V c).arrAt_eq_of_covers 6 _ (by decide +kernel) fun t hf y => ?_
  blk_simp
  rw [after1_6]
  obtain ⟨r, d, rfl⟩ := pairIdx y
  have ht := pt1 t
  have e := pairEq (((View.whole main_v4_1).slice (win1_6.rect t)).emb (ix2 r d)) (⟨t.val / 8 * 128 + r.val, by omega⟩ : Fin 2048) d
    (by blk_simp [at1_6 t]) (by blk_simp [at1_6 t])
  have hr := row_full V c t r ⟨t.val / 8 * 128 + r.val, by omega⟩ rfl
  refine Eq.trans ?_ (congrArg (weightArr (scoresAt V c)) e.symm)
  refine (pickedWts_apply (full V c t) r (fun n => by rw [hr]; exact hs _ n) d).trans ?_
  rw [hr]
  rfl

end Cert.Proof.Route

end
-- ==== Proof.RouterWholeI.lean ====
/-
  The routing as a whole: the positions and weights its program leaves, of its arguments, and that they are the reference's
  where the arguments are real numbers.
-/
module

public import proofs.«01_k».proof.Proof.RouterBlocksI
public import proofs.«01_k».proof.Proof.WholeI
public import proofs.«01_k».proof.Pre_finite_router
public import proofs.«01_k».proof.Proof.Gen.Pre_finite_router

@[expose] public section

set_option maxRecDepth 16384

noncomputable section

namespace Cert.Proof.Route

open Cert.RouterIdeal Cert.RouterIdeal.Gen Cert.RouterIdeal.Route

open Idealize.ShloMosaic hiding ix1 ix2 ix3 ix4
open Idealize.ShloMosaic.TcCoe
open Idealize.ShloMosaic.ValueIdx
open Cert.Proof.Softmax

/-! ## The results, of the arguments -/

/-- The positions of the sixteen greatest scores of every token. -/
def placesOf (x c : S1x2048x1024.Idx → EReal) (A : S16384x32.Idx → EReal) (B : S32x1024.Idx → EReal) (w : S2x2048.Idx → EReal)
    (b : S2.Idx → EReal) (i : S1x2048x16.Idx) : BitVec 32 :=
  BitVec.ofNat 32 (ranked (scoreRow x c A B w b (i 1 : Fin 2048)) (i 2 : Fin 16)).val

/-- The weights of the sixteen greatest scores of every token. -/
def weightsOf (x c : S1x2048x1024.Idx → EReal) (A : S16384x32.Idx → EReal) (B : S32x1024.Idx → EReal) (w : S2x2048.Idx → EReal)
    (b : S2.Idx → EReal) (i : S1x2048x16.Idx) : EReal :=
  weight (bestRow x c A B w b (i 1 : Fin 2048)) (i 2 : Fin 16)

/-! ## Real scores -/

section
variable (x c : S1x2048x1024.Idx → EReal) (A : S16384x32.Idx → EReal) (B : S32x1024.Idx → EReal) (w : S2x2048.Idx → EReal)
  (b : S2.Idx → EReal)

/-- Every argument is an array of real numbers. -/
structure Reals : Prop where
  x : ∀ i, IsReal (x i)
  c : ∀ i, IsReal (c i)
  A : ∀ i, IsReal (A i)
  B : ∀ i, IsReal (B i)
  w : ∀ i, IsReal (w i)
  b : ∀ i, IsReal (b i)

variable {x c A B w b}

/-- The scores of real arguments are real, so none is the least extended real. -/
theorem Reals.score_ne (h : Reals x c A B w b) (R : Fin 2048) (n : Fin 16384) : scoreRow x c A B w b R n ≠ ⊥ := by
  have hr : IsReal (scoreRow x c A B w b R n) :=
    isReal_score _ _ _ _ _ (fun _ => h.x _) (fun _ => h.c _) (fun _ _ => h.w _) (fun _ => h.b _)
      fun _ => isReal_inner _ _ (fun _ => h.A _) fun _ => h.B _
  obtain ⟨r, e⟩ := hr
  rw [e]
  exact EReal.coe_ne_bot r

/-- The first of a row's ranked entries is the greatest. -/
theorem ranked_greatest (f : Fin 16384 → EReal) (hf : ∀ n, f n ≠ ⊥) (q : Fin 16384) : f q ≤ f (ranked f 0) := by
  have e : row (fun y => f (number (y 0 : Fin 8) (y 2 : Fin 2048))) 0 = f := by
    funext n
    exact congrArg f (Fin.ext (by show n.val / 2048 * 2048 + n.val % 2048 = n.val; omega))
  have key := ranked_zero (fun y => f (number (y 0 : Fin 8) (y 2 : Fin 2048))) 0 (by rw [e]; exact hf) q
  rw [e] at key
  exact key

/-! ## The reference -/

/-- An index of a result is a token and a rank. -/
theorem tokenIdx (i : S1x2048x16.Idx) : ∃ (R : Fin 2048) (j : Fin 16), i = ix3 (0 : Fin 1) R j := by
  refine ⟨i 1, i 2, funext fun a => ?_⟩
  match a with
  | ⟨0, _⟩ => exact Fin.ext (by have : (i 0).val < 1 := (i 0).isLt; show (i 0).val = 0; omega)
  | ⟨1, _⟩ => rfl
  | ⟨2, _⟩ => rfl

/-- The reference's positions. -/
theorem reference_places : Cert.RouterReferenceIdeal.Read.val_main_indices (F := Ideal) x c A B w b = placesOf x c A B w b := by
  funext i
  obtain ⟨R, j, rfl⟩ := tokenIdx i
  exact ref_indices x c A B w b R j

/-- The reference's weights. -/
theorem reference_weights (h : Reals x c A B w b) :
    Cert.RouterReferenceIdeal.Read.val_main_v39 (F := Ideal) x c A B w b = weightsOf x c A B w b := by
  funext i
  obtain ⟨R, j, rfl⟩ := tokenIdx i
  exact ref_weights x c A B w b R (fun j => ranked_greatest _ (h.score_ne R) _) j

end

/-! ## The host operations -/

/-- An array of tokens with its first axis dropped, at an index. -/
theorem rows_apply (x : S1x2048x1024.Idx → EReal) (h : S1x2048x1024.ShapeCasts S2048x1024) (r : Fin 2048) (k : Fin 1024) :
    shapeCast S2048x1024 x h (ix2 r k) = x (ix3 (0 : Fin 1) r k) :=
  shapeCast_apply x h (ix2 r k) (ix3 (0 : Fin 1) r k) (by
    rw [Shape.rowMajor_val_two, Shape.rowMajor_val_three]; simp)

/-- The bias as a row, at an index. -/
theorem biasRow_apply (b : S2.Idx → EReal) (g : S2.ShapeCasts S1x2) (p : Fin 2) :
    shapeCast S1x2 b g (ix2 (0 : Fin 1) p) = b (ix1 p) :=
  shapeCast_apply b g (ix2 (0 : Fin 1) p) (ix1 p) (by
    rw [Shape.rowMajor_val_two, Shape.rowMajor_val_one]; simp)

/-- A result with an axis of one put first, at an index. -/
theorem result_apply {α : Type} (a : S2048x16.Idx → α) (h : S2048x16.ShapeCasts S1x2048x16) (R : Fin 2048) (j : Fin 16) :
    shapeCast S1x2048x16 a h (ix3 (0 : Fin 1) R j) = a (ix2 R j) :=
  shapeCast_apply a h (ix3 (0 : Fin 1) R j) (ix2 R j) (by
    rw [Shape.rowMajor_val_two, Shape.rowMajor_val_three]; simp)

variable (m : (ℓ : Loc nD τ sig) → Buf (Elt Ideal) ℓ) (ρ : Dev nD → PrngReg)

/-- The tokens, the context and the bias as the second region finds them. -/
theorem entry_v1 (c : Dev nD) : V2 m ρ c main_v1
    = shapeCast S2048x1024 (m ((c : Thread nD τ).loc main_arg0)) shapeCasts_S1x2048x1024_S2048x1024 := by
  rw [← W1_args m ρ c main_arg0 (by decide)]
  show StableHlo.after hostOps1 (W1 m ρ c) (Proc.devRef .tc main_v1) = _
  after_results_simp
  rfl
theorem entry_v2 (c : Dev nD) : V2 m ρ c main_v2
    = shapeCast S2048x1024 (m ((c : Thread nD τ).loc main_arg1)) shapeCasts_S1x2048x1024_S2048x1024 := by
  rw [← W1_args m ρ c main_arg1 (by decide)]
  show StableHlo.after hostOps1 (W1 m ρ c) (Proc.devRef .tc main_v2) = _
  after_results_simp
  rfl
theorem entry_v3 (c : Dev nD) : V2 m ρ c main_v3
    = shapeCast S1x2 (m ((c : Thread nD τ).loc main_arg5)) shapeCasts_S2_S1x2 := by
  rw [← W1_args m ρ c main_arg5 (by decide)]
  show StableHlo.after hostOps1 (W1 m ρ c) (Proc.devRef .tc main_v3) = _
  after_results_simp
  rfl

/-- The features as the second region finds them. -/
theorem entry_v0 (c : Dev nD) : V2 m ρ c main_v0
    = featArr (m ((c : Thread nD τ).loc main_arg2)) (m ((c : Thread nD τ).loc main_arg3)) :=
  (W2_of m ρ c main_v0 (by decide)).trans ((W1_arr m ρ c 2).trans (arr_features (V0 m ρ) c))

/-- The scores of a token, of the arguments. -/
abbrev scoresOf (c : Dev nD) : Fin 2048 → Fin 16384 → EReal :=
  scoreRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The scores of the operands the second region finds are the scores of the arguments. -/
theorem scoreOf_cast (x y : S1x2048x1024.Idx → EReal) (A : S16384x32.Idx → EReal) (B : S32x1024.Idx → EReal) (w : S2x2048.Idx → EReal)
    (b : S2.Idx → EReal) (hx : S1x2048x1024.ShapeCasts S2048x1024) (hb : S2.ShapeCasts S1x2) :
    scoreOf (shapeCast S2048x1024 x hx) (shapeCast S2048x1024 y hx) w (shapeCast S1x2 b hb) (featArr A B) = scoreRow x y A B w b := by
  funext R n
  unfold scoreOf scoreRow
  rw [show (fun k : Fin 1024 => shapeCast S2048x1024 x hx (ix2 R k)) = fun k => x (ix3 (0 : Fin 1) R k) from
      funext fun k => rows_apply x hx R k,
    show (fun k : Fin 1024 => shapeCast S2048x1024 y hx (ix2 R k)) = fun k => y (ix3 (0 : Fin 1) R k) from
      funext fun k => rows_apply y hx R k,
    show (fun p : Fin 2 => shapeCast S1x2 b hb (ix2 (0 : Fin 1) p)) = fun p => b (ix1 p) from funext fun p => biasRow_apply b hb p]
  rfl

theorem scores_eq (c : Dev nD) : scoresAt (V2 m ρ) c = scoresOf m c := by
  unfold scoresAt
  rw [entry_v0, entry_v1, entry_v2, entry_v3,
    show V2 m ρ c main_arg4 = m ((c : Thread nD τ).loc main_arg4) from W2_args m ρ c main_arg4 (by decide)]
  exact scoreOf_cast _ _ _ _ _ _ _ _

/-- The arguments on a device are arrays of real numbers. -/
abbrev RealArgs (c : Dev nD) : Prop :=
  Reals (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The positions the program leaves, of the arguments on a device. -/
abbrev placesAt (c : Dev nD) : S1x2048x16.Idx → BitVec 32 :=
  placesOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The weights the program leaves, of the arguments on a device. -/
abbrev weightsAt (c : Dev nD) : S1x2048x16.Idx → EReal :=
  weightsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- At the end the first result array holds the positions. -/
theorem result_v5 (c : Dev nD) (h : RealArgs m c) : W4 m ρ c (Proc.devRef .tc main_v5) = placesAt m c := by
  have e : W4 m ρ c (Proc.devRef .tc main_v5)
      = shapeCast S1x2048x16 (W3 m ρ c (Proc.devRef .tc main_v4_0)) shapeCasts_S2048x16_S1x2048x16 := by
    show StableHlo.after hostOps2 (W3 m ρ c) (Proc.devRef .tc main_v5) = _
    after_results_simp
    rfl
  have a : W3 m ρ c (Proc.devRef .tc main_v4_0) = placeArr (scoresOf m c) := by
    refine (W3_arr m ρ c 5).trans ((arr_places (V2 m ρ) c (by rw [scores_eq]; exact h.score_ne)).trans ?_)
    rw [scores_eq]
  rw [e, a]
  funext i
  obtain ⟨R, j, rfl⟩ := tokenIdx i
  exact result_apply (placeArr (scoresOf m c)) _ R j

/-- At the end the second result array holds the weights. -/
theorem result_v6 (c : Dev nD) (h : RealArgs m c) : W4 m ρ c (Proc.devRef .tc main_v6) = weightsAt m c := by
  have e : W4 m ρ c (Proc.devRef .tc main_v6)
      = shapeCast S1x2048x16 (W3 m ρ c (Proc.devRef .tc main_v4_1)) shapeCasts_S2048x16_S1x2048x16 := by
    show StableHlo.after hostOps2 (W3 m ρ c) (Proc.devRef .tc main_v6) = _
    after_results_simp
    rfl
  have a : W3 m ρ c (Proc.devRef .tc main_v4_1) = weightArr (scoresOf m c) := by
    refine (W3_arr m ρ c 6).trans ((arr_weights (V2 m ρ) c (by rw [scores_eq]; exact h.score_ne)).trans ?_)
    rw [scores_eq]
  rw [e, a]
  funext i
  obtain ⟨R, j, rfl⟩ := tokenIdx i
  exact result_apply (weightArr (scoresOf m c)) _ R j

/-- From real arguments the program ends with the positions and the weights in its result arrays and its arguments as they
    were. -/
theorem run_router (h : ∀ c, RealArgs m c) :
    θ_run defs (onTc (τ := τ) (main (F := Ideal))) ⟨m, fun _ => 0, ρ⟩ (fun r => ∀ c : Dev nD,
      r.2.mem ((c.tc : Thread nD τ).loc main_v5) = placesAt m c
      ∧ r.2.mem ((c.tc : Thread nD τ).loc main_v6) = weightsAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ q c => ⟨(q.2.1 c).1.trans (result_v5 m ρ c (h c)), (q.2.1 c).2.trans (result_v6 m ρ c (h c)), q.1 c⟩)
    (frame_out m ρ)

/-! ## The precondition -/

/-- Where the precondition's array is all ones, every argument is an array of real numbers. -/
theorem reals_of_finite (x c : S1x2048x1024.Idx → EReal) (A : S16384x32.Idx → EReal) (B : S32x1024.Idx → EReal)
    (w : S2x2048.Idx → EReal) (b : S2.Idx → EReal)
    (h : Cert.Pre_finite_router.fn (F := Ideal) x c A B w b = fun _ => 1#1) : Reals x c A B w b := by
  haveI : Subsingleton Cert.Pre_finite_router.S_.Idx := ⟨fun a b => funext fun d => d.elim0⟩
  have both : ∀ p q : BitVec 1, IntOp.andi p q = 1#1 → p = 1#1 ∧ q = 1#1 := by decide
  have e := congrFun h (fun d => d.elim0)
  unfold Cert.Pre_finite_router.fn Cert.Pre_finite_router.fn_part1 at e
  obtain ⟨e, e5⟩ := both _ _ e
  obtain ⟨e, e4⟩ := both _ _ e
  obtain ⟨e, e3⟩ := both _ _ e
  obtain ⟨e, e2⟩ := both _ _ e
  obtain ⟨e0, e1⟩ := both _ _ e
  exact ⟨fun i => Context.isReal_of_cmp _ (Host.reduce_andi_all _ _ _ _ _ e0 i),
    fun i => Context.isReal_of_cmp _ (Host.reduce_andi_all _ _ _ _ _ e1 i),
    fun i => Context.isReal_of_cmp _ (Host.reduce_andi_all _ _ _ _ _ e2 i),
    fun i => Context.isReal_of_cmp _ (Host.reduce_andi_all _ _ _ _ _ e3 i),
    fun i => Context.isReal_of_cmp _ (Host.reduce_andi_all _ _ _ _ _ e4 i),
    fun i => Context.isReal_of_cmp _ (Host.reduce_andi_all _ _ _ _ _ e5 i)⟩

end Cert.Proof.Route

end
-- ==== Proof.lean ====
/-
  The proof of `Cert.Claim` (proofs.«01_k».proof.Defs). The launch of each kernel program is `run_main` of
  Proof/Main.lean and Proof/MainI.lean; the equation of the two values is `reference_eq` of Proof/ValueI.lean. The first
  part of the program is run by `run_context` of Proof/ContextI.lean, and its value compared with its reference's by
  `context_eq` of Proof/WholeI.lean. The routing is run by `frame` of Proof/RouterRun.lean and `run_router` of
  Proof/RouterWholeI.lean, which also compares its values with its reference's. Here the first precondition is read as a bound on the index list, and the claims
  are put together.
-/
module

public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.RouterReferenceIdeal.Run
public import proofs.«01_k».proof.Proof.Gen.RouterReferenceIdeal
public import proofs.«01_k».proof.Proof.Gen.RouterReferenceIdeal.Read
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.Pre_finite_router
public import proofs.«01_k».proof.Defs
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_idx_in_rows
public import proofs.«01_k».proof.Proof.Main
public import proofs.«01_k».proof.Proof.MainI
public import proofs.«01_k».proof.Proof.ValueI
public import proofs.«01_k».proof.Proof.ContextI
public import proofs.«01_k».proof.Proof.WholeI
public import proofs.«01_k».proof.Proof.RouterRun
public import proofs.«01_k».proof.Proof.RouterRunI
public import proofs.«01_k».proof.Proof.RouterWholeI
public import proofs.«01_k».proof.Proof.Gen.Pre_finite_inputs
public import proofs.«01_k».proof.Proof.Gen.Context
public import proofs.«01_k».proof.Proof.Gen.Context.Frame
public import proofs.«01_k».proof.Proof.Gen.ContextIdeal
public import proofs.«01_k».proof.Proof.Gen.ContextIdeal.Frame
public import proofs.«01_k».proof.Proof.Gen.ContextReferenceIdeal
public import proofs.«01_k».proof.Proof.Gen.ContextReferenceIdeal.Run
public import proofs.«01_k».proof.Proof.Gen.ContextReferenceIdeal.Read
public import Idealize.ShloMosaic.Adequacy
public import Idealize.ShloMosaic.Init

@[expose] public section

noncomputable section

namespace Cert.Proof

open Idealize.ShloMosaic Idealize.ShloMosaic.TcCoe Idealize.SL.Sem

/-- A word that the two signed comparisons with 0 and 16384 both pass is below 16384 as a natural number. -/
theorem word_lt (w : BitVec 32) (h : IntOp.andi (IntOp.cmpi .sge w 0#32) (IntOp.cmpi .slt w 16384#32) = 1#1) :
    w.toNat < 16384 := by
  have both : ∀ p q : Bool, IntOp.andi (BitVec.ofBool p) (BitVec.ofBool q) = 1#1 → p = true ∧ q = true := by
    intro p q; cases p <;> cases q <;> decide
  obtain ⟨h1, h2⟩ := both _ _ h
  change BitVec.sle 0#32 w = true at h1
  change BitVec.slt w 16384#32 = true at h2
  rw [BitVec.sle_eq_decide, decide_eq_true_eq, BitVec.toInt_eq_toNat_cond, BitVec.toInt_eq_toNat_cond] at h1
  rw [BitVec.slt_eq_decide, decide_eq_true_eq, BitVec.toInt_eq_toNat_cond, BitVec.toInt_eq_toNat_cond] at h2
  simp only [BitVec.toNat_ofNat, Nat.reducePow, Nat.reduceMod] at h1 h2
  omega

/-- Where the precondition's array is all ones, every word of the index list is below 16384. -/
theorem list_lt {F : FTy → Type} [FloatOps F] (a : Cert.KernelIdeal.S16384x32.Idx → Elt F .f32)
    (b : Cert.KernelIdeal.S32x1024.Idx → Elt F .f32) (t : Cert.KernelIdeal.S2048x16.Idx → BitVec 32)
    (h : Cert.Pre_idx_in_rows.fn (F := F) a b t = fun _ => 1#1) (j : Cert.KernelIdeal.S2048x16.Idx) : (t j).toNat < 16384 := by
  have e := congrFun h j
  simp only [Cert.Pre_idx_in_rows.fn, andi, cmpi, broadcastInDim, constantI] at e
  exact word_lt _ e

/-- The precondition of the kernel program bounds its index list. -/
theorem inRows_kernel (m : (ℓ : Loc Cert.Kernel.nD Cert.Kernel.τ Cert.Kernel.sig) → Buf (Elt Bits) ℓ) (h : Cert.Pre_Kernel m) :
    Cert.Proof.Kernel.ArgInRows m := fun d j => list_lt _ _ _ (h d) j

/-- The precondition of the idealized kernel program bounds its index list. -/
theorem inRows_ideal (m : (ℓ : Loc Cert.KernelIdeal.nD Cert.KernelIdeal.τ Cert.KernelIdeal.sig) → Buf (Elt Ideal) ℓ)
    (h : Cert.Pre_KernelIdeal m) : Cert.Proof.KernelIdeal.ArgInRows m := fun d j => list_lt _ _ _ (h d) j

instance (e : EltTy) : Nonempty (Elt Bits e) := by cases e <;> exact ⟨0⟩
instance (e : EltTy) : Nonempty (Elt Ideal e) := by cases e <;> exact ⟨0⟩

/-- The kernel program runs, leaves its arguments as they were and every semaphore counter at zero. -/
theorem frame_kernel : Cert.quiescent_Kernel := fun m g hpre =>
  (θ_run Cert.Kernel.defs _ _).mono (fun _ h => ⟨fun c => (h.1 c).2, h.2⟩)
    (Cert.Proof.Kernel.run_main (F := Bits) m g (inRows_kernel m hpre))

/-- The idealized kernel program runs, leaves its arguments as they were and every semaphore counter at zero. -/
theorem frame_ideal : Cert.quiescent_KernelIdeal := fun m g hpre =>
  (θ_run Cert.KernelIdeal.defs _ _).mono (fun _ h => ⟨fun c => (h.1 c).2, h.2⟩)
    (Cert.Proof.KernelIdeal.run_main (F := Ideal) m g (inRows_ideal m hpre))

/-- The reference runs, leaves its arguments as they were and every semaphore counter at zero: it has no semaphore. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m g)

/-- From memories that agree on the arguments, the idealized kernel program and the reference end with equal results,
    as extended reals, and with their arguments as they were. -/
theorem values_agree : Cert.algebraic_KernelIdeal_ReferenceIdeal := by
  intro m g m' g' hpre hagree
  have hr := inRows_ideal m hpre
  refine ⟨fun c => Cert.Proof.KernelIdeal.final (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => h.1 c) (Cert.Proof.KernelIdeal.run_main (F := Ideal) m g hr),
    (θ_run Cert.ReferenceIdeal.defs _ _).mono (fun _ h c => ⟨(h c).1.trans ?_, (h c).2⟩)
      (Cert.ReferenceIdeal.Value.run (F := Ideal) m' g')⟩
  obtain ⟨e0, e1, e2⟩ := hagree c
  rw [Cert.ReferenceIdeal.Read.val_main_v8_eq, e0, e1, e2]
  exact Cert.Proof.KernelIdeal.reference_eq _ _ _ (hr c)

/-- The reference of the first part runs, leaves its arguments as they were and every semaphore counter at zero: it has no
    semaphore. -/
theorem run_context_reference (m : (ℓ : Loc Cert.ContextReferenceIdeal.nD Cert.ContextReferenceIdeal.τ Cert.ContextReferenceIdeal.sig) → Buf (Elt Ideal) ℓ) (g : Dev Cert.ContextReferenceIdeal.nD → PrngReg) :
    θ_run (Cert.ContextReferenceIdeal.defs (F := Ideal)) (onTc (τ := Cert.ContextReferenceIdeal.τ) (Cert.ContextReferenceIdeal.main (F := Ideal)))
      ⟨m, fun _ => 0, g⟩ (fun r => (∀ c : Dev Cert.ContextReferenceIdeal.nD,
        r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
        ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
        ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
        ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3)
        ∧ r.2.mem ((c.tc : Thread Cert.ContextReferenceIdeal.nD Cert.ContextReferenceIdeal.τ).loc Cert.ContextReferenceIdeal.main_arg4) = m ((c.tc : Thread Cert.ContextReferenceIdeal.nD Cert.ContextReferenceIdeal.τ).loc Cert.ContextReferenceIdeal.main_arg4)
        ∧ r.2.mem ((c.tc : Thread Cert.ContextReferenceIdeal.nD Cert.ContextReferenceIdeal.τ).loc Cert.ContextReferenceIdeal.main_arg5) = m ((c.tc : Thread Cert.ContextReferenceIdeal.nD Cert.ContextReferenceIdeal.τ).loc Cert.ContextReferenceIdeal.main_arg5)
        ∧ r.2.mem ((c.tc : Thread Cert.ContextReferenceIdeal.nD Cert.ContextReferenceIdeal.τ).loc Cert.ContextReferenceIdeal.main_arg6) = m ((c.tc : Thread Cert.ContextReferenceIdeal.nD Cert.ContextReferenceIdeal.τ).loc Cert.ContextReferenceIdeal.main_arg6))
        ∧ r.2.sem = fun _ => 0) :=
  (θ_run Cert.ContextReferenceIdeal.defs _ _).mono
    (fun r h => ⟨fun c => (h c).2, sem_eq_zero_of_no_sems (by decide) r.2⟩) (Cert.ContextReferenceIdeal.Value.run (F := Ideal) m g)

/-- From memories that agree on the arguments, where the input and the weights and biases of the queries and keys are
    finite, the first part of the program and its reference end with equal results, as extended reals, and with their
    arguments as they were. -/
theorem contexts_agree : Cert.algebraic_ContextIdeal_ContextReferenceIdeal_pre_finite_inputs := by
  intro m g m' g' hpre hagree
  refine ⟨fun c => Cert.Proof.Context.contextOf m c, Cert.Proof.Context.run_context m g,
    (θ_run Cert.ContextReferenceIdeal.defs _ _).mono (fun _ h c => ⟨(h c).1.trans ?_, (h c).2⟩) (Cert.ContextReferenceIdeal.Value.run (F := Ideal) m' g')⟩
  obtain ⟨e0, e1, e2, e3, e4, e5, e6⟩ := hagree c
  obtain ⟨hx, hwq, hbq, hwk, hbk⟩ := Cert.Proof.Context.reals_of_finite _ _ _ _ _ _ _ (hpre c)
  rw [Cert.ContextReferenceIdeal.Read.val_main_v44_eq, e0, e1, e2, e3, e4, e5, e6]
  exact Cert.Proof.Context.context_eq _ _ _ _ _ _ _ hx hwq hbq hwk hbk

/-- The reference of the routing runs, leaves its arguments as they were and every semaphore counter at zero: it has no
    semaphore. -/
theorem run_router_reference (m : (ℓ : Loc Cert.RouterReferenceIdeal.nD Cert.RouterReferenceIdeal.τ Cert.RouterReferenceIdeal.sig) → Buf (Elt Ideal) ℓ) (g : Dev Cert.RouterReferenceIdeal.nD → PrngReg) :
    θ_run (Cert.RouterReferenceIdeal.defs (F := Ideal)) (onTc (τ := Cert.RouterReferenceIdeal.τ) (Cert.RouterReferenceIdeal.main (F := Ideal)))
      ⟨m, fun _ => 0, g⟩ (fun r => (∀ c : Dev Cert.RouterReferenceIdeal.nD,
        r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
        ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
        ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
        ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
        ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
        ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5))
        ∧ r.2.sem = fun _ => 0) :=
  (θ_run Cert.RouterReferenceIdeal.defs _ _).mono
    (fun r h => ⟨fun c => (h c).2.2, sem_eq_zero_of_no_sems (by decide) r.2⟩) (Cert.RouterReferenceIdeal.Value.run (F := Ideal) m g)

/-- From memories that agree on the arguments, where every argument is finite, the routing and its reference end with equal
    positions and equal weights, the weights as extended reals, and with their arguments as they were. -/
theorem routers_agree : Cert.algebraic_RouterIdeal_RouterReferenceIdeal_pre_finite_router := by
  intro m g m' g' hpre hagree
  have hr : ∀ c, Cert.Proof.Route.RealArgs m c := fun c => Cert.Proof.Route.reals_of_finite _ _ _ _ _ _ (hpre c)
  refine ⟨fun c => Cert.Proof.Route.placesAt m c, fun c => Cert.Proof.Route.weightsAt m c, Cert.Proof.Route.run_router m g hr,
    (θ_run Cert.RouterReferenceIdeal.defs _ _).mono (fun _ h c => ⟨(h c).1.trans ?_, (h c).2.1.trans ?_, (h c).2.2⟩)
      (Cert.RouterReferenceIdeal.Value.run (F := Ideal) m' g')⟩
  · obtain ⟨e0, e1, e2, e3, e4, e5⟩ := hagree c
    rw [Cert.RouterReferenceIdeal.Read.val_main_indices_eq, e0, e1, e2, e3, e4, e5]
    exact Cert.Proof.Route.reference_places
  · obtain ⟨e0, e1, e2, e3, e4, e5⟩ := hagree c
    rw [Cert.RouterReferenceIdeal.Read.val_main_v39_eq, e0, e1, e2, e3, e4, e5]
    exact Cert.Proof.Route.reference_weights (hr c)

/-- The certificate's claim: the frames, that each program and its idealized one are one program, and the equal values. -/
theorem claim : Cert.Claim := ⟨Cert.Kernel.Gen.facts, Cert.KernelIdeal.Gen.facts, Cert.ReferenceIdeal.Gen.facts,
  Cert.Context.Gen.facts, Cert.ContextIdeal.Gen.facts, Cert.ContextReferenceIdeal.Gen.facts,
  Cert.Router.Gen.facts, Cert.RouterIdeal.Gen.facts, Cert.RouterReferenceIdeal.Gen.facts,
  Cert.Pre_idx_in_rows.Gen.facts, Cert.Pre_finite_inputs.Gen.facts, Cert.Pre_finite_router.Gen.facts,
  frame_kernel, frame_ideal, fun m g _ => run_reference m g, fun m g _ => run_reference m g,
  fun m g _ => Cert.Context.Gen.frame m g, fun m g _ => Cert.ContextIdeal.Gen.frame m g, fun m g _ => Cert.ContextIdeal.Gen.frame m g,
  fun m g _ => run_context_reference m g, fun m g _ => run_context_reference m g,
  fun m g _ => Cert.Router.Route.frame m g, fun m g _ => Cert.RouterIdeal.Route.frame m g,
  fun m g _ => Cert.RouterIdeal.Route.frame m g, fun m g _ => run_router_reference m g, fun m g _ => run_router_reference m g,
  trivial, values_agree, trivial, contexts_agree,
  IdealRules.named_const.statement Cert.RouterIdeal.κ "neg" .f32 0xFF61B1E6#32 ⊥ rfl, routers_agree⟩

end Cert.Proof

end
